-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_unit_denominators [hPre_finite_scores_unit_denominators : Cert.Pre_finite_scores_unit_denominators.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_unit_denominators.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_unit_denominators [hPre_finite_scores_unit_denominators : Cert.Pre_finite_scores_unit_denominators.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_unit_denominators.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_experts_and_blocks_in_range : Cert.Pre_experts_and_blocks_in_range.Facts] (m : (ℓ : Loc Cert.Kernel2.nD Cert.Kernel2.τ Cert.Kernel2.sig) → Buf (Elt Bits) ℓ) : Prop :=
  ∀ c : Dev Cert.Kernel2.nD,
    (Cert.Pre_experts_and_blocks_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_and_blocks_in_range : Cert.Pre_experts_and_blocks_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_and_blocks_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_and_blocks_in_range [hPre_experts_and_blocks_in_range : Cert.Pre_experts_and_blocks_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_and_blocks_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores_unit_denominators [hKernelIdeal : Cert.KernelIdeal.Facts] [hPre_finite_scores_unit_denominators : Cert.Pre_finite_scores_unit_denominators.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_unit_denominators m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores_unit_denominators [hReferenceIdeal : Cert.ReferenceIdeal.Facts] [hPre_finite_scores_unit_denominators : Cert.Pre_finite_scores_unit_denominators.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_unit_denominators m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_experts_and_blocks_in_range : Cert.Pre_experts_and_blocks_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_and_blocks_in_range : Cert.Pre_experts_and_blocks_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_and_blocks_in_range [hReference2Ideal : Cert.Reference2Ideal.Facts] [hPre_experts_and_blocks_in_range : Cert.Pre_experts_and_blocks_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_and_blocks_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_finite_scores_unit_denominators [hKernelIdeal : Cert.KernelIdeal.Facts] [hReferenceIdeal : Cert.ReferenceIdeal.Facts] [hPre_finite_scores_unit_denominators : Cert.Pre_finite_scores_unit_denominators.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_unit_denominators m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_experts_and_blocks_in_range : Cert.Pre_experts_and_blocks_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_v85) = v1 c
          ∧ r.2.mem ((c.tc : Thread Cert.Reference3Ideal.nD Cert.Reference3Ideal.τ).loc Cert.Reference3Ideal.main_v86) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores_unit_denominators : Cert.Pre_finite_scores_unit_denominators.Facts) (hPre_experts_and_blocks_in_range : Cert.Pre_experts_and_blocks_in_range.Facts),
    quiescent_Kernel (hKernel := hKernel)
    ∧ quiescent_KernelIdeal (hKernelIdeal := hKernelIdeal)
    ∧ quiescent_KernelIdeal_pre_finite_scores_unit_denominators (hKernelIdeal := hKernelIdeal) (hPre_finite_scores_unit_denominators := hPre_finite_scores_unit_denominators)
    ∧ quiescent_ReferenceIdeal (hReferenceIdeal := hReferenceIdeal)
    ∧ quiescent_ReferenceIdeal_pre_finite_scores_unit_denominators (hReferenceIdeal := hReferenceIdeal) (hPre_finite_scores_unit_denominators := hPre_finite_scores_unit_denominators)
    ∧ quiescent_Kernel2 (hKernel2 := hKernel2) (hPre_experts_and_blocks_in_range := hPre_experts_and_blocks_in_range)
    ∧ quiescent_Kernel2Ideal (hKernel2Ideal := hKernel2Ideal) (hPre_experts_and_blocks_in_range := hPre_experts_and_blocks_in_range)
    ∧ quiescent_Reference2Ideal (hReference2Ideal := hReference2Ideal)
    ∧ quiescent_Reference2Ideal_pre_experts_and_blocks_in_range (hReference2Ideal := hReference2Ideal) (hPre_experts_and_blocks_in_range := hPre_experts_and_blocks_in_range)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores_unit_denominators (hKernelIdeal := hKernelIdeal) (hReferenceIdeal := hReferenceIdeal) (hPre_finite_scores_unit_denominators := hPre_finite_scores_unit_denominators)
    ∧ preserves_Kernel2_Kernel2Ideal
    ∧ algebraic_Kernel2Ideal_Reference2Ideal (hKernel2Ideal := hKernel2Ideal) (hReference2Ideal := hReference2Ideal) (hPre_experts_and_blocks_in_range := hPre_experts_and_blocks_in_range)
    ∧ preserves_Kernel3_Kernel3Ideal
    ∧ algebraic_Kernel3Ideal_Reference3Ideal (hKernel3Ideal := hKernel3Ideal) (hReference3Ideal := hReference3Ideal)
-- ==== Pre_experts_and_blocks_in_range.lean ====
abbrev S160 : Shape := ⟨1, ![160]⟩
abbrev S1 : Shape := ⟨1, ![1]⟩
abbrev S81920x8x128 : Shape := ⟨3, ![81920, 8, 128]⟩
abbrev S4x32x1024x512 : Shape := ⟨4, ![4, 32, 1024, 512]⟩
abbrev S4x32x512x1024 : Shape := ⟨4, ![4, 32, 512, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S160 32) (main_arg1 : IVec S1 32) (main_arg2 : FVec F S81920x8x128 .f32) (main_arg3 : FVec F S4x32x1024x512 .f32) (main_arg4 : FVec F S4x32x1024x512 .f32) (main_arg5 : FVec F S4x32x512x1024 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_finite_scores_unit_denominators.lean ====
abbrev S8x16x128x4096 : Shape := ⟨4, ![8, 16, 128, 4096]⟩
abbrev S8x16x4096x128 : Shape := ⟨4, ![8, 16, 4096, 128]⟩
abbrev S8x4096x1024 : Shape := ⟨3, ![8, 4096, 1024]⟩
abbrev S8x8x2x2x64x4096 : Shape := ⟨6, ![8, 8, 2, 2, 64, 4096]⟩
abbrev S_ : Shape := ⟨0, ![]⟩
abbrev S8x8x1x1x64x4096 : Shape := ⟨6, ![8, 8, 1, 1, 64, 4096]⟩
abbrev S8x8x64x4096 : Shape := ⟨4, ![8, 8, 64, 4096]⟩

class Facts : Prop where
  bitsLt_bf16_f32 : FTy.bits .bf16 < FTy.bits .f32
  shapeCasts_S8x16x128x4096_S8x8x2x2x64x4096 : S8x16x128x4096.ShapeCasts S8x8x2x2x64x4096
  bcast_S_S8x16x128x4096 : S_.BroadcastsInDim S8x16x128x4096 (![] : Fin 0 → Fin S8x16x128x4096.rank)
  reducesTo_S8x16x128x4096_S_d0_1_2_3 : S8x16x128x4096.ReducesTo [0, 1, 2, 3] S_
  h_S_ : 0 < S_.numel
  bcast_S_S8x16x4096x128 : S_.BroadcastsInDim S8x16x4096x128 (![] : Fin 0 → Fin S8x16x4096x128.rank)
  reducesTo_S8x16x4096x128_S_d0_1_2_3 : S8x16x4096x128.ReducesTo [0, 1, 2, 3] S_
  slices_S8x8x2x2x64x4096_S8x8x1x1x64x4096_0_0_0_1_0_0 : S8x8x2x2x64x4096.Slices ![0, 0, 0, 1, 0, 0] S8x8x1x1x64x4096
  shapeCasts_S8x8x1x1x64x4096_S8x8x64x4096 : S8x8x1x1x64x4096.ShapeCasts S8x8x64x4096
  bcast_S_S8x8x64x4096 : S_.BroadcastsInDim S8x8x64x4096 (![] : Fin 0 → Fin S8x8x64x4096.rank)
  reducesTo_S8x8x64x4096_S_d0_1_2_3 : S8x8x64x4096.ReducesTo [0, 1, 2, 3] S_
  slices_S8x8x2x2x64x4096_S8x8x1x1x64x4096_0_0_1_0_0_0 : S8x8x2x2x64x4096.Slices ![0, 0, 1, 0, 0, 0] S8x8x1x1x64x4096

variable [Facts]

def fn_part1 {F : FTy → Type} [FloatOps F] (main_v1 : FVec F S8x8x2x2x64x4096 .f32) (main_v12 : IVec S_ 1) (main_v17 : IVec S_ 1) : IVec S_ 1 :=
  let main_v18 : IVec S_ 1 := andi main_v12 main_v17
  let main_v19 : FVec F S8x8x1x1x64x4096 .f32 := (extractStridedSlice S8x8x1x1x64x4096 ![0, 0, 1, 0, 0, 0] · slices_S8x8x2x2x64x4096_S8x8x1x1x64x4096_0_0_1_0_0_0) main_v1
  let main_v20 : FVec F S8x8x64x4096 .f32 := shapeCast S8x8x64x4096 main_v19 shapeCasts_S8x8x1x1x64x4096_S8x8x64x4096
  let main_cst_4 : FVec F S_ .f32 := constant S_ .f32 0x3F800000#32
  let main_v21 : FVec F S8x8x64x4096 .f32 := broadcastInDim S8x8x64x4096 ![] bcast_S_S8x8x64x4096 main_cst_4
  let main_v22 : IVec S8x8x64x4096 1 := cmpf .oeq main_v20 main_v21
  let main_c_5 : IVec S_ 1 := constantI S_ 1 1#1
  let main_v23 : IVec S_ 1 := (fun x v => Host.reduce IntOp.andi x v reducesTo_S8x8x64x4096_S_d0_1_2_3 h_S_) main_v22 main_c_5
  let main_v24 : IVec S_ 1 := andi main_v18 main_v23
  main_v24

def fn {F : FTy → Type} [FloatOps F] (main_arg0 : FVec F S8x16x128x4096 .bf16) (main_arg1 : FVec F S8x16x4096x128 .bf16) (main_arg2 : FVec F S8x16x128x4096 .bf16) (main_arg3 : FVec F S8x4096x1024 .bf16) : IVec S_ 1 :=
  let main_v0 : FVec F S8x16x128x4096 .f32 := (extf .f32 · bitsLt_bf16_f32) main_arg2
  let main_v1 : FVec F S8x8x2x2x64x4096 .f32 := shapeCast S8x8x2x2x64x4096 main_v0 shapeCasts_S8x16x128x4096_S8x8x2x2x64x4096
  let main_v2 : FVec F S8x16x128x4096 .f32 := (extf .f32 · bitsLt_bf16_f32) main_arg0
  let main_v3 : FVec F S8x16x128x4096 .f32 := Host.absf main_v2
  let main_cst : FVec F S_ .f32 := constant S_ .f32 0x7F800000#32
  let main_v4 : FVec F S8x16x128x4096 .f32 := broadcastInDim S8x16x128x4096 ![] bcast_S_S8x16x128x4096 main_cst
  let main_v5 : IVec S8x16x128x4096 1 := cmpf .olt main_v3 main_v4
  let main_c : IVec S_ 1 := constantI S_ 1 1#1
  let main_v6 : IVec S_ 1 := (fun x v => Host.reduce IntOp.andi x v reducesTo_S8x16x128x4096_S_d0_1_2_3 h_S_) main_v5 main_c
  let main_v7 : FVec F S8x16x4096x128 .f32 := (extf .f32 · bitsLt_bf16_f32) main_arg1
  let main_v8 : FVec F S8x16x4096x128 .f32 := Host.absf main_v7
  let main_cst_0 : FVec F S_ .f32 := constant S_ .f32 0x7F800000#32
  let main_v9 : FVec F S8x16x4096x128 .f32 := broadcastInDim S8x16x4096x128 ![] bcast_S_S8x16x4096x128 main_cst_0
  let main_v10 : IVec S8x16x4096x128 1 := cmpf .olt main_v8 main_v9
  let main_c_1 : IVec S_ 1 := constantI S_ 1 1#1
  let main_v11 : IVec S_ 1 := (fun x v => Host.reduce IntOp.andi x v reducesTo_S8x16x4096x128_S_d0_1_2_3 h_S_) main_v10 main_c_1
  let main_v12 : IVec S_ 1 := andi main_v6 main_v11
  let main_v13 : FVec F S8x8x1x1x64x4096 .f32 := (extractStridedSlice S8x8x1x1x64x4096 ![0, 0, 0, 1, 0, 0] · slices_S8x8x2x2x64x4096_S8x8x1x1x64x4096_0_0_0_1_0_0) main_v1
  let main_v14 : FVec F S8x8x64x4096 .f32 := shapeCast S8x8x64x4096 main_v13 shapeCasts_S8x8x1x1x64x4096_S8x8x64x4096
  let main_cst_2 : FVec F S_ .f32 := constant S_ .f32 0x3F800000#32
  let main_v15 : FVec F S8x8x64x4096 .f32 := broadcastInDim S8x8x64x4096 ![] bcast_S_S8x8x64x4096 main_cst_2
  let main_v16 : IVec S8x8x64x4096 1 := cmpf .oeq main_v14 main_v15
  let main_c_3 : IVec S_ 1 := constantI S_ 1 1#1
  let main_v17 : IVec S_ 1 := (fun x v => Host.reduce IntOp.andi x v reducesTo_S8x8x64x4096_S_d0_1_2_3 h_S_) main_v16 main_c_3
  fn_part1 (F := F) main_v1 main_v12 main_v17
-- ==== Kernel.lean ====
abbrev S8x16x128x4096 : Shape := ⟨4, ![8, 16, 128, 4096]⟩
abbrev S8x16x4096x128 : Shape := ⟨4, ![8, 16, 4096, 128]⟩
abbrev S8x4096x1024 : Shape := ⟨3, ![8, 4096, 1024]⟩
abbrev S1x2x128x512 : Shape := ⟨4, ![1, 2, 128, 512]⟩
abbrev S1x2x4096x128 : Shape := ⟨4, ![1, 2, 4096, 128]⟩
abbrev S1x2x128x4096 : Shape := ⟨4, ![1, 2, 128, 4096]⟩
abbrev S1x512x128 : Shape := ⟨3, ![1, 512, 128]⟩
abbrev S2x2x4x512x128 : Shape := ⟨5, ![2, 2, 4, 512, 128]⟩
abbrev S2x4x512x128 : Shape := ⟨4, ![2, 4, 512, 128]⟩
abbrev S2x128x512 : Shape := ⟨3, ![2, 128, 512]⟩
abbrev S512x128 : Shape := ⟨2, ![512, 128]⟩
abbrev S1x1x512x128 : Shape := ⟨4, ![1, 1, 512, 128]⟩
abbrev S1x1x128x256 : Shape := ⟨4, ![1, 1, 128, 256]⟩
abbrev S128x256 : Shape := ⟨2, ![128, 256]⟩
abbrev S512x256 : Shape := ⟨2, ![512, 256]⟩
abbrev S1x1x1x512x128 : Shape := ⟨5, ![1, 1, 1, 512, 128]⟩
abbrev S1x512 : Shape := ⟨2, ![1, 512]⟩
abbrev S1x128 : Shape := ⟨2, ![1, 128]⟩
abbrev S64x128 : Shape := ⟨2, ![64, 128]⟩
abbrev S128 : Shape := ⟨1, ![128]⟩
abbrev S1x256 : Shape := ⟨2, ![1, 256]⟩
abbrev S1x128x256 : Shape := ⟨3, ![1, 128, 256]⟩
abbrev S1x1x128x512 : Shape := ⟨4, ![1, 1, 128, 512]⟩
abbrev S128x512 : Shape := ⟨2, ![128, 512]⟩
abbrev S1x128x512 : Shape := ⟨3, ![1, 128, 512]⟩
abbrev S64x512 : Shape := ⟨2, ![64, 512]⟩

abbrev nBuf : Space → Nat
  | .hbm => 5
  | .vmem => 13
  | .smem => 0
  | _ => 0

abbrev bufTy : (tb : Table) → Fin (tcTables nBuf tb) → BufTy
  | .hbm, ⟨0, _⟩ => ⟨S8x16x128x4096, .bf16⟩
  | .hbm, ⟨1, _⟩ => ⟨S8x16x4096x128, .bf16⟩
  | .hbm, ⟨2, _⟩ => ⟨S8x16x128x4096, .bf16⟩
  | .hbm, ⟨3, _⟩ => ⟨S8x4096x1024, .bf16⟩
  | .hbm, ⟨4, _⟩ => ⟨S8x4096x1024, .bf16⟩
  | .local _ .vmem, ⟨0, _⟩ => ⟨S1x2x128x512, .bf16⟩
  | .local _ .vmem, ⟨1, _⟩ => ⟨S1x2x128x512, .bf16⟩
  | .local _ .vmem, ⟨2, _⟩ => ⟨S1x2x4096x128, .bf16⟩
  | .local _ .vmem, ⟨3, _⟩ => ⟨S1x2x4096x128, .bf16⟩
  | .local _ .vmem, ⟨4, _⟩ => ⟨S1x2x128x4096, .bf16⟩
  | .local _ .vmem, ⟨5, _⟩ => ⟨S1x2x128x4096, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S2x2x4x512x128, .f32⟩
  | .local _ .vmem, ⟨11, _⟩ => ⟨S2x4x512x128, .bf16⟩
  | .local _ .vmem, ⟨12, _⟩ => ⟨S2x128x512, .f32⟩
  | _, _ => ⟨S8x16x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 8], ![false, false, false]⟩

def k0_mult1 : BitVec 32 :=
  let c0_i32 : BitVec 32 := 0#32
  c0_i32
def k0_mult2 : BitVec 32 :=
  let c0_i32_19 : BitVec 32 := 0#32
  c0_i32_19
def k0_mult3 : BitVec 32 :=
  let c0_i32_35 : BitVec 32 := 0#32
  c0_i32_35
def k0_mult4 : BitVec 32 :=
  let c0_i32_54 : BitVec 32 := 0#32
  c0_i32_54
@[reducible] def k0_t1_loop (i : grid0.Coords) : Scf.Loop 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_75 : BitVec 32 := 1#32
  ⟨c0_i32_74, v71, c1_i32_75⟩
def k0_cond1 (i : grid0.Coords) (k0_t1 : Fin (k0_t1_loop i).trips) : BitVec 1 :=
  let c0_i32_74 : BitVec 32 := 0#32
  let c1_i32_75 : BitVec 32 := 1#32
  let arg11 : BitVec 32 := Scf.iv c0_i32_74 c1_i32_75 k0_t1
  let c2_i32_99 : BitVec 32 := 2#32
  let c0_i32_100 : BitVec 32 := 0#32
  let v114 : BitVec 1 := Scalar.cmpi .eq c2_i32_99 c0_i32_100
  let c1_i32_101 : BitVec 32 := 1#32
  let v115 : BitVec 32 := Scalar.select v114 c1_i32_101 c2_i32_99
  let v116 : BitVec 32 := Scalar.remsi arg11 v115
  let c0_i32_103 : BitVec 32 := 0#32
  let v118 : BitVec 1 := Scalar.cmpi .slt v116 c0_i32_103
  let c0_i32_104 : BitVec 32 := 0#32
  let v119 : BitVec 1 := Scalar.cmpi .slt v115 c0_i32_104
  let v120 : BitVec 1 := Scalar.xori v118 v119
  let c0_i32_102 : BitVec 32 := 0#32
  let v117 : BitVec 1 := Scalar.cmpi .ne v116 c0_i32_102
  let v121 : BitVec 1 := Scalar.andi v120 v117
  let v122 : BitVec 32 := Scalar.addi v116 v115
  let v123 : BitVec 32 := Scalar.select v121 v122 v116
  let c0_i32_105 : BitVec 32 := 0#32
  let v124 : BitVec 1 := Scalar.cmpi .eq v123 c0_i32_105
  let v125 : BitVec 32 := Scalar.extui v124
  let c0_i32_106 : BitVec 32 := 0#32
  let v126 : BitVec 1 := Scalar.cmpi .ne v125 c0_i32_106
  v126

def k0_mult5 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c1_i32_107 : BitVec 32 := 1#32
  let v128 : BitVec 32 := Scalar.addi arg11 c1_i32_107
  let c512_i32 : BitVec 32 := 512#32
  let v129 : BitVec 32 := Scalar.muli v128 c512_i32
  v129
def k0_off1 (i : grid0.Coords) (k0_t1 : Fin (k0_t1_loop i).trips) : Fin 4 → Nat :=
  let c0_108 : Index := 0#32
  let c0_109 : Index := 0#32
  let c0_i32_74 : BitVec 32 := 0#32
  let c1_i32_75 : BitVec 32 := 1#32
  let arg11 : BitVec 32 := Scf.iv c0_i32_74 c1_i32_75 k0_t1
  let c1_i32_107 : BitVec 32 := 1#32
  let v128 : BitVec 32 := Scalar.addi arg11 c1_i32_107
  let c512_i32 : BitVec 32 := 512#32
  let v129 : BitVec 32 := Scalar.muli v128 c512_i32
  let v130 : BitVec 32 := v129
  let v131 : Index := Scalar.indexCast v130
  let c0_110 : Index := 0#32
  ![0, 0, v131.toNat, 0]
def k0_mult6 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c1_i32_126 : BitVec 32 := 1#32
  let v145 : BitVec 32 := Scalar.addi arg11 c1_i32_126
  let c512_i32_127 : BitVec 32 := 512#32
  let v146 : BitVec 32 := Scalar.muli v145 c512_i32_127
  v146
def k0_mult7 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c1_i32_146 : BitVec 32 := 1#32
  let v162 : BitVec 32 := Scalar.addi arg11 c1_i32_146
  let c512_i32_147 : BitVec 32 := 512#32
  let v163 : BitVec 32 := Scalar.muli v162 c512_i32_147
  v163
def k0_off2 (i : grid0.Coords) (k0_t1 : Fin (k0_t1_loop i).trips) : Fin 4 → Nat :=
  let c0_148 : Index := 0#32
  let c1_149 : Index := 1#32
  let c0_i32_74 : BitVec 32 := 0#32
  let c1_i32_75 : BitVec 32 := 1#32
  let arg11 : BitVec 32 := Scf.iv c0_i32_74 c1_i32_75 k0_t1
  let c1_i32_146 : BitVec 32 := 1#32
  let v162 : BitVec 32 := Scalar.addi arg11 c1_i32_146
  let c512_i32_147 : BitVec 32 := 512#32
  let v163 : BitVec 32 := Scalar.muli v162 c512_i32_147
  let v164 : BitVec 32 := v163
  let v165 : Index := Scalar.indexCast v164
  let c0_150 : Index := 0#32
  ![0, 1, v165.toNat, 0]
def k0_mult8 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c1_i32_166 : BitVec 32 := 1#32
  let v179 : BitVec 32 := Scalar.addi arg11 c1_i32_166
  let c512_i32_167 : BitVec 32 := 512#32
  let v180 : BitVec 32 := Scalar.muli v179 c512_i32_167
  v180
def k0_mult9 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c512_i32_186 : BitVec 32 := 512#32
  let v196 : BitVec 32 := Scalar.muli arg11 c512_i32_186
  v196
def k0_off3 (i : grid0.Coords) (k0_t1 : Fin (k0_t1_loop i).trips) : Fin 4 → Nat :=
  let c0_218 : Index := 0#32
  let c0_219 : Index := 0#32
  let c0_220 : Index := 0#32
  let c0_i32_74 : BitVec 32 := 0#32
  let c1_i32_75 : BitVec 32 := 1#32
  let arg11 : BitVec 32 := Scf.iv c0_i32_74 c1_i32_75 k0_t1
  let c512_i32_186 : BitVec 32 := 512#32
  let v196 : BitVec 32 := Scalar.muli arg11 c512_i32_186
  let v197 : BitVec 32 := v196
  let v268 : Index := Scalar.indexCast v197
  ![0, 0, 0, v268.toNat]
def k0_mult10 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c512_i32_225 : BitVec 32 := 512#32
  let v276 : BitVec 32 := Scalar.muli arg11 c512_i32_225
  v276
def k0_mult11 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c512_i32_264 : BitVec 32 := 512#32
  let v356 : BitVec 32 := Scalar.muli arg11 c512_i32_264
  v356
def k0_off4 (i : grid0.Coords) (k0_t1 : Fin (k0_t1_loop i).trips) : Fin 4 → Nat :=
  let c0_296 : Index := 0#32
  let c1_297 : Index := 1#32
  let c0_298 : Index := 0#32
  let c0_i32_74 : BitVec 32 := 0#32
  let c1_i32_75 : BitVec 32 := 1#32
  let arg11 : BitVec 32 := Scf.iv c0_i32_74 c1_i32_75 k0_t1
  let c512_i32_264 : BitVec 32 := 512#32
  let v356 : BitVec 32 := Scalar.muli arg11 c512_i32_264
  let v357 : BitVec 32 := v356
  let v428 : Index := Scalar.indexCast v357
  ![0, 1, 0, v428.toNat]
def k0_mult12 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c512_i32_303 : BitVec 32 := 512#32
  let v436 : BitVec 32 := Scalar.muli arg11 c512_i32_303
  v436
def k0_mult13 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c1_i32_107 : BitVec 32 := 1#32
  let v128 : BitVec 32 := Scalar.addi arg11 c1_i32_107
  let c512_i32 : BitVec 32 := 512#32
  let v129 : BitVec 32 := Scalar.muli v128 c512_i32
  v129
def k0_off5 (i : grid0.Coords) (k0_t1 : Fin (k0_t1_loop i).trips) : Fin 4 → Nat :=
  let c0_108 : Index := 0#32
  let c0_109 : Index := 0#32
  let c0_i32_74 : BitVec 32 := 0#32
  let c1_i32_75 : BitVec 32 := 1#32
  let arg11 : BitVec 32 := Scf.iv c0_i32_74 c1_i32_75 k0_t1
  let c1_i32_107 : BitVec 32 := 1#32
  let v128 : BitVec 32 := Scalar.addi arg11 c1_i32_107
  let c512_i32 : BitVec 32 := 512#32
  let v129 : BitVec 32 := Scalar.muli v128 c512_i32
  let v130 : BitVec 32 := v129
  let v131 : Index := Scalar.indexCast v130
  let c0_110 : Index := 0#32
  ![0, 0, v131.toNat, 0]
def k0_mult14 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c1_i32_126 : BitVec 32 := 1#32
  let v145 : BitVec 32 := Scalar.addi arg11 c1_i32_126
  let c512_i32_127 : BitVec 32 := 512#32
  let v146 : BitVec 32 := Scalar.muli v145 c512_i32_127
  v146
def k0_mult15 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c1_i32_146 : BitVec 32 := 1#32
  let v162 : BitVec 32 := Scalar.addi arg11 c1_i32_146
  let c512_i32_147 : BitVec 32 := 512#32
  let v163 : BitVec 32 := Scalar.muli v162 c512_i32_147
  v163
def k0_off6 (i : grid0.Coords) (k0_t1 : Fin (k0_t1_loop i).trips) : Fin 4 → Nat :=
  let c0_148 : Index := 0#32
  let c1_149 : Index := 1#32
  let c0_i32_74 : BitVec 32 := 0#32
  let c1_i32_75 : BitVec 32 := 1#32
  let arg11 : BitVec 32 := Scf.iv c0_i32_74 c1_i32_75 k0_t1
  let c1_i32_146 : BitVec 32 := 1#32
  let v162 : BitVec 32 := Scalar.addi arg11 c1_i32_146
  let c512_i32_147 : BitVec 32 := 512#32
  let v163 : BitVec 32 := Scalar.muli v162 c512_i32_147
  let v164 : BitVec 32 := v163
  let v165 : Index := Scalar.indexCast v164
  let c0_150 : Index := 0#32
  ![0, 1, v165.toNat, 0]
def k0_mult16 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c1_i32_166 : BitVec 32 := 1#32
  let v179 : BitVec 32 := Scalar.addi arg11 c1_i32_166
  let c512_i32_167 : BitVec 32 := 512#32
  let v180 : BitVec 32 := Scalar.muli v179 c512_i32_167
  v180
def k0_mult17 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c512_i32_186 : BitVec 32 := 512#32
  let v196 : BitVec 32 := Scalar.muli arg11 c512_i32_186
  v196
def k0_off7 (i : grid0.Coords) (k0_t1 : Fin (k0_t1_loop i).trips) : Fin 4 → Nat :=
  let c0_218 : Index := 0#32
  let c0_219 : Index := 0#32
  let c0_220 : Index := 0#32
  let c0_i32_74 : BitVec 32 := 0#32
  let c1_i32_75 : BitVec 32 := 1#32
  let arg11 : BitVec 32 := Scf.iv c0_i32_74 c1_i32_75 k0_t1
  let c512_i32_186 : BitVec 32 := 512#32
  let v196 : BitVec 32 := Scalar.muli arg11 c512_i32_186
  let v197 : BitVec 32 := v196
  let v268 : Index := Scalar.indexCast v197
  ![0, 0, 0, v268.toNat]
def k0_mult18 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c512_i32_225 : BitVec 32 := 512#32
  let v276 : BitVec 32 := Scalar.muli arg11 c512_i32_225
  v276
def k0_mult19 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c512_i32_264 : BitVec 32 := 512#32
  let v356 : BitVec 32 := Scalar.muli arg11 c512_i32_264
  v356
def k0_off8 (i : grid0.Coords) (k0_t1 : Fin (k0_t1_loop i).trips) : Fin 4 → Nat :=
  let c0_296 : Index := 0#32
  let c1_297 : Index := 1#32
  let c0_298 : Index := 0#32
  let c0_i32_74 : BitVec 32 := 0#32
  let c1_i32_75 : BitVec 32 := 1#32
  let arg11 : BitVec 32 := Scf.iv c0_i32_74 c1_i32_75 k0_t1
  let c512_i32_264 : BitVec 32 := 512#32
  let v356 : BitVec 32 := Scalar.muli arg11 c512_i32_264
  let v357 : BitVec 32 := v356
  let v428 : Index := Scalar.indexCast v357
  ![0, 1, 0, v428.toNat]
def k0_mult20 (i : grid0.Coords) (k0_t1 : Fin (k0_t1_loop i).trips) : BitVec 32 :=
  let c0_i32_74 : BitVec 32 := 0#32
  let c1_i32_75 : BitVec 32 := 1#32
  let arg11 : BitVec 32 := Scf.iv c0_i32_74 c1_i32_75 k0_t1
  let c512_i32_303 : BitVec 32 := 512#32
  let v436 : BitVec 32 := Scalar.muli arg11 c512_i32_303
  v436
@[reducible] def k0_t2_loop (i : grid0.Coords) : Scf.Loop 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let v68 : BitVec 32 := Scalar.addi c0_i32_74 v67
  let c1_i32_76 : BitVec 32 := 1#32
  ⟨v71, v68, c1_i32_76⟩
def k0_cond2 (i : grid0.Coords) (k0_t2 : Fin (k0_t2_loop i).trips) : BitVec 1 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c2_i32_99 : BitVec 32 := 2#32
  let c0_i32_100 : BitVec 32 := 0#32
  let v114 : BitVec 1 := Scalar.cmpi .eq c2_i32_99 c0_i32_100
  let c1_i32_101 : BitVec 32 := 1#32
  let v115 : BitVec 32 := Scalar.select v114 c1_i32_101 c2_i32_99
  let v116 : BitVec 32 := Scalar.remsi arg11 v115
  let c0_i32_103 : BitVec 32 := 0#32
  let v118 : BitVec 1 := Scalar.cmpi .slt v116 c0_i32_103
  let c0_i32_104 : BitVec 32 := 0#32
  let v119 : BitVec 1 := Scalar.cmpi .slt v115 c0_i32_104
  let v120 : BitVec 1 := Scalar.xori v118 v119
  let c0_i32_102 : BitVec 32 := 0#32
  let v117 : BitVec 1 := Scalar.cmpi .ne v116 c0_i32_102
  let v121 : BitVec 1 := Scalar.andi v120 v117
  let v122 : BitVec 32 := Scalar.addi v116 v115
  let v123 : BitVec 32 := Scalar.select v121 v122 v116
  let c0_i32_105 : BitVec 32 := 0#32
  let v124 : BitVec 1 := Scalar.cmpi .eq v123 c0_i32_105
  let v125 : BitVec 32 := Scalar.extui v124
  let c0_i32_106 : BitVec 32 := 0#32
  let v126 : BitVec 1 := Scalar.cmpi .ne v125 c0_i32_106
  v126

def k0_mult21 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c1_i32_107 : BitVec 32 := 1#32
  let v128 : BitVec 32 := Scalar.addi arg11 c1_i32_107
  let c512_i32 : BitVec 32 := 512#32
  let v129 : BitVec 32 := Scalar.muli v128 c512_i32
  v129
def k0_off9 (i : grid0.Coords) (k0_t2 : Fin (k0_t2_loop i).trips) : Fin 4 → Nat :=
  let c0_108 : Index := 0#32
  let c0_109 : Index := 0#32
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c1_i32_107 : BitVec 32 := 1#32
  let v128 : BitVec 32 := Scalar.addi arg11 c1_i32_107
  let c512_i32 : BitVec 32 := 512#32
  let v129 : BitVec 32 := Scalar.muli v128 c512_i32
  let v130 : BitVec 32 := v129
  let v131 : Index := Scalar.indexCast v130
  let c0_110 : Index := 0#32
  ![0, 0, v131.toNat, 0]
def k0_mult22 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c1_i32_126 : BitVec 32 := 1#32
  let v145 : BitVec 32 := Scalar.addi arg11 c1_i32_126
  let c512_i32_127 : BitVec 32 := 512#32
  let v146 : BitVec 32 := Scalar.muli v145 c512_i32_127
  v146
def k0_mult23 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c1_i32_146 : BitVec 32 := 1#32
  let v162 : BitVec 32 := Scalar.addi arg11 c1_i32_146
  let c512_i32_147 : BitVec 32 := 512#32
  let v163 : BitVec 32 := Scalar.muli v162 c512_i32_147
  v163
def k0_off10 (i : grid0.Coords) (k0_t2 : Fin (k0_t2_loop i).trips) : Fin 4 → Nat :=
  let c0_148 : Index := 0#32
  let c1_149 : Index := 1#32
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c1_i32_146 : BitVec 32 := 1#32
  let v162 : BitVec 32 := Scalar.addi arg11 c1_i32_146
  let c512_i32_147 : BitVec 32 := 512#32
  let v163 : BitVec 32 := Scalar.muli v162 c512_i32_147
  let v164 : BitVec 32 := v163
  let v165 : Index := Scalar.indexCast v164
  let c0_150 : Index := 0#32
  ![0, 1, v165.toNat, 0]
def k0_mult24 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c1_i32_166 : BitVec 32 := 1#32
  let v179 : BitVec 32 := Scalar.addi arg11 c1_i32_166
  let c512_i32_167 : BitVec 32 := 512#32
  let v180 : BitVec 32 := Scalar.muli v179 c512_i32_167
  v180
def k0_mult25 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c512_i32_186 : BitVec 32 := 512#32
  let v196 : BitVec 32 := Scalar.muli arg11 c512_i32_186
  v196
def k0_off11 (i : grid0.Coords) (k0_t2 : Fin (k0_t2_loop i).trips) : Fin 4 → Nat :=
  let c0_218 : Index := 0#32
  let c0_219 : Index := 0#32
  let c0_220 : Index := 0#32
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c512_i32_186 : BitVec 32 := 512#32
  let v196 : BitVec 32 := Scalar.muli arg11 c512_i32_186
  let v197 : BitVec 32 := v196
  let v268 : Index := Scalar.indexCast v197
  ![0, 0, 0, v268.toNat]
def k0_mult26 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c512_i32_225 : BitVec 32 := 512#32
  let v276 : BitVec 32 := Scalar.muli arg11 c512_i32_225
  v276
def k0_mult27 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c512_i32_264 : BitVec 32 := 512#32
  let v356 : BitVec 32 := Scalar.muli arg11 c512_i32_264
  v356
def k0_off12 (i : grid0.Coords) (k0_t2 : Fin (k0_t2_loop i).trips) : Fin 4 → Nat :=
  let c0_296 : Index := 0#32
  let c1_297 : Index := 1#32
  let c0_298 : Index := 0#32
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c512_i32_264 : BitVec 32 := 512#32
  let v356 : BitVec 32 := Scalar.muli arg11 c512_i32_264
  let v357 : BitVec 32 := v356
  let v428 : Index := Scalar.indexCast v357
  ![0, 1, 0, v428.toNat]
def k0_mult28 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c512_i32_303 : BitVec 32 := 512#32
  let v436 : BitVec 32 := Scalar.muli arg11 c512_i32_303
  v436
def k0_mult29 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c1_i32_107 : BitVec 32 := 1#32
  let v128 : BitVec 32 := Scalar.addi arg11 c1_i32_107
  let c512_i32 : BitVec 32 := 512#32
  let v129 : BitVec 32 := Scalar.muli v128 c512_i32
  v129
def k0_off13 (i : grid0.Coords) (k0_t2 : Fin (k0_t2_loop i).trips) : Fin 4 → Nat :=
  let c0_108 : Index := 0#32
  let c0_109 : Index := 0#32
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c1_i32_107 : BitVec 32 := 1#32
  let v128 : BitVec 32 := Scalar.addi arg11 c1_i32_107
  let c512_i32 : BitVec 32 := 512#32
  let v129 : BitVec 32 := Scalar.muli v128 c512_i32
  let v130 : BitVec 32 := v129
  let v131 : Index := Scalar.indexCast v130
  let c0_110 : Index := 0#32
  ![0, 0, v131.toNat, 0]
def k0_mult30 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c1_i32_126 : BitVec 32 := 1#32
  let v145 : BitVec 32 := Scalar.addi arg11 c1_i32_126
  let c512_i32_127 : BitVec 32 := 512#32
  let v146 : BitVec 32 := Scalar.muli v145 c512_i32_127
  v146
def k0_mult31 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c1_i32_146 : BitVec 32 := 1#32
  let v162 : BitVec 32 := Scalar.addi arg11 c1_i32_146
  let c512_i32_147 : BitVec 32 := 512#32
  let v163 : BitVec 32 := Scalar.muli v162 c512_i32_147
  v163
def k0_off14 (i : grid0.Coords) (k0_t2 : Fin (k0_t2_loop i).trips) : Fin 4 → Nat :=
  let c0_148 : Index := 0#32
  let c1_149 : Index := 1#32
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c1_i32_146 : BitVec 32 := 1#32
  let v162 : BitVec 32 := Scalar.addi arg11 c1_i32_146
  let c512_i32_147 : BitVec 32 := 512#32
  let v163 : BitVec 32 := Scalar.muli v162 c512_i32_147
  let v164 : BitVec 32 := v163
  let v165 : Index := Scalar.indexCast v164
  let c0_150 : Index := 0#32
  ![0, 1, v165.toNat, 0]
def k0_mult32 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c1_i32_166 : BitVec 32 := 1#32
  let v179 : BitVec 32 := Scalar.addi arg11 c1_i32_166
  let c512_i32_167 : BitVec 32 := 512#32
  let v180 : BitVec 32 := Scalar.muli v179 c512_i32_167
  v180
def k0_mult33 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c512_i32_186 : BitVec 32 := 512#32
  let v196 : BitVec 32 := Scalar.muli arg11 c512_i32_186
  v196
def k0_off15 (i : grid0.Coords) (k0_t2 : Fin (k0_t2_loop i).trips) : Fin 4 → Nat :=
  let c0_218 : Index := 0#32
  let c0_219 : Index := 0#32
  let c0_220 : Index := 0#32
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c512_i32_186 : BitVec 32 := 512#32
  let v196 : BitVec 32 := Scalar.muli arg11 c512_i32_186
  let v197 : BitVec 32 := v196
  let v268 : Index := Scalar.indexCast v197
  ![0, 0, 0, v268.toNat]
def k0_mult34 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c512_i32_225 : BitVec 32 := 512#32
  let v276 : BitVec 32 := Scalar.muli arg11 c512_i32_225
  v276
def k0_mult35 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c512_i32_264 : BitVec 32 := 512#32
  let v356 : BitVec 32 := Scalar.muli arg11 c512_i32_264
  v356
def k0_off16 (i : grid0.Coords) (k0_t2 : Fin (k0_t2_loop i).trips) : Fin 4 → Nat :=
  let c0_296 : Index := 0#32
  let c1_297 : Index := 1#32
  let c0_298 : Index := 0#32
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c512_i32_264 : BitVec 32 := 512#32
  let v356 : BitVec 32 := Scalar.muli arg11 c512_i32_264
  let v357 : BitVec 32 := v356
  let v428 : Index := Scalar.indexCast v357
  ![0, 1, 0, v428.toNat]
def k0_mult36 (i : grid0.Coords) (k0_t2 : Fin (k0_t2_loop i).trips) : BitVec 32 :=
  let c0_i32_74 : BitVec 32 := 0#32
  let arg2 : BitVec 32 := BitVec.ofNat 32 (i 2).val
  let v67 : BitVec 32 := Scalar.subi arg2 c0_i32_74
  let c1_i32 : BitVec 32 := 1#32
  let v69 : BitVec 32 := Scalar.divsi v67 c1_i32
  let v70 : BitVec 32 := Scalar.muli v69 c1_i32
  let v71 : BitVec 32 := Scalar.addi c0_i32_74 v70
  let c1_i32_76 : BitVec 32 := 1#32
  let arg11 : BitVec 32 := Scf.iv v71 c1_i32_76 k0_t2
  let c512_i32_303 : BitVec 32 := 512#32
  let v436 : BitVec 32 := Scalar.muli arg11 c512_i32_303
  v436
def k0_cond3 (i : grid0.Coords) : BitVec 1 :=
  let arg2 : BitVec 32 := BitVec.ofNat 32 (i 2).val
  let c2_i32 : BitVec 32 := 2#32
  let c0_i32_77 : BitVec 32 := 0#32
  let v74 : BitVec 1 := Scalar.cmpi .eq c2_i32 c0_i32_77
  let c1_i32_78 : BitVec 32 := 1#32
  let v75 : BitVec 32 := Scalar.select v74 c1_i32_78 c2_i32
  let v76 : BitVec 32 := Scalar.remsi arg2 v75
  let c0_i32_80 : BitVec 32 := 0#32
  let v78 : BitVec 1 := Scalar.cmpi .slt v76 c0_i32_80
  let c0_i32_81 : BitVec 32 := 0#32
  let v79 : BitVec 1 := Scalar.cmpi .slt v75 c0_i32_81
  let v80 : BitVec 1 := Scalar.xori v78 v79
  let c0_i32_79 : BitVec 32 := 0#32
  let v77 : BitVec 1 := Scalar.cmpi .ne v76 c0_i32_79
  let v81 : BitVec 1 := Scalar.andi v80 v77
  let v82 : BitVec 32 := Scalar.addi v76 v75
  let v83 : BitVec 32 := Scalar.select v81 v82 v76
  let c0_i32_82 : BitVec 32 := 0#32
  let v84 : BitVec 1 := Scalar.cmpi .eq v83 c0_i32_82
  let v85 : BitVec 32 := Scalar.extui v84
  let c0_i32_83 : BitVec 32 := 0#32
  let v86 : BitVec 1 := Scalar.cmpi .ne v85 c0_i32_83
  v86

def k0_mult37 (i : grid0.Coords) : BitVec 32 :=
  let arg2 : BitVec 32 := BitVec.ofNat 32 (i 2).val
  let c512_i32 : BitVec 32 := 512#32
  let v114 : BitVec 32 := Scalar.muli arg2 c512_i32
  v114
def k0_off17 (i : grid0.Coords) : Fin 4 → Nat :=
  let c0_133 : Index := 0#32
  let c0_134 : Index := 0#32
  let c0_135 : Index := 0#32
  let arg2 : BitVec 32 := BitVec.ofNat 32 (i 2).val
  let c512_i32 : BitVec 32 := 512#32
  let v114 : BitVec 32 := Scalar.muli arg2 c512_i32
  let v115 : BitVec 32 := v114
  let v196 : Index := Scalar.indexCast v115
  ![0, 0, 0, v196.toNat]
def k0_mult38 (i : grid0.Coords) : BitVec 32 :=
  let arg2 : BitVec 32 := BitVec.ofNat 32 (i 2).val
  let c512_i32_140 : BitVec 32 := 512#32
  let v204 : BitVec 32 := Scalar.muli arg2 c512_i32_140
  v204
def k0_mult39 (i : grid0.Coords) : BitVec 32 :=
  let arg2 : BitVec 32 := BitVec.ofNat 32 (i 2).val
  let c512_i32_181 : BitVec 32 := 512#32
  let v294 : BitVec 32 := Scalar.muli arg2 c512_i32_181
  v294
def k0_off18 (i : grid0.Coords) : Fin 4 → Nat :=
  let c0_217 : Index := 0#32
  let c1_218 : Index := 1#32
  let c0_219 : Index := 0#32
  let arg2 : BitVec 32 := BitVec.ofNat 32 (i 2).val
  let c512_i32_181 : BitVec 32 := 512#32
  let v294 : BitVec 32 := Scalar.muli arg2 c512_i32_181
  let v295 : BitVec 32 := v294
  let v376 : Index := Scalar.indexCast v295
  ![0, 1, 0, v376.toNat]
def k0_mult40 (i : grid0.Coords) : BitVec 32 :=
  let arg2 : BitVec 32 := BitVec.ofNat 32 (i 2).val
  let c512_i32_224 : BitVec 32 := 512#32
  let v384 : BitVec 32 := Scalar.muli arg2 c512_i32_224
  v384
def k0_mult41 (i : grid0.Coords) : BitVec 32 :=
  let arg2 : BitVec 32 := BitVec.ofNat 32 (i 2).val
  let c512_i32 : BitVec 32 := 512#32
  let v114 : BitVec 32 := Scalar.muli arg2 c512_i32
  v114
def k0_off19 (i : grid0.Coords) : Fin 4 → Nat :=
  let c0_133 : Index := 0#32
  let c0_134 : Index := 0#32
  let c0_135 : Index := 0#32
  let arg2 : BitVec 32 := BitVec.ofNat 32 (i 2).val
  let c512_i32 : BitVec 32 := 512#32
  let v114 : BitVec 32 := Scalar.muli arg2 c512_i32
  let v115 : BitVec 32 := v114
  let v196 : Index := Scalar.indexCast v115
  ![0, 0, 0, v196.toNat]
def k0_mult42 (i : grid0.Coords) : BitVec 32 :=
  let arg2 : BitVec 32 := BitVec.ofNat 32 (i 2).val
  let c512_i32_140 : BitVec 32 := 512#32
  let v204 : BitVec 32 := Scalar.muli arg2 c512_i32_140
  v204
def k0_mult43 (i : grid0.Coords) : BitVec 32 :=
  let arg2 : BitVec 32 := BitVec.ofNat 32 (i 2).val
  let c512_i32_181 : BitVec 32 := 512#32
  let v294 : BitVec 32 := Scalar.muli arg2 c512_i32_181
  v294
def k0_off20 (i : grid0.Coords) : Fin 4 → Nat :=
  let c0_217 : Index := 0#32
  let c1_218 : Index := 1#32
  let c0_219 : Index := 0#32
  let arg2 : BitVec 32 := BitVec.ofNat 32 (i 2).val
  let c512_i32_181 : BitVec 32 := 512#32
  let v294 : BitVec 32 := Scalar.muli arg2 c512_i32_181
  let v295 : BitVec 32 := v294
  let v376 : Index := Scalar.indexCast v295
  ![0, 1, 0, v376.toNat]
def k0_mult44 (i : grid0.Coords) : BitVec 32 :=
  let arg2 : BitVec 32 := BitVec.ofNat 32 (i 2).val
  let c512_i32_224 : BitVec 32 := 512#32
  let v384 : BitVec 32 := Scalar.muli arg2 c512_i32_224
  v384
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x16x128x4096 : Shape := ⟨4, ![8, 16, 128, 4096]⟩
abbrev S8x16x4096x128 : Shape := ⟨4, ![8, 16, 4096, 128]⟩
abbrev S8x4096x1024 : Shape := ⟨3, ![8, 4096, 1024]⟩
abbrev S8x16x4096x4096 : Shape := ⟨4, ![8, 16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x16x4096 : Shape := ⟨3, ![8, 16, 4096]⟩
abbrev S8x16x4096x1 : Shape := ⟨4, ![8, 16, 4096, 1]⟩
abbrev S8x8x2x2x64x4096 : Shape := ⟨6, ![8, 8, 2, 2, 64, 4096]⟩
abbrev S8x8x1x1x64x4096 : Shape := ⟨6, ![8, 8, 1, 1, 64, 4096]⟩
abbrev S8x8x64x4096 : Shape := ⟨4, ![8, 8, 64, 4096]⟩
abbrev S8x8x1x64x4096 : Shape := ⟨5, ![8, 8, 1, 64, 4096]⟩
abbrev S8x8x2x64x4096 : Shape := ⟨5, ![8, 8, 2, 64, 4096]⟩
abbrev S8x16x64x4096 : Shape := ⟨4, ![8, 16, 64, 4096]⟩
abbrev S8x16x4096x64 : Shape := ⟨4, ![8, 16, 4096, 64]⟩
abbrev S8x4096x16x64 : Shape := ⟨4, ![8, 4096, 16, 64]⟩

abbrev nBuf : Space → Nat
  | .hbm => 57
  | .vmem => 0
  | .smem => 0
  | _ => 0

abbrev bufTy : (tb : Table) → Fin (tcTables nBuf tb) → BufTy
  | .hbm, ⟨0, _⟩ => ⟨S8x16x128x4096, .bf16⟩
  | .hbm, ⟨1, _⟩ => ⟨S8x16x4096x128, .bf16⟩
  | .hbm, ⟨2, _⟩ => ⟨S8x16x128x4096, .bf16⟩
  | .hbm, ⟨3, _⟩ => ⟨S8x4096x1024, .bf16⟩
  | .hbm, ⟨4, _⟩ => ⟨S8x16x128x4096, .f32⟩
  | .hbm, ⟨5, _⟩ => ⟨S8x16x4096x128, .f32⟩
  | .hbm, ⟨6, _⟩ => ⟨S8x16x128x4096, .f32⟩
  | .hbm, ⟨7, _⟩ => ⟨S8x4096x1024, .f32⟩
  | .hbm, ⟨8, _⟩ => ⟨S8x16x4096x4096, .f32⟩
  | .hbm, ⟨9, _⟩ => ⟨S4096, .i32⟩
  | .hbm, ⟨10, _⟩ => ⟨S4096x1, .i32⟩
  | .hbm, ⟨11, _⟩ => ⟨S4096, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S8x16x4096x4096, .i1⟩
  | .hbm, ⟨19, _⟩ => ⟨S8x16x4096x4096, .f32⟩
  | .hbm, ⟨20, _⟩ => ⟨S8x16x4096x4096, .f32⟩
  | .hbm, ⟨21, _⟩ => ⟨S_, .f32⟩
  | .hbm, ⟨22, _⟩ => ⟨S8x16x4096, .f32⟩
  | .hbm, ⟨23, _⟩ => ⟨S_, .f32⟩
  | .hbm, ⟨24, _⟩ => ⟨S8x16x4096, .f32⟩
  | .hbm, ⟨25, _⟩ => ⟨S8x16x4096, .f32⟩
  | .hbm, ⟨26, _⟩ => ⟨S8x16x4096x1, .f32⟩
  | .hbm, ⟨27, _⟩ => ⟨S8x16x4096x4096, .f32⟩
  | .hbm, ⟨28, _⟩ => ⟨S8x16x4096x4096, .f32⟩
  | .hbm, ⟨29, _⟩ => ⟨S8x16x4096x4096, .f32⟩
  | .hbm, ⟨30, _⟩ => ⟨S_, .f32⟩
  | .hbm, ⟨31, _⟩ => ⟨S8x16x4096, .f32⟩
  | .hbm, ⟨32, _⟩ => ⟨S8x16x4096x1, .f32⟩
  | .hbm, ⟨33, _⟩ => ⟨S8x16x4096x4096, .f32⟩
  | .hbm, ⟨34, _⟩ => ⟨S8x16x4096x4096, .f32⟩
  | .hbm, ⟨35, _⟩ => ⟨S8x8x2x2x64x4096, .f32⟩
  | .hbm, ⟨36, _⟩ => ⟨S8x8x1x1x64x4096, .f32⟩
  | .hbm, ⟨37, _⟩ => ⟨S8x8x64x4096, .f32⟩
  | .hbm, ⟨38, _⟩ => ⟨S8x8x1x1x64x4096, .f32⟩
  | .hbm, ⟨39, _⟩ => ⟨S8x8x64x4096, .f32⟩
  | .hbm, ⟨40, _⟩ => ⟨S8x8x1x64x4096, .f32⟩
  | .hbm, ⟨41, _⟩ => ⟨S8x8x1x64x4096, .f32⟩
  | .hbm, ⟨42, _⟩ => ⟨S8x8x2x64x4096, .f32⟩
  | .hbm, ⟨43, _⟩ => ⟨S8x16x64x4096, .f32⟩
  | .hbm, ⟨44, _⟩ => ⟨S8x16x4096x64, .f32⟩
  | .hbm, ⟨45, _⟩ => ⟨S8x4096x16x64, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x4096x1024, .f32⟩
  | .hbm, ⟨51, _⟩ => ⟨S8x4096x1024, .f32⟩
  | .hbm, ⟨52, _⟩ => ⟨S_, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .bf16⟩
  | _, _ => ⟨S8x16x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel2.lean ====
abbrev S160 : Shape := ⟨1, ![160]⟩
abbrev S1 : Shape := ⟨1, ![1]⟩
abbrev S81920x8x128 : Shape := ⟨3, ![81920, 8, 128]⟩
abbrev S4x32x1024x512 : Shape := ⟨4, ![4, 32, 1024, 512]⟩
abbrev S4x32x512x1024 : Shape := ⟨4, ![4, 32, 512, 1024]⟩
abbrev S512x8x128 : Shape := ⟨3, ![512, 8, 128]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S81920x8x128, .f32⟩
  | .hbm, ⟨1, _⟩ => ⟨S4x32x1024x512, .f32⟩
  | .hbm, ⟨2, _⟩ => ⟨S4x32x1024x512, .f32⟩
  | .hbm, ⟨3, _⟩ => ⟨S4x32x512x1024, .f32⟩
  | .hbm, ⟨4, _⟩ => ⟨S81920x8x128, .f32⟩
  | .local _ .vmem, ⟨0, _⟩ => ⟨S512x8x128, .f32⟩
  | .local _ .vmem, ⟨1, _⟩ => ⟨S512x8x128, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x8x128, .f32⟩
  | .local _ .vmem, ⟨9, _⟩ => ⟨S512x8x128, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S160, .i32⟩
  | .local _ .smem, ⟨1, _⟩ => ⟨S1, .i32⟩
  | _, _ => ⟨S81920x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S160 : Shape := ⟨1, ![160]⟩
abbrev S1 : Shape := ⟨1, ![1]⟩
abbrev S81920x8x128 : Shape := ⟨3, ![81920, 8, 128]⟩
abbrev S4x32x1024x512 : Shape := ⟨4, ![4, 32, 1024, 512]⟩
abbrev S4x32x512x1024 : Shape := ⟨4, ![4, 32, 512, 1024]⟩
abbrev S160x512x1024 : Shape := ⟨3, ![160, 512, 1024]⟩
abbrev S1x32x1024x512 : Shape := ⟨4, ![1, 32, 1024, 512]⟩
abbrev S32x1024x512 : Shape := ⟨3, ![32, 1024, 512]⟩
abbrev S_ : Shape := ⟨0, ![]⟩
abbrev S160x1 : Shape := ⟨2, ![160, 1]⟩
abbrev S160x1024x512 : Shape := ⟨3, ![160, 1024, 512]⟩
abbrev S160x512x512 : Shape := ⟨3, ![160, 512, 512]⟩
abbrev S1x32x512x1024 : Shape := ⟨4, ![1, 32, 512, 1024]⟩
abbrev S32x512x1024 : Shape := ⟨3, ![32, 512, 1024]⟩
abbrev S160x1x1 : Shape := ⟨3, ![160, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x8x128, .f32⟩
  | .hbm, ⟨3, _⟩ => ⟨S4x32x1024x512, .f32⟩
  | .hbm, ⟨4, _⟩ => ⟨S4x32x1024x512, .f32⟩
  | .hbm, ⟨5, _⟩ => ⟨S4x32x512x1024, .f32⟩
  | .hbm, ⟨6, _⟩ => ⟨S160x512x1024, .f32⟩
  | .hbm, ⟨7, _⟩ => ⟨S1x32x1024x512, .f32⟩
  | .hbm, ⟨8, _⟩ => ⟨S32x1024x512, .f32⟩
  | .hbm, ⟨9, _⟩ => ⟨S_, .i32⟩
  | .hbm, ⟨10, _⟩ => ⟨S160, .i32⟩
  | .hbm, ⟨11, _⟩ => ⟨S160, .i1⟩
  | .hbm, ⟨12, _⟩ => ⟨S_, .i32⟩
  | .hbm, ⟨13, _⟩ => ⟨S160, .i32⟩
  | .hbm, ⟨14, _⟩ => ⟨S160, .i32⟩
  | .hbm, ⟨15, _⟩ => ⟨S160, .i32⟩
  | .hbm, ⟨16, _⟩ => ⟨S160x1, .i32⟩
  | .hbm, ⟨17, _⟩ => ⟨S160x1024x512, .f32⟩
  | .hbm, ⟨18, _⟩ => ⟨S160x512x512, .f32⟩
  | .hbm, ⟨19, _⟩ => ⟨S1x32x1024x512, .f32⟩
  | .hbm, ⟨20, _⟩ => ⟨S32x1024x512, .f32⟩
  | .hbm, ⟨21, _⟩ => ⟨S_, .i32⟩
  | .hbm, ⟨22, _⟩ => ⟨S160, .i32⟩
  | .hbm, ⟨23, _⟩ => ⟨S160, .i1⟩
  | .hbm, ⟨24, _⟩ => ⟨S_, .i32⟩
  | .hbm, ⟨25, _⟩ => ⟨S160, .i32⟩
  | .hbm, ⟨26, _⟩ => ⟨S160, .i32⟩
  | .hbm, ⟨27, _⟩ => ⟨S160, .i32⟩
  | .hbm, ⟨28, _⟩ => ⟨S160x1, .i32⟩
  | .hbm, ⟨29, _⟩ => ⟨S160x1024x512, .f32⟩
  | .hbm, ⟨30, _⟩ => ⟨S160x512x512, .f32⟩
  | .hbm, ⟨31, _⟩ => ⟨S160x512x512, .f32⟩
  | .hbm, ⟨32, _⟩ => ⟨S160x512x512, .f32⟩
  | .hbm, ⟨33, _⟩ => ⟨S_, .f32⟩
  | .hbm, ⟨34, _⟩ => ⟨S160x512x512, .f32⟩
  | .hbm, ⟨35, _⟩ => ⟨S160x512x512, .f32⟩
  | .hbm, ⟨36, _⟩ => ⟨S_, .f32⟩
  | .hbm, ⟨37, _⟩ => ⟨S160x512x512, .f32⟩
  | .hbm, ⟨38, _⟩ => ⟨S160x512x512, .f32⟩
  | .hbm, ⟨39, _⟩ => ⟨S160x512x512, .f32⟩
  | .hbm, ⟨40, _⟩ => ⟨S160x512x512, .f32⟩
  | .hbm, ⟨41, _⟩ => ⟨S1x32x512x1024, .f32⟩
  | .hbm, ⟨42, _⟩ => ⟨S32x512x1024, .f32⟩
  | .hbm, ⟨43, _⟩ => ⟨S_, .i32⟩
  | .hbm, ⟨44, _⟩ => ⟨S160, .i32⟩
  | .hbm, ⟨45, _⟩ => ⟨S160, .i1⟩
  | .hbm, ⟨46, _⟩ => ⟨S_, .i32⟩
  | .hbm, ⟨47, _⟩ => ⟨S160, .i32⟩
  | .hbm, ⟨48, _⟩ => ⟨S160, .i32⟩
  | .hbm, ⟨49, _⟩ => ⟨S160, .i32⟩
  | .hbm, ⟨50, _⟩ => ⟨S160x1, .i32⟩
  | .hbm, ⟨51, _⟩ => ⟨S160x512x1024, .f32⟩
  | .hbm, ⟨52, _⟩ => ⟨S160x512x1024, .f32⟩
  | .hbm, ⟨53, _⟩ => ⟨S160, .i32⟩
  | .hbm, ⟨54, _⟩ => ⟨S_, .i32⟩
  | .hbm, ⟨55, _⟩ => ⟨S160, .i32⟩
  | .hbm, ⟨56, _⟩ => ⟨S160, .i1⟩
  | .hbm, ⟨57, _⟩ => ⟨S160x1x1, .i1⟩
  | .hbm, ⟨58, _⟩ => ⟨S_, .f32⟩
  | .hbm, ⟨59, _⟩ => ⟨S_, .f32⟩
  | .hbm, ⟨60, _⟩ => ⟨S160x512x1024, .i1⟩
  | .hbm, ⟨61, _⟩ => ⟨S160x512x1024, .f32⟩
  | .hbm, ⟨62, _⟩ => ⟨S160x512x1024, .f32⟩
  | .hbm, ⟨63, _⟩ => ⟨S81920x8x128, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1x6144 : Shape := ⟨3, ![8, 1, 6144]⟩
abbrev S1x1024 : Shape := ⟨2, ![1, 1024]⟩
abbrev S1024x4096 : Shape := ⟨2, ![1024, 4096]⟩
abbrev S1024x16 : Shape := ⟨2, ![1024, 16]⟩
abbrev S4x3072 : Shape := ⟨2, ![4, 3072]⟩
abbrev S8x4096x3072 : Shape := ⟨3, ![8, 4096, 3072]⟩
abbrev S8x4096x16 : Shape := ⟨3, ![8, 4096, 16]⟩
abbrev S1x512x1024 : Shape := ⟨3, ![1, 512, 1024]⟩
abbrev S1x1x6144 : Shape := ⟨3, ![1, 1, 6144]⟩
abbrev S1x512x3072 : Shape := ⟨3, ![1, 512, 3072]⟩
abbrev S1x512x16 : Shape := ⟨3, ![1, 512, 16]⟩
abbrev S520x3072 : Shape := ⟨2, ![520, 3072]⟩
abbrev S8x3072 : Shape := ⟨2, ![8, 3072]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x16 : Shape := ⟨2, ![512, 16]⟩
abbrev S1024x1024 : Shape := ⟨2, ![1024, 1024]⟩
abbrev S1024x3072 : Shape := ⟨2, ![1024, 3072]⟩
abbrev S512x3072 : Shape := ⟨2, ![512, 3072]⟩
abbrev S512x128 : Shape := ⟨2, ![512, 128]⟩
abbrev S1x128 : Shape := ⟨2, ![1, 128]⟩
abbrev S1x512x128 : Shape := ⟨3, ![1, 512, 128]⟩

abbrev nBuf : Space → Nat
  | .hbm => 9
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x1x6144, .f32⟩
  | .hbm, ⟨2, _⟩ => ⟨S1x1024, .f32⟩
  | .hbm, ⟨3, _⟩ => ⟨S1024x4096, .bf16⟩
  | .hbm, ⟨4, _⟩ => ⟨S1024x16, .bf16⟩
  | .hbm, ⟨5, _⟩ => ⟨S4x3072, .f32⟩
  | .hbm, ⟨6, _⟩ => ⟨S8x4096x3072, .bf16⟩
  | .hbm, ⟨7, _⟩ => ⟨S8x4096x1024, .bf16⟩
  | .hbm, ⟨8, _⟩ => ⟨S8x4096x16, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x4096, .bf16⟩
  | .local _ .vmem, ⟨6, _⟩ => ⟨S1024x16, .bf16⟩
  | .local _ .vmem, ⟨7, _⟩ => ⟨S4x3072, .f32⟩
  | .local _ .vmem, ⟨8, _⟩ => ⟨S1x512x3072, .bf16⟩
  | .local _ .vmem, ⟨9, _⟩ => ⟨S1x512x3072, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x16, .f32⟩
  | .local _ .vmem, ⟨13, _⟩ => ⟨S1x512x16, .f32⟩
  | .local _ .vmem, ⟨14, _⟩ => ⟨S520x3072, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8x4096x1024 : Shape := ⟨3, ![8, 4096, 1024]⟩
abbrev S8x1x6144 : Shape := ⟨3, ![8, 1, 6144]⟩
abbrev S1x1024 : Shape := ⟨2, ![1, 1024]⟩
abbrev S1024x4096 : Shape := ⟨2, ![1024, 4096]⟩
abbrev S1024x16 : Shape := ⟨2, ![1024, 16]⟩
abbrev S4x3072 : Shape := ⟨2, ![4, 3072]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S8x4096x3072 : Shape := ⟨3, ![8, 4096, 3072]⟩
abbrev S8x4099x3072 : Shape := ⟨3, ![8, 4099, 3072]⟩
abbrev S1x3072 : Shape := ⟨2, ![1, 3072]⟩
abbrev S3072 : Shape := ⟨1, ![3072]⟩
abbrev S1x1x3072 : Shape := ⟨3, ![1, 1, 3072]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S8x4096x16 : Shape := ⟨3, ![8, 4096, 16]⟩

abbrev nBuf : Space → Nat
  | .hbm => 121
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x6144, .f32⟩
  | .hbm, ⟨2, _⟩ => ⟨S1x1024, .f32⟩
  | .hbm, ⟨3, _⟩ => ⟨S1024x4096, .bf16⟩
  | .hbm, ⟨4, _⟩ => ⟨S1024x16, .bf16⟩
  | .hbm, ⟨5, _⟩ => ⟨S4x3072, .f32⟩
  | .hbm, ⟨6, _⟩ => ⟨S1024x4096, .f32⟩
  | .hbm, ⟨7, _⟩ => ⟨S1024x16, .f32⟩
  | .hbm, ⟨8, _⟩ => ⟨S8x1x1024, .f32⟩
  | .hbm, ⟨9, _⟩ => ⟨S8x1x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x4096, .f32⟩
  | .hbm, ⟨34, _⟩ => ⟨S8x4096x3072, .f32⟩
  | .hbm, ⟨35, _⟩ => ⟨S_, .i32⟩
  | .hbm, ⟨36, _⟩ => ⟨S_, .f32⟩
  | .hbm, ⟨37, _⟩ => ⟨S8x4099x3072, .f32⟩
  | .hbm, ⟨38, _⟩ => ⟨S8x4096x3072, .f32⟩
  | .hbm, ⟨39, _⟩ => ⟨S1x3072, .f32⟩
  | .hbm, ⟨40, _⟩ => ⟨S3072, .f32⟩
  | .hbm, ⟨41, _⟩ => ⟨S1x1x3072, .f32⟩
  | .hbm, ⟨42, _⟩ => ⟨S8x4096x3072, .f32⟩
  | .hbm, ⟨43, _⟩ => ⟨S8x4096x3072, .f32⟩
  | .hbm, ⟨44, _⟩ => ⟨S_, .f32⟩
  | .hbm, ⟨45, _⟩ => ⟨S8x4096x3072, .f32⟩
  | .hbm, ⟨46, _⟩ => ⟨S8x4096x3072, .f32⟩
  | .hbm, ⟨47, _⟩ => ⟨S8x4096x3072, .f32⟩
  | .hbm, ⟨48, _⟩ => ⟨S1x3072, .f32⟩
  | .hbm, ⟨49, _⟩ => ⟨S3072, .f32⟩
  | .hbm, ⟨50, _⟩ => ⟨S1x1x3072, .f32⟩
  | .hbm, ⟨51, _⟩ => ⟨S8x4096x3072, .f32⟩
  | .hbm, ⟨52, _⟩ => ⟨S8x4096x3072, .f32⟩
  | .hbm, ⟨53, _⟩ => ⟨S8x4096x3072, .f32⟩
  | .hbm, ⟨54, _⟩ => ⟨S8x4096x3072, .f32⟩
  | .hbm, ⟨55, _⟩ => ⟨S1x3072, .f32⟩
  | .hbm, ⟨56, _⟩ => ⟨S3072, .f32⟩
  | .hbm, ⟨57, _⟩ => ⟨S1x1x3072, .f32⟩
  | .hbm, ⟨58, _⟩ => ⟨S8x4096x3072, .f32⟩
  | .hbm, ⟨59, _⟩ => ⟨S8x4096x3072, .f32⟩
  | .hbm, ⟨60, _⟩ => ⟨S8x4096x3072, .f32⟩
  | .hbm, ⟨61, _⟩ => ⟨S8x4096x3072, .f32⟩
  | .hbm, ⟨62, _⟩ => ⟨S1x3072, .f32⟩
  | .hbm, ⟨63, _⟩ => ⟨S3072, .f32⟩
  | .hbm, ⟨64, _⟩ => ⟨S1x1x3072, .f32⟩
  | .hbm, ⟨65, _⟩ => ⟨S8x4096x3072, .f32⟩
  | .hbm, ⟨66, _⟩ => ⟨S8x4096x3072, .f32⟩
  | .hbm, ⟨67, _⟩ => ⟨S8x4096x3072, .f32⟩
  | .hbm, ⟨68, _⟩ => ⟨S8x4096x3072, .f32⟩
  | .hbm, ⟨69, _⟩ => ⟨S8x4096x3072, .f32⟩
  | .hbm, ⟨70, _⟩ => ⟨S_, .f32⟩
  | .hbm, ⟨71, _⟩ => ⟨S8x4096x3072, .f32⟩
  | .hbm, ⟨72, _⟩ => ⟨S8x4096x3072, .f32⟩
  | .hbm, ⟨73, _⟩ => ⟨S_, .f32⟩
  | .hbm, ⟨74, _⟩ => ⟨S8x4096x3072, .f32⟩
  | .hbm, ⟨75, _⟩ => ⟨S8x4096x3072, .f32⟩
  | .hbm, ⟨76, _⟩ => ⟨S8x4096x3072, .f32⟩
  | .hbm, ⟨77, _⟩ => ⟨S8x4096x1024, .f32⟩
  | .hbm, ⟨78, _⟩ => ⟨S8x4096x8x128, .f32⟩
  | .hbm, ⟨79, _⟩ => ⟨S8x4096x8x128, .f32⟩
  | .hbm, ⟨80, _⟩ => ⟨S_, .f32⟩
  | .hbm, ⟨81, _⟩ => ⟨S8x4096x8, .f32⟩
  | .hbm, ⟨82, _⟩ => ⟨S8x4096x8x1, .f32⟩
  | .hbm, ⟨83, _⟩ => ⟨S_, .f32⟩
  | .hbm, ⟨84, _⟩ => ⟨S8x4096x8x1, .f32⟩
  | .hbm, ⟨85, _⟩ => ⟨S8x4096x8x1, .f32⟩
  | .hbm, ⟨86, _⟩ => ⟨S8x4096x8x1, .f32⟩
  | .hbm, ⟨87, _⟩ => ⟨S8x4096x8x128, .f32⟩
  | .hbm, ⟨88, _⟩ => ⟨S8x4096x8x128, .f32⟩
  | .hbm, ⟨89, _⟩ => ⟨S_, .f32⟩
  | .hbm, ⟨90, _⟩ => ⟨S8x4096x8x128, .f32⟩
  | .hbm, ⟨91, _⟩ => ⟨S8x4096x8x128, .f32⟩
  | .hbm, ⟨92, _⟩ => ⟨S8x4096x1024, .f32⟩
  | .hbm, ⟨93, _⟩ => ⟨S8x4096x1024, .f32⟩
  | .hbm, ⟨94, _⟩ => ⟨S8x4096x8x128, .f32⟩
  | .hbm, ⟨95, _⟩ => ⟨S8x4096x8x128, .f32⟩
  | .hbm, ⟨96, _⟩ => ⟨S_, .f32⟩
  | .hbm, ⟨97, _⟩ => ⟨S8x4096x8, .f32⟩
  | .hbm, ⟨98, _⟩ => ⟨S8x4096x8x1, .f32⟩
  | .hbm, ⟨99, _⟩ => ⟨S_, .f32⟩
  | .hbm, ⟨100, _⟩ => ⟨S8x4096x8x1, .f32⟩
  | .hbm, ⟨101, _⟩ => ⟨S8x4096x8x1, .f32⟩
  | .hbm, ⟨102, _⟩ => ⟨S8x4096x8x1, .f32⟩
  | .hbm, ⟨103, _⟩ => ⟨S8x4096x8x128, .f32⟩
  | .hbm, ⟨104, _⟩ => ⟨S8x4096x8x128, .f32⟩
  | .hbm, ⟨105, _⟩ => ⟨S8x4096x1024, .f32⟩
  | .hbm, ⟨106, _⟩ => ⟨S8x4096x1024, .f32⟩
  | .hbm, ⟨107, _⟩ => ⟨S8x4096x3072, .f32⟩
  | .hbm, ⟨108, _⟩ => ⟨S8x4096x3072, .bf16⟩
  | .hbm, ⟨109, _⟩ => ⟨S8x4096x1024, .f32⟩
  | .hbm, ⟨110, _⟩ => ⟨S8x4096x1024, .f32⟩
  | .hbm, ⟨111, _⟩ => ⟨S8x4096x1024, .f32⟩
  | .hbm, ⟨112, _⟩ => ⟨S_, .f32⟩
  | .hbm, ⟨113, _⟩ => ⟨S8x4096x1024, .f32⟩
  | .hbm, ⟨114, _⟩ => ⟨S8x4096x1024, .f32⟩
  | .hbm, ⟨115, _⟩ => ⟨S_, .f32⟩
  | .hbm, ⟨116, _⟩ => ⟨S8x4096x1024, .f32⟩
  | .hbm, ⟨117, _⟩ => ⟨S8x4096x1024, .f32⟩
  | .hbm, ⟨118, _⟩ => ⟨S8x4096x1024, .f32⟩
  | .hbm, ⟨119, _⟩ => ⟨S8x4096x1024, .bf16⟩
  | .hbm, ⟨120, _⟩ => ⟨S8x4096x16, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_4 : Ref sig .tc := ⟨.hbm, 80, rfl⟩
abbrev main_v59 : Ref sig .tc := ⟨.hbm, 81, rfl⟩
abbrev main_v60 : Ref sig .tc := ⟨.hbm, 82, rfl⟩
abbrev main_cst_5 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_6 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_7 : Ref sig .tc := ⟨.hbm, 96, rfl⟩
abbrev main_v72 : Ref sig .tc := ⟨.hbm, 97, rfl⟩
abbrev main_v73 : Ref sig .tc := ⟨.hbm, 98, rfl⟩
abbrev main_cst_8 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_call2_v0 : Ref sig .tc := ⟨.hbm, 110, rfl⟩
abbrev main_call2_v1 : Ref sig .tc := ⟨.hbm, 111, rfl⟩
abbrev main_call2_cst : Ref sig .tc := ⟨.hbm, 112, rfl⟩
abbrev main_call2_v2 : Ref sig .tc := ⟨.hbm, 113, rfl⟩
abbrev main_call2_v3 : Ref sig .tc := ⟨.hbm, 114, rfl⟩
abbrev main_call2_cst_0 : Ref sig .tc := ⟨.hbm, 115, rfl⟩
abbrev main_call2_v4 : Ref sig .tc := ⟨.hbm, 116, rfl⟩
abbrev main_call2_v5 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]
-- ==== Proof.FoxOps.lean ====
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.LoopRemainder
public import Idealize.ShloMosaic.Lib.Tactic
public import Idealize.ShloMosaic.Lib.Pointwise

@[expose] public section

set_option maxRecDepth 16384

noncomputable section

namespace Cert.Fox.KI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! The functions one grid point of the attention computes, over any float operations: the operands' windows, one
key block's scores, and the online softmax's step over four chunks of 128 queries for each of two heads. -/

section Ops
variable {F : FTy → Type} [FloatOps F]

/-- Key block `k` of head `h` of the staged keys. -/
def KA (X4 : S1x2x4096x128.Idx → Elt F .bf16) (h : Fin 2) (k : ℕ) : Vec F S1x1x512x128 .bf16 :=
  fun y => X4 (ix4 (0 : Fin 1) h (⟨(512 * k + (y 2).val) % 4096, Nat.mod_lt _ (by decide)⟩ : Fin 4096) (y 3))
/-- Key block `k` of head `h` of the staged values. -/
def VT (X5 : S1x2x128x4096.Idx → Elt F .bf16) (h : Fin 2) (k : ℕ) : Vec F S1x1x128x512 .bf16 :=
  fun y => X5 (ix4 (0 : Fin 1) h (y 2) (⟨(512 * k + (y 3).val) % 4096, Nat.mod_lt _ (by decide)⟩ : Fin 4096))
/-- Half `g` of the staged queries of head `h`. -/
def QT (X3 : S1x2x128x512.Idx → Elt F .bf16) (h : Fin 2) (g : Fin 2) : Vec F S1x1x128x256 .bf16 :=
  fun y => X3 (ix4 (0 : Fin 1) h (y 2) (⟨256 * g.val + (y 3).val, by have := (y 3).isLt; have : (y 3).val < 256 := this; omega⟩ : Fin 512))

/-- Scores of key block `k` against the four query chunks, as they are stored. -/
def SC (X3 : S1x2x128x512.Idx → Elt F .bf16) (X4 : S1x2x4096x128.Idx → Elt F .bf16) (k : ℕ) (h : Fin 2) : Fin 4 → Vec F S1x1x1x512x128 .f32 :=
  ![k0_pay5 (KA X4 h k) (QT X3 h 0), k0_pay6 (KA X4 h k) (QT X3 h 0), k0_pay5 (KA X4 h k) (QT X3 h 1), k0_pay6 (KA X4 h k) (QT X3 h 1)]

/-- A stored chunk as a matrix of 512 keys by 128 queries. -/
def SH (x : Vec F S1x1x1x512x128 .f32) : FVec F S512x128 .f32 := shapeCast S512x128 x shapeCasts_S1x1x1x512x128_S512x128

/-- The causal mask of the diagonal block for chunk `c`. -/
def MK (c : BitVec 32) (s : FVec F S512x128 .f32) : FVec F S512x128 .f32 :=
  select (cmpi .sle (iota .tc S512x128 32 [0] iota_S512x128_d0_w32) (addi (iota .tc S512x128 32 [1] iota_S512x128_d1_w32) (broadcast S512x128 c))) s
    (broadcast S512x128 (Scalar.ofBits .f32 0xFF800000#32))

/-- The running maxima of chunk `c`. -/
def MSL (m : FVec F S1x512 .f32) : Fin 4 → FVec F S1x128 .f32 :=
  ![extractStridedSlice S1x128 ![0, 0] m slices_S1x512_o0_0_S1x128, extractStridedSlice S1x128 ![0, 128] m slices_S1x512_o0_128_S1x128,
    extractStridedSlice S1x128 ![0, 256] m slices_S1x512_o0_256_S1x128, extractStridedSlice S1x128 ![0, 384] m slices_S1x512_o0_384_S1x128]

/-- The maximum of a chunk over its keys, taken with the running maximum. -/
def MN (m : FVec F S1x128 .f32) (s : FVec F S512x128 .f32) : FVec F S1x128 .f32 :=
  maximumf m (shapeCast S1x128 (multiReduction .maximumf [0] S128
    (maximumf
      (maximumf
        (maximumf (extractStridedSlice S64x128 ![0, 0] s slices_S512x128_o0_0_S64x128) (extractStridedSlice S64x128 ![64, 0] s slices_S512x128_o64_0_S64x128))
        (maximumf (extractStridedSlice S64x128 ![128, 0] s slices_S512x128_o128_0_S64x128) (extractStridedSlice S64x128 ![192, 0] s slices_S512x128_o192_0_S64x128)))
      (maximumf
        (maximumf (extractStridedSlice S64x128 ![256, 0] s slices_S512x128_o256_0_S64x128) (extractStridedSlice S64x128 ![320, 0] s slices_S512x128_o320_0_S64x128))
        (maximumf (extractStridedSlice S64x128 ![384, 0] s slices_S512x128_o384_0_S64x128) (extractStridedSlice S64x128 ![448, 0] s slices_S512x128_o448_0_S64x128))))
    0xFF800000#32 reduces_S64x128_S128 (.inl rfl) rfl) shapeCasts_S128_S1x128)

/-- The weights of a chunk relative to the new maximum. -/
def PE (m : FVec F S1x128 .f32) (s : FVec F S512x128 .f32) : FVec F S1x1x512x128 .bf16 :=
  shapeCast S1x1x512x128 (truncf .bf16 (exp (subf s (broadcastTo S512x128 (MN m s) broadcasts_S1x128_S512x128))) bitsLt_bf16_f32) shapeCasts_S512x128_S1x1x512x128

/-- The factor that brings the sums so far to the new maximum. -/
def AL (m : FVec F S1x128 .f32) (s : FVec F S512x128 .f32) : FVec F S1x128 .f32 := exp (subf m (MN m s))

/-- The weighted values of a key block added to the scaled sums, 256 queries at a time. -/
def UP (a0 a1 : FVec F S1x128 .f32) (p0 p1 : FVec F S1x1x512x128 .bf16) (acc : Vec F S1x128x256 .f32) (vt : Vec F S1x1x128x512 .bf16) : FVec F S1x128x256 .f32 :=
  shapeCast S1x128x256
    (addf
      (mulf (broadcastTo S128x256 (concatenate S1x256 1 [⟨S1x128, a0⟩, ⟨S1x128, a1⟩] concatenates_S1x128_S1x128_S1x256_d1) broadcasts_S1x256_S128x256)
        (shapeCast S128x256 acc shapeCasts_S1x128x256_S128x256))
      (matmul dot_S128x512_S512x256_S128x256_1_0_0_1_n_n none (shapeCast S128x512 vt shapeCasts_S1x1x128x512_S128x512)
        (concatenate S512x256 1 [⟨S512x128, shapeCast S512x128 p0 shapeCasts_S1x1x512x128_S512x128⟩, ⟨S512x128, shapeCast S512x128 p1 shapeCasts_S1x1x512x128_S512x128⟩]
          concatenates_S512x128_S512x128_S512x256_d1)
        (constant S128x256 .f32 0x00000000#32)))
    shapeCasts_S128x256_S1x128x256

/-- The step of chunks `c0` and `c1`, next to each other. -/
def UPD (m : FVec F S1x512 .f32) (S : Fin 4 → FVec F S512x128 .f32) (c0 c1 : Fin 4) (acc : Vec F S1x128x256 .f32) (vt : Vec F S1x1x128x512 .bf16) : FVec F S1x128x256 .f32 :=
  UP (AL (MSL m c0) (S c0)) (AL (MSL m c1) (S c1)) (PE (MSL m c0) (S c0)) (PE (MSL m c1) (S c1)) acc vt

/-- The new running maxima of the four chunks. -/
def MROW (m : FVec F S1x512 .f32) (S : Fin 4 → FVec F S512x128 .f32) : FVec F S1x512 .f32 :=
  concatenate S1x512 1 [⟨S1x128, MN (MSL m 0) (S 0)⟩, ⟨S1x128, MN (MSL m 1) (S 1)⟩, ⟨S1x128, MN (MSL m 2) (S 2)⟩, ⟨S1x128, MN (MSL m 3) (S 3)⟩]
    concatenates_S1x128_S1x128_S1x128_S1x128_S1x512_d1

/-- The scores of block `k` as matrices. -/
def SS (X3 : S1x2x128x512.Idx → Elt F .bf16) (X4 : S1x2x4096x128.Idx → Elt F .bf16) (k : ℕ) (h : Fin 2) : Fin 4 → FVec F S512x128 .f32 :=
  fun c => SH (SC X3 X4 k h c)

/-- The running maxima before block `k`. -/
def MX (X3 : S1x2x128x512.Idx → Elt F .bf16) (X4 : S1x2x4096x128.Idx → Elt F .bf16) (h : Fin 2) : ℕ → FVec F S1x512 .f32
  | 0 => k0_pay443
  | k + 1 => MROW (MX X3 X4 h k) (SS X3 X4 k h)

/-- The first of the two chunks of half `g`. -/
def lo (g : Fin 2) : Fin 4 := ![0, 2] g
/-- The second of the two chunks of half `g`. -/
def hi (g : Fin 2) : Fin 4 := ![1, 3] g

/-- The weighted sums before block `k`. -/
def AC (X3 : S1x2x128x512.Idx → Elt F .bf16) (X4 : S1x2x4096x128.Idx → Elt F .bf16) (X5 : S1x2x128x4096.Idx → Elt F .bf16) (h g : Fin 2) : ℕ → FVec F S1x128x256 .f32
  | 0 => fun _ => Scalar.ofBits .f32 0x00000000#32
  | k + 1 => UPD (MX X3 X4 h k) (SS X3 X4 k h) (lo g) (hi g) (AC X3 X4 X5 h g k) (VT X5 h k)

/-- The masked scores of the diagonal block `n`. -/
def ST (X3 : S1x2x128x512.Idx → Elt F .bf16) (X4 : S1x2x4096x128.Idx → Elt F .bf16) (n : ℕ) (h : Fin 2) : Fin 4 → FVec F S512x128 .f32 :=
  fun c => MK (![0#32, 128#32, 256#32, 384#32] c) (SS X3 X4 n h c)

/-- The weighted sums after the diagonal block. -/
def AF (X3 : S1x2x128x512.Idx → Elt F .bf16) (X4 : S1x2x4096x128.Idx → Elt F .bf16) (X5 : S1x2x128x4096.Idx → Elt F .bf16) (n : ℕ) (h g : Fin 2) : FVec F S1x128x256 .f32 :=
  UPD (MX X3 X4 h n) (ST X3 X4 n h) (lo g) (hi g) (AC X3 X4 X5 h g n) (VT X5 h n)

/-- The two halves side by side. -/
def JN (a : Fin 2 → FVec F S1x128x256 .f32) : Vec F S1x128x512 .f32 :=
  fun y => if h : (y 2).val < 256 then a 0 (ix3 (0 : Fin 1) (y 1) (⟨(y 2).val, h⟩ : Fin 256))
    else a 1 (ix3 (0 : Fin 1) (y 1) (⟨(y 2).val - 256, by have : (y 2).val < 512 := (y 2).isLt; omega⟩ : Fin 256))

/-- What grid point `n` along the queries writes. -/
def OUT (X3 : S1x2x128x512.Idx → Elt F .bf16) (X4 : S1x2x4096x128.Idx → Elt F .bf16) (X5 : S1x2x128x4096.Idx → Elt F .bf16) (X6 : S1x512x128.Idx → Elt F .bf16) (n : ℕ) :
    FVec F S1x512x128 .bf16 :=
  k0_pay3 (JN (AF X3 X4 X5 n 0)) (JN (AF X3 X4 X5 n 1)) X6
end Ops

/-! ## The grid's words -/

theorem i2_lt (i : grid0.Coords) : (i 2).val < 8 := (i 2).isLt
theorem trips_le (i : grid0.Coords) : (k0_t1_loop i).trips = (i 2).val := by
  have key : ∀ n : Fin 8, Scf.trips 0#32 (Scalar.addi 0#32 (Scalar.muli (Scalar.divsi (Scalar.subi (BitVec.ofNat 32 n.val) 0#32) 1#32) 1#32)) 1#32 = n.val := by decide +kernel
  exact key ⟨(i 2).val, i2_lt i⟩
theorem k_lt (i : grid0.Coords) (k : Fin (k0_t1_loop i).trips) : k.val < 7 := by
  have := k.isLt; have h := trips_le i; have := i2_lt i; omega

end Cert.Fox.KI
end
-- ==== Proof.FoxFacts.lean ====
module

public import proofs.«01_k».proof.Proof.FoxOps
public import Idealize.ShloMosaic.Lib.VecWindow
public import Idealize.ShloMosaic.Lib.WritesUnit
public import Idealize.ShloMosaic.Lib.Pipeline.FrameBody
public import Idealize.ShloMosaic.Lib.ValueIdxCoords
@[expose] public section

set_option maxRecDepth 16384

noncomputable section

namespace Cert.Fox.KI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! The conditions and offsets of the loop and of the diagonal block, as numbers. -/

theorem cond1_iff (i : grid0.Coords) (k : Fin (k0_t1_loop i).trips) : k0_cond1 i k = 1#1 ↔ k.val % 2 = 0 := by
  unfold k0_cond1
  have h := k_lt i k
  generalize k.val = n at h ⊢
  interval_cases n <;> decide +kernel

theorem cond3_iff (i : grid0.Coords) : k0_cond3 i = 1#1 ↔ (i 2).val % 2 = 0 := by
  unfold k0_cond3
  have h := i2_lt i
  generalize (i 2).val = n at h ⊢
  interval_cases n <;> decide +kernel

theorem off1_eq (i : grid0.Coords) (k : Fin (k0_t1_loop i).trips) : k0_off1 i k = ![0, 0, 512 * (k.val + 1), 0] := by
  unfold k0_off1
  have h := k_lt i k
  generalize k.val = n at h ⊢
  interval_cases n <;> decide +kernel

theorem off2_eq (i : grid0.Coords) (k : Fin (k0_t1_loop i).trips) : k0_off2 i k = ![0, 1, 512 * (k.val + 1), 0] := by
  unfold k0_off2
  have h := k_lt i k
  generalize k.val = n at h ⊢
  interval_cases n <;> decide +kernel

theorem off5_eq (i : grid0.Coords) (k : Fin (k0_t1_loop i).trips) : k0_off5 i k = ![0, 0, 512 * (k.val + 1), 0] := by
  unfold k0_off5
  have h := k_lt i k
  generalize k.val = n at h ⊢
  interval_cases n <;> decide +kernel

theorem off6_eq (i : grid0.Coords) (k : Fin (k0_t1_loop i).trips) : k0_off6 i k = ![0, 1, 512 * (k.val + 1), 0] := by
  unfold k0_off6
  have h := k_lt i k
  generalize k.val = n at h ⊢
  interval_cases n <;> decide +kernel

theorem off3_eq (i : grid0.Coords) (k : Fin (k0_t1_loop i).trips) : k0_off3 i k = ![0, 0, 0, 512 * k.val] := by
  unfold k0_off3
  have h := k_lt i k
  generalize k.val = n at h ⊢
  interval_cases n <;> decide +kernel

theorem off4_eq (i : grid0.Coords) (k : Fin (k0_t1_loop i).trips) : k0_off4 i k = ![0, 1, 0, 512 * k.val] := by
  unfold k0_off4
  have h := k_lt i k
  generalize k.val = n at h ⊢
  interval_cases n <;> decide +kernel

theorem off7_eq (i : grid0.Coords) (k : Fin (k0_t1_loop i).trips) : k0_off7 i k = ![0, 0, 0, 512 * k.val] := by
  unfold k0_off7
  have h := k_lt i k
  generalize k.val = n at h ⊢
  interval_cases n <;> decide +kernel

theorem off8_eq (i : grid0.Coords) (k : Fin (k0_t1_loop i).trips) : k0_off8 i k = ![0, 1, 0, 512 * k.val] := by
  unfold k0_off8
  have h := k_lt i k
  generalize k.val = n at h ⊢
  interval_cases n <;> decide +kernel

theorem off17_eq (i : grid0.Coords) : k0_off17 i = ![0, 0, 0, 512 * (i 2).val] := by
  unfold k0_off17
  have h := i2_lt i
  generalize (i 2).val = n at h ⊢
  interval_cases n <;> decide +kernel

theorem off18_eq (i : grid0.Coords) : k0_off18 i = ![0, 1, 0, 512 * (i 2).val] := by
  unfold k0_off18
  have h := i2_lt i
  generalize (i 2).val = n at h ⊢
  interval_cases n <;> decide +kernel

theorem off19_eq (i : grid0.Coords) : k0_off19 i = ![0, 0, 0, 512 * (i 2).val] := by
  unfold k0_off19
  have h := i2_lt i
  generalize (i 2).val = n at h ⊢
  interval_cases n <;> decide +kernel

theorem off20_eq (i : grid0.Coords) : k0_off20 i = ![0, 1, 0, 512 * (i 2).val] := by
  unfold k0_off20
  have h := i2_lt i
  generalize (i 2).val = n at h ⊢
  interval_cases n <;> decide +kernel

/-! ## Loads of the operands -/

section Reads
variable {F : FTy → Type} [FloatOps F]

theorem rd_qt (v : View sig .tc .vmem S1x2x128x512 .bf16) (X : S1x2x128x512.Idx → Elt F .bf16) (h g : Fin 2) (off : Fin 4 → ℕ)
    (hoff : off = ![0, h.val, 0, 256 * g.val]) (inb) :
    v.readAt (Elt F) (Rect.unit (s := S1x2x128x512) off S1x1x128x256.size inb).toLoadRect (v.rep X) = QT X h g := by
  subst hoff
  rw [View.readAt_rep_unit v X inb rfl inb]
  funext y
  refine congrArg X (funext fun e => Fin.ext ?_)
  have h0 : (y 0).val < 1 := (y 0).isLt
  have h1 : (y 1).val < 1 := (y 1).isLt
  fin_cases e
  · show 0 + 1 * (y 0).val = 0; omega
  · show h.val + 1 * (y 1).val = h.val; omega
  · show 0 + 1 * (y 2).val = (y 2).val; omega
  · show 256 * g.val + 1 * (y 3).val = 256 * g.val + (y 3).val; omega

theorem rd_ka (v : View sig .tc .vmem S1x2x4096x128 .bf16) (X : S1x2x4096x128.Idx → Elt F .bf16) (h : Fin 2) (k : ℕ) (off : Fin 4 → ℕ)
    (hoff : off = ![0, h.val, 512 * k, 0]) (inb) :
    v.readAt (Elt F) (Rect.unit (s := S1x2x4096x128) off S1x1x512x128.size inb).toLoadRect (v.rep X) = KA X h k := by
  subst hoff
  rw [View.readAt_rep_unit v X inb rfl inb]
  have hk : 512 * k + 512 ≤ 4096 := inb 2
  funext y
  refine congrArg X (funext fun e => Fin.ext ?_)
  have h0 : (y 0).val < 1 := (y 0).isLt
  have h1 : (y 1).val < 1 := (y 1).isLt
  have hy : (y 2).val < 512 := (y 2).isLt
  fin_cases e
  · show 0 + 1 * (y 0).val = 0; omega
  · show h.val + 1 * (y 1).val = h.val; omega
  · show 512 * k + 1 * (y 2).val = (512 * k + (y 2).val) % 4096; omega
  · show 0 + 1 * (y 3).val = (y 3).val; omega

theorem rd_vt (v : View sig .tc .vmem S1x2x128x4096 .bf16) (X : S1x2x128x4096.Idx → Elt F .bf16) (h : Fin 2) (k : ℕ) (off : Fin 4 → ℕ)
    (hoff : off = ![0, h.val, 0, 512 * k]) (inb) :
    v.readAt (Elt F) (Rect.unit (s := S1x2x128x4096) off S1x1x128x512.size inb).toLoadRect (v.rep X) = VT X h k := by
  subst hoff
  rw [View.readAt_rep_unit v X inb rfl inb]
  have hk : 512 * k + 512 ≤ 4096 := inb 3
  funext y
  refine congrArg X (funext fun e => Fin.ext ?_)
  have h0 : (y 0).val < 1 := (y 0).isLt
  have h1 : (y 1).val < 1 := (y 1).isLt
  have hy : (y 3).val < 512 := (y 3).isLt
  fin_cases e
  · show 0 + 1 * (y 0).val = 0; omega
  · show h.val + 1 * (y 1).val = h.val; omega
  · show 0 + 1 * (y 2).val = (y 2).val; omega
  · show 512 * k + 1 * (y 3).val = (512 * k + (y 3).val) % 4096; omega
end Reads

end Cert.Fox.KI
end
-- ==== Proof.FoxReads.lean ====
module

public import proofs.«01_k».proof.Proof.FoxFacts
@[expose] public section

set_option maxRecDepth 16384

noncomputable section

namespace Cert.Fox.KI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! Blocks of the scratch buffers: what a write leaves at each of them, and what a load of one reads. -/

section Reads
variable {F : FTy → Type} [FloatOps F]
local notation "𝕄" => MT nD τ sig Unit (Elt F) ℕ (UR sig nD τ) ℕ

/-- Chunk `c` of head `h` in slot `s` of the scores' buffer. -/
def BK8 (v : View sig .tc .vmem S2x2x4x512x128 .f32) (f : v.ty.Contents (Elt F)) (s h : Fin 2) (c : Fin 4) : Vec F S1x1x1x512x128 .f32 :=
  fun y => v.read (Elt F) f (ix5 s h c (y 3) (y 4))

theorem rd8 (v : View sig .tc .vmem S2x2x4x512x128 .f32) (f : v.ty.Contents (Elt F)) (s h : Fin 2) (c : Fin 4) (off : Fin 5 → ℕ)
    (hoff : off = ![s.val, h.val, c.val, 0, 0]) (inb) :
    v.readAt (Elt F) (Rect.unit (s := S2x2x4x512x128) off S1x1x1x512x128.size inb).toLoadRect f = BK8 v f s h c := by
  subst hoff
  rw [View.readAt_unit v f inb rfl inb]
  funext y
  refine congrArg (v.read (Elt F) f) (funext fun e => Fin.ext ?_)
  have h0 : (y 0).val < 1 := (y 0).isLt
  have h1 : (y 1).val < 1 := (y 1).isLt
  have h2 : (y 2).val < 1 := (y 2).isLt
  fin_cases e
  · show s.val + 1 * (y 0).val = s.val; omega
  · show h.val + 1 * (y 1).val = h.val; omega
  · show c.val + 1 * (y 2).val = c.val; omega
  · show 0 + 1 * (y 3).val = (y 3).val; omega
  · show 0 + 1 * (y 4).val = (y 4).val; omega

theorem wr8 (v : View sig .tc .vmem S2x2x4x512x128 .f32) (f : v.ty.Contents (Elt F)) (s h : Fin 2) (c : Fin 4) (a b d : ℕ) (inb)
    (w : Vec F S1x1x1x512x128 .f32) (L : List (View.Piece (Elt F) S2x2x4x512x128 .f32)) :
    BK8 v (v.writes (Elt F) f (⟨Rect.unit (s := S2x2x4x512x128) ![a, b, d, 0, 0] S1x1x1x512x128.size inb, w⟩ :: L)) s h c
      = if s.val = a ∧ h.val = b ∧ c.val = d then w else BK8 v (v.writes (Elt F) f L) s h c := by
  funext y
  have h0 : (y 0).val < 1 := (y 0).isLt
  have h1 : (y 1).val < 1 := (y 1).isLt
  have h2 : (y 2).val < 1 := (y 2).isLt
  by_cases hc : s.val = a ∧ h.val = b ∧ c.val = d
  · rw [if_pos hc]
    refine View.read_writes_cons_unit_of_mem v f inb w L _ y rfl fun e => ?_
    fin_cases e
    · show s.val = a + (y 0).val; omega
    · show h.val = b + (y 1).val; omega
    · show c.val = d + (y 2).val; omega
    · show (y 3).val = 0 + (y 3).val; omega
    · show (y 4).val = 0 + (y 4).val; omega
  · rw [if_neg hc]
    by_cases ha : s.val = a
    · by_cases hb : h.val = b
      · have hd : c.val ≠ d := fun hd => hc ⟨ha, hb, hd⟩
        exact View.read_writes_cons_unit_of_not_mem v f inb w L _ rfl 2 (by show c.val < d ∨ d + 1 ≤ c.val; omega)
      · exact View.read_writes_cons_unit_of_not_mem v f inb w L _ rfl 1 (by show h.val < b ∨ b + 1 ≤ h.val; omega)
    · exact View.read_writes_cons_unit_of_not_mem v f inb w L _ rfl 0 (by show s.val < a ∨ a + 1 ≤ s.val; omega)

/-- Half `g` of head `h` of the sums' buffer. -/
def BK10 (v : View sig .tc .vmem S2x128x512 .f32) (f : v.ty.Contents (Elt F)) (h g : Fin 2) : Vec F S1x128x256 .f32 :=
  fun y => v.read (Elt F) f (ix3 h (y 1) (⟨256 * g.val + (y 2).val, by have : (y 2).val < 256 := (y 2).isLt; omega⟩ : Fin 512))

theorem rd10 (v : View sig .tc .vmem S2x128x512 .f32) (f : v.ty.Contents (Elt F)) (h g : Fin 2) (off : Fin 3 → ℕ)
    (hoff : off = ![h.val, 0, 256 * g.val]) (inb) :
    v.readAt (Elt F) (Rect.unit (s := S2x128x512) off S1x128x256.size inb).toLoadRect f = BK10 v f h g := by
  subst hoff
  rw [View.readAt_unit v f inb rfl inb]
  funext y
  refine congrArg (v.read (Elt F) f) (funext fun e => Fin.ext ?_)
  have h0 : (y 0).val < 1 := (y 0).isLt
  fin_cases e
  · show h.val + 1 * (y 0).val = h.val; omega
  · show 0 + 1 * (y 1).val = (y 1).val; omega
  · show 256 * g.val + 1 * (y 2).val = 256 * g.val + (y 2).val; omega

theorem wr10 (v : View sig .tc .vmem S2x128x512 .f32) (f : v.ty.Contents (Elt F)) (h g : Fin 2) (a b : ℕ) (b' : Fin 2) (hb' : b = 256 * b'.val) (inb)
    (w : Vec F S1x128x256 .f32) (L : List (View.Piece (Elt F) S2x128x512 .f32)) :
    BK10 v (v.writes (Elt F) f (⟨Rect.unit (s := S2x128x512) ![a, 0, b] S1x128x256.size inb, w⟩ :: L)) h g
      = if h.val = a ∧ g.val = b'.val then w else BK10 v (v.writes (Elt F) f L) h g := by
  subst hb'
  funext y
  have h0 : (y 0).val < 1 := (y 0).isLt
  have h2 : (y 2).val < 256 := (y 2).isLt
  by_cases hc : h.val = a ∧ g.val = b'.val
  · rw [if_pos hc]
    refine View.read_writes_cons_unit_of_mem v f inb w L _ y rfl fun e => ?_
    fin_cases e
    · show h.val = a + (y 0).val; omega
    · show (y 1).val = 0 + (y 1).val; omega
    · show 256 * g.val + (y 2).val = 256 * b'.val + (y 2).val; omega
  · rw [if_neg hc]
    by_cases ha : h.val = a
    · have hd : g.val ≠ b'.val := fun hd => hc ⟨ha, hd⟩
      exact View.read_writes_cons_unit_of_not_mem v f inb w L _ rfl 2
        (by show 256 * g.val + (y 2).val < 256 * b'.val ∨ 256 * b'.val + 256 ≤ 256 * g.val + (y 2).val; omega)
    · exact View.read_writes_cons_unit_of_not_mem v f inb w L _ rfl 0 (by show h.val < a ∨ a + 1 ≤ h.val; omega)

theorem wr10a (v : View sig .tc .vmem S2x128x512 .f32) (f : v.ty.Contents (Elt F)) (h g : Fin 2) (a : ℕ) (inb)
    (w : Vec F S1x128x256 .f32) (L : List (View.Piece (Elt F) S2x128x512 .f32)) :
    BK10 v (v.writes (Elt F) f (⟨Rect.unit (s := S2x128x512) ![a, 0, 0] S1x128x256.size inb, w⟩ :: L)) h g
      = if h.val = a ∧ g.val = 0 then w else BK10 v (v.writes (Elt F) f L) h g := wr10 v f h g a 0 0 rfl inb w L

theorem wr10b (v : View sig .tc .vmem S2x128x512 .f32) (f : v.ty.Contents (Elt F)) (h g : Fin 2) (a : ℕ) (inb)
    (w : Vec F S1x128x256 .f32) (L : List (View.Piece (Elt F) S2x128x512 .f32)) :
    BK10 v (v.writes (Elt F) f (⟨Rect.unit (s := S2x128x512) ![a, 0, 256] S1x128x256.size inb, w⟩ :: L)) h g
      = if h.val = a ∧ g.val = 1 then w else BK10 v (v.writes (Elt F) f L) h g := wr10 v f h g a 256 1 rfl inb w L

theorem rj10 (v : View sig .tc .vmem S2x128x512 .f32) (f : v.ty.Contents (Elt F)) (h : Fin 2) (off : Fin 3 → ℕ) (hoff : off = ![h.val, 0, 0]) (inb) :
    v.readAt (Elt F) (Rect.unit (s := S2x128x512) off S1x128x512.size inb).toLoadRect f = JN (BK10 v f h) := by
  subst hoff
  rw [View.readAt_unit v f inb rfl inb]
  funext y
  have h0 : (y 0).val < 1 := (y 0).isLt
  have h2 : (y 2).val < 512 := (y 2).isLt
  unfold JN
  by_cases hy : (y 2).val < 256
  · rw [dif_pos hy]
    refine congrArg (v.read (Elt F) f) (funext fun e => Fin.ext ?_)
    fin_cases e
    · show h.val + 1 * (y 0).val = h.val; omega
    · show 0 + 1 * (y 1).val = (y 1).val; omega
    · show 0 + 1 * (y 2).val = 256 * 0 + (y 2).val; omega
  · rw [dif_neg hy]
    refine congrArg (v.read (Elt F) f) (funext fun e => Fin.ext ?_)
    fin_cases e
    · show h.val + 1 * (y 0).val = h.val; omega
    · show 0 + 1 * (y 1).val = (y 1).val; omega
    · show 0 + 1 * (y 2).val = 256 * 1 + ((y 2).val - 256); omega

theorem all4 {p : Fin 4 → Prop} (h0 : p 0) (h1 : p 1) (h2 : p 2) (h3 : p 3) : ∀ c, p c := by
  intro c; fin_cases c <;> assumption
theorem all2 {p : Fin 2 → Prop} (h0 : p 0) (h1 : p 1) : ∀ c, p c := by
  intro c; fin_cases c <;> assumption

theorem rc9 (v : View sig .tc .vmem S2x4x512x128 .bf16) (a b a' b' : ℕ) (inb inb')
    (w : Vec F S1x1x512x128 .bf16) (L : List (View.Piece (Elt F) S2x4x512x128 .bf16)) :
    v.readCov (⟨Rect.unit (s := S2x4x512x128) ![a, b, 0, 0] S1x1x512x128.size inb, w⟩ :: L) (Rect.unit (s := S2x4x512x128) ![a', b', 0, 0] S1x1x512x128.size inb').toLoadRect
      = if a = a' ∧ b = b' then w else v.readCov L (Rect.unit (s := S2x4x512x128) ![a', b', 0, 0] S1x1x512x128.size inb').toLoadRect := by
  by_cases h : a = a' ∧ b = b'
  · rw [if_pos h]
    obtain ⟨rfl, rfl⟩ := h
    exact View.readCov_cons_toLoadRect (Val := Elt F) v (Rect.unit (s := S2x4x512x128) ![a, b, 0, 0] S1x1x512x128.size inb) w L
  · rw [if_neg h]
    refine View.readCov_cons_of_disjoint (Val := Elt F) v _ L _ (Finset.disjoint_left.mpr fun y hy hy' => ?_)
    rw [Rect.mem_set_unit] at hy
    have hy'' : y ∈ (Rect.unit (s := S2x4x512x128) ![a', b', 0, 0] S1x1x512x128.size inb').set := by
      simpa using hy'
    rw [Rect.mem_set_unit] at hy''
    have e1 : a ≤ (y 0).val ∧ (y 0).val < a + 1 := hy 0
    have e2 : b ≤ (y 1).val ∧ (y 1).val < b + 1 := hy 1
    have e3 : a' ≤ (y 0).val ∧ (y 0).val < a' + 1 := hy'' 0
    have e4 : b' ≤ (y 1).val ∧ (y 1).val < b' + 1 := hy'' 1
    omega

/-- What holds before trip `k`: the operands are as staged, slot `k mod 2` holds block `k`'s scores, and the running maxima and sums are
those of the blocks before `k`. -/
def INV (c : Dev nD) (arg3 : Memref sig .tc .vmem S1x2x128x512 .bf16) (arg4 : Memref sig .tc .vmem S1x2x4096x128 .bf16)
    (arg5 : Memref sig .tc .vmem S1x2x128x4096 .bf16) (arg8 : Memref sig .tc .vmem S2x2x4x512x128 .f32)
    (arg9 : Memref sig .tc .vmem S2x4x512x128 .bf16) (arg10 : Memref sig .tc .vmem S2x128x512 .f32)
    (X3 : S1x2x128x512.Idx → Elt F .bf16) (X4 : S1x2x4096x128.Idx → Elt F .bf16) (X5 : S1x2x128x4096.Idx → Elt F .bf16)
    (k : ℕ) (acc : FVec F S1x512 .f32 × FVec F S1x512 .f32) : sProp 𝕄 :=
  iprop((arg3.view.loc (c : Thread nD τ) ↦[arg3.view.set]{fullShare} arg3.view.rep X3)
    ∗ (arg4.view.loc (c : Thread nD τ) ↦[arg4.view.set]{fullShare} arg4.view.rep X4)
    ∗ (arg5.view.loc (c : Thread nD τ) ↦[arg5.view.set]{fullShare} arg5.view.rep X5)
    ∗ (∃ f8, ⌜∀ s : Fin 2, s.val = k % 2 → ∀ h d, BK8 arg8.view f8 s h d = SC X3 X4 k h d⌝ ∗ (arg8.view.loc (c : Thread nD τ) ↦[arg8.view.set]{fullShare} f8))
    ∗ (∃ f9, arg9.view.loc (c : Thread nD τ) ↦[arg9.view.set]{fullShare} f9)
    ∗ (∃ f10, ⌜∀ h g, BK10 arg10.view f10 h g = AC X3 X4 X5 h g k⌝ ∗ (arg10.view.loc (c : Thread nD τ) ↦[arg10.view.set]{fullShare} f10))
    ∗ ⌜acc = (MX X3 X4 0 k, MX X3 X4 1 k)⌝)
end Reads

end Cert.Fox.KI
end
-- ==== Proof.FoxTrip.lean ====
module

public import proofs.«01_k».proof.Proof.FoxReads
@[expose] public section

set_option maxRecDepth 16384

noncomputable section

namespace Cert.Fox.KI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! One trip of the loop, in each of its two arms. -/

section Trip
variable {F : FTy → Type} [FloatOps F]
local notation "𝕄" => MT nD τ sig Unit (Elt F) ℕ (UR sig nD τ) ℕ

theorem odd_of (i : grid0.Coords) (k : Fin (k0_t1_loop i).trips) (h : ¬ k0_cond1 i k = 1#1) : k.val % 2 = 1 := by
  have := (cond1_iff i k).not.mp h; omega

set_option maxHeartbeats 8000000 in
theorem trip_even (c : Dev nD) (i : grid0.Coords) (arg3 : Memref sig .tc .vmem S1x2x128x512 .bf16) (harg3 : arg3.IsWhole) (arg4 : Memref sig .tc .vmem S1x2x4096x128 .bf16) (harg4 : arg4.IsWhole) (arg5 : Memref sig .tc .vmem S1x2x128x4096 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S2x2x4x512x128 .f32) (harg8 : arg8.IsWhole) (arg9 : Memref sig .tc .vmem S2x4x512x128 .bf16) (harg9 : arg9.IsWhole) (arg10 : Memref sig .tc .vmem S2x128x512 .f32) (harg10 : arg10.IsWhole)
    (arg2 : BitVec 32) (v47 : FVec F S512x128 .f32) (k : Fin (k0_t1_loop i).trips) (hk : k0_cond1 i k = 1#1)
    (acc : FVec F S1x512 .f32 × FVec F S1x512 .f32)
    (X3 : S1x2x128x512.Idx → Elt F .bf16) (X4 : S1x2x4096x128.Idx → Elt F .bf16) (X5 : S1x2x128x4096.Idx → Elt F .bf16) :
    INV (F := F) c arg3 arg4 arg5 arg8 arg9 arg10 X3 X4 X5 k.val acc
    ⊢ wp frame (wpE (defs₀ (F := F)) Variants.none (c : Thread nD τ) none) Set.univ
        (k0_t1_body i arg3 harg3 arg4 harg4 arg5 harg5 arg6 harg6 arg7 harg7 arg8 harg8 arg9 harg9 arg10 harg10 arg2 v47 k acc)
        (fun a => INV (F := F) c arg3 arg4 arg5 arg8 arg9 arg10 X3 X4 X5 (k.val + 1) a) := by
  obtain ⟨a12, a13⟩ := acc
  unfold k0_t1_body
  unfold INV
  iintro ⟨H3, H4, H5, ⟨%f8, %h8, H8⟩, ⟨%f9, H9⟩, ⟨%f10, %h10, H10⟩, %ha⟩
  obtain ⟨rfl, rfl⟩ := Prod.mk.inj ha
  sl_exec
  simp only [wp_ret]
  have hp : k.val % 2 = 0 := (cond1_iff i k).mp hk
  have ek0 : KA X4 0 (k.val + 1) = (arg4.view.readAt (Elt F) (Rect.unit (s := S1x2x4096x128) (k0_off1 i k) S1x1x512x128.size (k0_off1_inb i k hk)).toLoadRect (arg4.view.rep X4)) :=
    (rd_ka arg4.view X4 0 (k.val + 1) _ (off1_eq i k) _).symm
  have ev0 : VT X5 0 k.val = (arg5.view.readAt (Elt F) (Rect.unit (s := S1x2x128x4096) (k0_off3 i k) S1x1x128x512.size (k0_off3_inb i k hk)).toLoadRect (arg5.view.rep X5)) :=
    (rd_vt arg5.view X5 0 k.val _ (off3_eq i k) _).symm
  have q00 : QT X3 0 0 = (arg3.view.readAt (Elt F) (Rect.unit (s := S1x2x128x512) ![0, 0, 0, 0] S1x1x128x256.size inb_S1x2x128x512_S1x1x128x256_0_0_0_0).toLoadRect (arg3.view.rep X3)) :=
    (rd_qt arg3.view X3 0 0 _ rfl _).symm
  have a00 : AC X3 X4 X5 0 0 k.val = (arg10.view.readAt (Elt F) (Rect.unit (s := S2x128x512) ![0, 0, 0] S1x128x256.size inb_S2x128x512_S1x128x256_0_0_0).toLoadRect f10) :=
    ((rd10 arg10.view f10 0 0 _ rfl _).trans (h10 _ _)).symm
  have q01 : QT X3 0 1 = (arg3.view.readAt (Elt F) (Rect.unit (s := S1x2x128x512) ![0, 0, 0, 256] S1x1x128x256.size inb_S1x2x128x512_S1x1x128x256_0_0_0_256).toLoadRect (arg3.view.rep X3)) :=
    (rd_qt arg3.view X3 0 1 _ rfl _).symm
  have a01 : AC X3 X4 X5 0 1 k.val = (arg10.view.readAt (Elt F) (Rect.unit (s := S2x128x512) ![0, 0, 256] S1x128x256.size inb_S2x128x512_S1x128x256_0_0_256).toLoadRect f10) :=
    ((rd10 arg10.view f10 0 1 _ rfl _).trans (h10 _ _)).symm
  have s0 : SS X3 X4 k.val 0 = ![SH (arg8.view.readAt (Elt F) (Rect.unit (s := S2x2x4x512x128) ![0, 0, 0, 0, 0] S1x1x1x512x128.size inb_S2x2x4x512x128_S1x1x1x512x128_0_0_0_0_0).toLoadRect f8), SH (arg8.view.readAt (Elt F) (Rect.unit (s := S2x2x4x512x128) ![0, 0, 1, 0, 0] S1x1x1x512x128.size inb_S2x2x4x512x128_S1x1x1x512x128_0_0_1_0_0).toLoadRect f8), SH (arg8.view.readAt (Elt F) (Rect.unit (s := S2x2x4x512x128) ![0, 0, 2, 0, 0] S1x1x1x512x128.size inb_S2x2x4x512x128_S1x1x1x512x128_0_0_2_0_0).toLoadRect f8), SH (arg8.view.readAt (Elt F) (Rect.unit (s := S2x2x4x512x128) ![0, 0, 3, 0, 0] S1x1x1x512x128.size inb_S2x2x4x512x128_S1x1x1x512x128_0_0_3_0_0).toLoadRect f8)] := by
    funext d; revert d
    refine all4 ?_ ?_ ?_ ?_
    · exact congrArg SH ((rd8 arg8.view f8 0 0 0 _ rfl _).trans (h8 _ hp.symm _ _)).symm
    · exact congrArg SH ((rd8 arg8.view f8 0 0 1 _ rfl _).trans (h8 _ hp.symm _ _)).symm
    · exact congrArg SH ((rd8 arg8.view f8 0 0 2 _ rfl _).trans (h8 _ hp.symm _ _)).symm
    · exact congrArg SH ((rd8 arg8.view f8 0 0 3 _ rfl _).trans (h8 _ hp.symm _ _)).symm
  have ek1 : KA X4 1 (k.val + 1) = (arg4.view.readAt (Elt F) (Rect.unit (s := S1x2x4096x128) (k0_off2 i k) S1x1x512x128.size (k0_off2_inb i k hk)).toLoadRect (arg4.view.rep X4)) :=
    (rd_ka arg4.view X4 1 (k.val + 1) _ (off2_eq i k) _).symm
  have ev1 : VT X5 1 k.val = (arg5.view.readAt (Elt F) (Rect.unit (s := S1x2x128x4096) (k0_off4 i k) S1x1x128x512.size (k0_off4_inb i k hk)).toLoadRect (arg5.view.rep X5)) :=
    (rd_vt arg5.view X5 1 k.val _ (off4_eq i k) _).symm
  have q10 : QT X3 1 0 = (arg3.view.readAt (Elt F) (Rect.unit (s := S1x2x128x512) ![0, 1, 0, 0] S1x1x128x256.size inb_S1x2x128x512_S1x1x128x256_0_1_0_0).toLoadRect (arg3.view.rep X3)) :=
    (rd_qt arg3.view X3 1 0 _ rfl _).symm
  have a10 : AC X3 X4 X5 1 0 k.val = (arg10.view.readAt (Elt F) (Rect.unit (s := S2x128x512) ![1, 0, 0] S1x128x256.size inb_S2x128x512_S1x128x256_1_0_0).toLoadRect f10) :=
    ((rd10 arg10.view f10 1 0 _ rfl _).trans (h10 _ _)).symm
  have q11 : QT X3 1 1 = (arg3.view.readAt (Elt F) (Rect.unit (s := S1x2x128x512) ![0, 1, 0, 256] S1x1x128x256.size inb_S1x2x128x512_S1x1x128x256_0_1_0_256).toLoadRect (arg3.view.rep X3)) :=
    (rd_qt arg3.view X3 1 1 _ rfl _).symm
  have a11 : AC X3 X4 X5 1 1 k.val = (arg10.view.readAt (Elt F) (Rect.unit (s := S2x128x512) ![1, 0, 256] S1x128x256.size inb_S2x128x512_S1x128x256_1_0_256).toLoadRect f10) :=
    ((rd10 arg10.view f10 1 1 _ rfl _).trans (h10 _ _)).symm
  have s1 : SS X3 X4 k.val 1 = ![SH (arg8.view.readAt (Elt F) (Rect.unit (s := S2x2x4x512x128) ![0, 1, 0, 0, 0] S1x1x1x512x128.size inb_S2x2x4x512x128_S1x1x1x512x128_0_1_0_0_0).toLoadRect f8), SH (arg8.view.readAt (Elt F) (Rect.unit (s := S2x2x4x512x128) ![0, 1, 1, 0, 0] S1x1x1x512x128.size inb_S2x2x4x512x128_S1x1x1x512x128_0_1_1_0_0).toLoadRect f8), SH (arg8.view.readAt (Elt F) (Rect.unit (s := S2x2x4x512x128) ![0, 1, 2, 0, 0] S1x1x1x512x128.size inb_S2x2x4x512x128_S1x1x1x512x128_0_1_2_0_0).toLoadRect f8), SH (arg8.view.readAt (Elt F) (Rect.unit (s := S2x2x4x512x128) ![0, 1, 3, 0, 0] S1x1x1x512x128.size inb_S2x2x4x512x128_S1x1x1x512x128_0_1_3_0_0).toLoadRect f8)] := by
    funext d; revert d
    refine all4 ?_ ?_ ?_ ?_
    · exact congrArg SH ((rd8 arg8.view f8 0 1 0 _ rfl _).trans (h8 _ hp.symm _ _)).symm
    · exact congrArg SH ((rd8 arg8.view f8 0 1 1 _ rfl _).trans (h8 _ hp.symm _ _)).symm
    · exact congrArg SH ((rd8 arg8.view f8 0 1 2 _ rfl _).trans (h8 _ hp.symm _ _)).symm
    · exact congrArg SH ((rd8 arg8.view f8 0 1 3 _ rfl _).trans (h8 _ hp.symm _ _)).symm
  isplitl [H3]; · iexact H3
  isplitl [H4]; · iexact H4
  isplitl [H5]; · iexact H5
  isplitl [H8]
  · iexists _
    isplitr; swap
    · iexact H8
    ipureintro
    intro s hs
    obtain rfl : s = 1 := Fin.ext (by rw [hs, Nat.add_mod, hp]; rfl)
    refine all2 (all4 ?_ ?_ ?_ ?_) (all4 ?_ ?_ ?_ ?_)
    all_goals
      repeat rw [wr8, if_neg (by decide)]
      rw [wr8, if_pos (by decide)]
      unfold SC
      simp only [ek0, ek1, q00, q01, q10, q11]
      rfl
  isplitl [H9]
  · iexists _
    iexact H9
  isplitl [H10]
  · iexists _
    isplitr; swap
    · iexact H10
    ipureintro
    refine all2 (all2 ?_ ?_) (all2 ?_ ?_)
    · repeat first | rw [wr10a, if_neg (by decide)] | rw [wr10b, if_neg (by decide)]
      first | rw [wr10a, if_pos (by decide)] | rw [wr10b, if_pos (by decide)]
      show _ = UPD (MX X3 X4 0 k.val) (SS X3 X4 k.val 0) (lo 0) (hi 0) (AC X3 X4 X5 0 0 k.val) (VT X5 0 k.val)
      rw [s0, a00, ev0]
      delta trip_even.sl.v259 trip_even.sl.v261 trip_even.sl.H9_2
      repeat first | rw [rc9, if_neg (by decide)] | rw [rc9, if_pos (by decide)]
      rfl
    · repeat first | rw [wr10a, if_neg (by decide)] | rw [wr10b, if_neg (by decide)]
      first | rw [wr10a, if_pos (by decide)] | rw [wr10b, if_pos (by decide)]
      show _ = UPD (MX X3 X4 0 k.val) (SS X3 X4 k.val 0) (lo 1) (hi 1) (AC X3 X4 X5 0 1 k.val) (VT X5 0 k.val)
      rw [s0, a01, ev0]
      delta trip_even.sl.v339 trip_even.sl.v341 trip_even.sl.H9_4
      repeat first | rw [rc9, if_neg (by decide)] | rw [rc9, if_pos (by decide)]
      rfl
    · repeat first | rw [wr10a, if_neg (by decide)] | rw [wr10b, if_neg (by decide)]
      first | rw [wr10a, if_pos (by decide)] | rw [wr10b, if_pos (by decide)]
      show _ = UPD (MX X3 X4 1 k.val) (SS X3 X4 k.val 1) (lo 0) (hi 0) (AC X3 X4 X5 1 0 k.val) (VT X5 1 k.val)
      rw [s1, a10, ev1]
      delta trip_even.sl.v419 trip_even.sl.v421 trip_even.sl.H9_6
      repeat first | rw [rc9, if_neg (by decide)] | rw [rc9, if_pos (by decide)]
      rfl
    · repeat first | rw [wr10a, if_neg (by decide)] | rw [wr10b, if_neg (by decide)]
      first | rw [wr10a, if_pos (by decide)] | rw [wr10b, if_pos (by decide)]
      show _ = UPD (MX X3 X4 1 k.val) (SS X3 X4 k.val 1) (lo 1) (hi 1) (AC X3 X4 X5 1 1 k.val) (VT X5 1 k.val)
      rw [s1, a11, ev1]
      delta trip_even.sl.v499 trip_even.sl.v501 trip_even.sl.H9_8
      repeat first | rw [rc9, if_neg (by decide)] | rw [rc9, if_pos (by decide)]
      rfl
  · ipureintro
    refine Prod.ext ?_ ?_
    · show _ = MROW (MX X3 X4 0 k.val) (SS X3 X4 k.val 0)
      rw [s0]
      rfl
    · show _ = MROW (MX X3 X4 1 k.val) (SS X3 X4 k.val 1)
      rw [s1]
      rfl

set_option maxHeartbeats 8000000 in
theorem trip_odd (c : Dev nD) (i : grid0.Coords) (arg3 : Memref sig .tc .vmem S1x2x128x512 .bf16) (harg3 : arg3.IsWhole) (arg4 : Memref sig .tc .vmem S1x2x4096x128 .bf16) (harg4 : arg4.IsWhole) (arg5 : Memref sig .tc .vmem S1x2x128x4096 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S2x2x4x512x128 .f32) (harg8 : arg8.IsWhole) (arg9 : Memref sig .tc .vmem S2x4x512x128 .bf16) (harg9 : arg9.IsWhole) (arg10 : Memref sig .tc .vmem S2x128x512 .f32) (harg10 : arg10.IsWhole)
    (arg2 : BitVec 32) (v47 : FVec F S512x128 .f32) (k : Fin (k0_t1_loop i).trips) (hk : ¬ k0_cond1 i k = 1#1)
    (acc : FVec F S1x512 .f32 × FVec F S1x512 .f32)
    (X3 : S1x2x128x512.Idx → Elt F .bf16) (X4 : S1x2x4096x128.Idx → Elt F .bf16) (X5 : S1x2x128x4096.Idx → Elt F .bf16) :
    INV (F := F) c arg3 arg4 arg5 arg8 arg9 arg10 X3 X4 X5 k.val acc
    ⊢ wp frame (wpE (defs₀ (F := F)) Variants.none (c : Thread nD τ) none) Set.univ
        (k0_t1_body i arg3 harg3 arg4 harg4 arg5 harg5 arg6 harg6 arg7 harg7 arg8 harg8 arg9 harg9 arg10 harg10 arg2 v47 k acc)
        (fun a => INV (F := F) c arg3 arg4 arg5 arg8 arg9 arg10 X3 X4 X5 (k.val + 1) a) := by
  obtain ⟨a12, a13⟩ := acc
  unfold k0_t1_body
  unfold INV
  iintro ⟨H3, H4, H5, ⟨%f8, %h8, H8⟩, ⟨%f9, H9⟩, ⟨%f10, %h10, H10⟩, %ha⟩
  obtain ⟨rfl, rfl⟩ := Prod.mk.inj ha
  sl_exec
  simp only [wp_ret]
  have hp : k.val % 2 = 1 := odd_of i k hk
  have ek0 : KA X4 0 (k.val + 1) = (arg4.view.readAt (Elt F) (Rect.unit (s := S1x2x4096x128) (k0_off5 i k) S1x1x512x128.size (k0_off5_inb i k hk)).toLoadRect (arg4.view.rep X4)) :=
    (rd_ka arg4.view X4 0 (k.val + 1) _ (off5_eq i k) _).symm
  have ev0 : VT X5 0 k.val = (arg5.view.readAt (Elt F) (Rect.unit (s := S1x2x128x4096) (k0_off7 i k) S1x1x128x512.size (k0_off7_inb i k hk)).toLoadRect (arg5.view.rep X5)) :=
    (rd_vt arg5.view X5 0 k.val _ (off7_eq i k) _).symm
  have q00 : QT X3 0 0 = (arg3.view.readAt (Elt F) (Rect.unit (s := S1x2x128x512) ![0, 0, 0, 0] S1x1x128x256.size inb_S1x2x128x512_S1x1x128x256_0_0_0_0).toLoadRect (arg3.view.rep X3)) :=
    (rd_qt arg3.view X3 0 0 _ rfl _).symm
  have a00 : AC X3 X4 X5 0 0 k.val = (arg10.view.readAt (Elt F) (Rect.unit (s := S2x128x512) ![0, 0, 0] S1x128x256.size inb_S2x128x512_S1x128x256_0_0_0).toLoadRect f10) :=
    ((rd10 arg10.view f10 0 0 _ rfl _).trans (h10 _ _)).symm
  have q01 : QT X3 0 1 = (arg3.view.readAt (Elt F) (Rect.unit (s := S1x2x128x512) ![0, 0, 0, 256] S1x1x128x256.size inb_S1x2x128x512_S1x1x128x256_0_0_0_256).toLoadRect (arg3.view.rep X3)) :=
    (rd_qt arg3.view X3 0 1 _ rfl _).symm
  have a01 : AC X3 X4 X5 0 1 k.val = (arg10.view.readAt (Elt F) (Rect.unit (s := S2x128x512) ![0, 0, 256] S1x128x256.size inb_S2x128x512_S1x128x256_0_0_256).toLoadRect f10) :=
    ((rd10 arg10.view f10 0 1 _ rfl _).trans (h10 _ _)).symm
  have s0 : SS X3 X4 k.val 0 = ![SH (arg8.view.readAt (Elt F) (Rect.unit (s := S2x2x4x512x128) ![1, 0, 0, 0, 0] S1x1x1x512x128.size inb_S2x2x4x512x128_S1x1x1x512x128_1_0_0_0_0).toLoadRect f8), SH (arg8.view.readAt (Elt F) (Rect.unit (s := S2x2x4x512x128) ![1, 0, 1, 0, 0] S1x1x1x512x128.size inb_S2x2x4x512x128_S1x1x1x512x128_1_0_1_0_0).toLoadRect f8), SH (arg8.view.readAt (Elt F) (Rect.unit (s := S2x2x4x512x128) ![1, 0, 2, 0, 0] S1x1x1x512x128.size inb_S2x2x4x512x128_S1x1x1x512x128_1_0_2_0_0).toLoadRect f8), SH (arg8.view.readAt (Elt F) (Rect.unit (s := S2x2x4x512x128) ![1, 0, 3, 0, 0] S1x1x1x512x128.size inb_S2x2x4x512x128_S1x1x1x512x128_1_0_3_0_0).toLoadRect f8)] := by
    funext d; revert d
    refine all4 ?_ ?_ ?_ ?_
    · exact congrArg SH ((rd8 arg8.view f8 1 0 0 _ rfl _).trans (h8 _ hp.symm _ _)).symm
    · exact congrArg SH ((rd8 arg8.view f8 1 0 1 _ rfl _).trans (h8 _ hp.symm _ _)).symm
    · exact congrArg SH ((rd8 arg8.view f8 1 0 2 _ rfl _).trans (h8 _ hp.symm _ _)).symm
    · exact congrArg SH ((rd8 arg8.view f8 1 0 3 _ rfl _).trans (h8 _ hp.symm _ _)).symm
  have ek1 : KA X4 1 (k.val + 1) = (arg4.view.readAt (Elt F) (Rect.unit (s := S1x2x4096x128) (k0_off6 i k) S1x1x512x128.size (k0_off6_inb i k hk)).toLoadRect (arg4.view.rep X4)) :=
    (rd_ka arg4.view X4 1 (k.val + 1) _ (off6_eq i k) _).symm
  have ev1 : VT X5 1 k.val = (arg5.view.readAt (Elt F) (Rect.unit (s := S1x2x128x4096) (k0_off8 i k) S1x1x128x512.size (k0_off8_inb i k hk)).toLoadRect (arg5.view.rep X5)) :=
    (rd_vt arg5.view X5 1 k.val _ (off8_eq i k) _).symm
  have q10 : QT X3 1 0 = (arg3.view.readAt (Elt F) (Rect.unit (s := S1x2x128x512) ![0, 1, 0, 0] S1x1x128x256.size inb_S1x2x128x512_S1x1x128x256_0_1_0_0).toLoadRect (arg3.view.rep X3)) :=
    (rd_qt arg3.view X3 1 0 _ rfl _).symm
  have a10 : AC X3 X4 X5 1 0 k.val = (arg10.view.readAt (Elt F) (Rect.unit (s := S2x128x512) ![1, 0, 0] S1x128x256.size inb_S2x128x512_S1x128x256_1_0_0).toLoadRect f10) :=
    ((rd10 arg10.view f10 1 0 _ rfl _).trans (h10 _ _)).symm
  have q11 : QT X3 1 1 = (arg3.view.readAt (Elt F) (Rect.unit (s := S1x2x128x512) ![0, 1, 0, 256] S1x1x128x256.size inb_S1x2x128x512_S1x1x128x256_0_1_0_256).toLoadRect (arg3.view.rep X3)) :=
    (rd_qt arg3.view X3 1 1 _ rfl _).symm
  have a11 : AC X3 X4 X5 1 1 k.val = (arg10.view.readAt (Elt F) (Rect.unit (s := S2x128x512) ![1, 0, 256] S1x128x256.size inb_S2x128x512_S1x128x256_1_0_256).toLoadRect f10) :=
    ((rd10 arg10.view f10 1 1 _ rfl _).trans (h10 _ _)).symm
  have s1 : SS X3 X4 k.val 1 = ![SH (arg8.view.readAt (Elt F) (Rect.unit (s := S2x2x4x512x128) ![1, 1, 0, 0, 0] S1x1x1x512x128.size inb_S2x2x4x512x128_S1x1x1x512x128_1_1_0_0_0).toLoadRect f8), SH (arg8.view.readAt (Elt F) (Rect.unit (s := S2x2x4x512x128) ![1, 1, 1, 0, 0] S1x1x1x512x128.size inb_S2x2x4x512x128_S1x1x1x512x128_1_1_1_0_0).toLoadRect f8), SH (arg8.view.readAt (Elt F) (Rect.unit (s := S2x2x4x512x128) ![1, 1, 2, 0, 0] S1x1x1x512x128.size inb_S2x2x4x512x128_S1x1x1x512x128_1_1_2_0_0).toLoadRect f8), SH (arg8.view.readAt (Elt F) (Rect.unit (s := S2x2x4x512x128) ![1, 1, 3, 0, 0] S1x1x1x512x128.size inb_S2x2x4x512x128_S1x1x1x512x128_1_1_3_0_0).toLoadRect f8)] := by
    funext d; revert d
    refine all4 ?_ ?_ ?_ ?_
    · exact congrArg SH ((rd8 arg8.view f8 1 1 0 _ rfl _).trans (h8 _ hp.symm _ _)).symm
    · exact congrArg SH ((rd8 arg8.view f8 1 1 1 _ rfl _).trans (h8 _ hp.symm _ _)).symm
    · exact congrArg SH ((rd8 arg8.view f8 1 1 2 _ rfl _).trans (h8 _ hp.symm _ _)).symm
    · exact congrArg SH ((rd8 arg8.view f8 1 1 3 _ rfl _).trans (h8 _ hp.symm _ _)).symm
  isplitl [H3]; · iexact H3
  isplitl [H4]; · iexact H4
  isplitl [H5]; · iexact H5
  isplitl [H8]
  · iexists _
    isplitr; swap
    · iexact H8
    ipureintro
    intro s hs
    obtain rfl : s = 0 := Fin.ext (by rw [hs, Nat.add_mod, hp]; rfl)
    refine all2 (all4 ?_ ?_ ?_ ?_) (all4 ?_ ?_ ?_ ?_)
    all_goals
      repeat rw [wr8, if_neg (by decide)]
      rw [wr8, if_pos (by decide)]
      unfold SC
      simp only [ek0, ek1, q00, q01, q10, q11]
      rfl
  isplitl [H9]
  · iexists _
    iexact H9
  isplitl [H10]
  · iexists _
    isplitr; swap
    · iexact H10
    ipureintro
    refine all2 (all2 ?_ ?_) (all2 ?_ ?_)
    · repeat first | rw [wr10a, if_neg (by decide)] | rw [wr10b, if_neg (by decide)]
      first | rw [wr10a, if_pos (by decide)] | rw [wr10b, if_pos (by decide)]
      show _ = UPD (MX X3 X4 0 k.val) (SS X3 X4 k.val 0) (lo 0) (hi 0) (AC X3 X4 X5 0 0 k.val) (VT X5 0 k.val)
      rw [s0, a00, ev0]
      delta trip_odd.sl.v259 trip_odd.sl.v261 trip_odd.sl.H9_2
      repeat first | rw [rc9, if_neg (by decide)] | rw [rc9, if_pos (by decide)]
      rfl
    · repeat first | rw [wr10a, if_neg (by decide)] | rw [wr10b, if_neg (by decide)]
      first | rw [wr10a, if_pos (by decide)] | rw [wr10b, if_pos (by decide)]
      show _ = UPD (MX X3 X4 0 k.val) (SS X3 X4 k.val 0) (lo 1) (hi 1) (AC X3 X4 X5 0 1 k.val) (VT X5 0 k.val)
      rw [s0, a01, ev0]
      delta trip_odd.sl.v339 trip_odd.sl.v341 trip_odd.sl.H9_4
      repeat first | rw [rc9, if_neg (by decide)] | rw [rc9, if_pos (by decide)]
      rfl
    · repeat first | rw [wr10a, if_neg (by decide)] | rw [wr10b, if_neg (by decide)]
      first | rw [wr10a, if_pos (by decide)] | rw [wr10b, if_pos (by decide)]
      show _ = UPD (MX X3 X4 1 k.val) (SS X3 X4 k.val 1) (lo 0) (hi 0) (AC X3 X4 X5 1 0 k.val) (VT X5 1 k.val)
      rw [s1, a10, ev1]
      delta trip_odd.sl.v419 trip_odd.sl.v421 trip_odd.sl.H9_6
      repeat first | rw [rc9, if_neg (by decide)] | rw [rc9, if_pos (by decide)]
      rfl
    · repeat first | rw [wr10a, if_neg (by decide)] | rw [wr10b, if_neg (by decide)]
      first | rw [wr10a, if_pos (by decide)] | rw [wr10b, if_pos (by decide)]
      show _ = UPD (MX X3 X4 1 k.val) (SS X3 X4 k.val 1) (lo 1) (hi 1) (AC X3 X4 X5 1 1 k.val) (VT X5 1 k.val)
      rw [s1, a11, ev1]
      delta trip_odd.sl.v499 trip_odd.sl.v501 trip_odd.sl.H9_8
      repeat first | rw [rc9, if_neg (by decide)] | rw [rc9, if_pos (by decide)]
      rfl
  · ipureintro
    refine Prod.ext ?_ ?_
    · show _ = MROW (MX X3 X4 0 k.val) (SS X3 X4 k.val 0)
      rw [s0]
      rfl
    · show _ = MROW (MX X3 X4 1 k.val) (SS X3 X4 k.val 1)
      rw [s1]
      rfl

end Trip
end Cert.Fox.KI
end
-- ==== Proof.FoxBodyEven.lean ====
module

public import proofs.«01_k».proof.Proof.FoxTrip
@[expose] public section

set_option maxRecDepth 16384

noncomputable section

namespace Cert.Fox.KI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Body
variable {F : FTy → Type} [FloatOps F]
local notation "𝕄" => MT nD τ sig Unit (Elt F) ℕ (UR sig nD τ) ℕ

theorem ST_eq0 (X3 : S1x2x128x512.Idx → Elt F .bf16) (X4 : S1x2x4096x128.Idx → Elt F .bf16) (n : ℕ) (h : Fin 2) :
    ST X3 X4 n h 0 = MK 0#32 (SH (SC X3 X4 n h 0)) := by unfold ST SS; rfl
theorem ST_eq1 (X3 : S1x2x128x512.Idx → Elt F .bf16) (X4 : S1x2x4096x128.Idx → Elt F .bf16) (n : ℕ) (h : Fin 2) :
    ST X3 X4 n h 1 = MK 128#32 (SH (SC X3 X4 n h 1)) := by unfold ST SS; rfl
theorem ST_eq2 (X3 : S1x2x128x512.Idx → Elt F .bf16) (X4 : S1x2x4096x128.Idx → Elt F .bf16) (n : ℕ) (h : Fin 2) :
    ST X3 X4 n h 2 = MK 256#32 (SH (SC X3 X4 n h 2)) := by unfold ST SS; rfl
theorem ST_eq3 (X3 : S1x2x128x512.Idx → Elt F .bf16) (X4 : S1x2x4096x128.Idx → Elt F .bf16) (n : ℕ) (h : Fin 2) :
    ST X3 X4 n h 3 = MK 384#32 (SH (SC X3 X4 n h 3)) := by unfold ST SS; rfl

theorem odd_of_tail (i : grid0.Coords) (h : ¬ k0_cond3 i = 1#1) : (i 2).val % 2 = 1 := by
  have := (cond3_iff i).not.mp h; omega

set_option maxHeartbeats 16000000 in
theorem body_even (c : Dev nD) (i : grid0.Coords) (arg3 : Memref sig .tc .vmem S1x2x128x512 .bf16) (harg3 : arg3.IsWhole) (arg4 : Memref sig .tc .vmem S1x2x4096x128 .bf16) (harg4 : arg4.IsWhole) (arg5 : Memref sig .tc .vmem S1x2x128x4096 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S2x2x4x512x128 .f32) (harg8 : arg8.IsWhole) (arg9 : Memref sig .tc .vmem S2x4x512x128 .bf16) (harg9 : arg9.IsWhole) (arg10 : Memref sig .tc .vmem S2x128x512 .f32) (harg10 : arg10.IsWhole) (hk : k0_cond3 i = 1#1)
    (X3 : S1x2x128x512.Idx → Elt F .bf16) (X4 : S1x2x4096x128.Idx → Elt F .bf16) (X5 : S1x2x128x4096.Idx → Elt F .bf16) (X6 : S1x512x128.Idx → Elt F .bf16) :
    (iprop((arg3.view.loc (c : Thread nD τ) ↦[arg3.view.set]{fullShare} arg3.view.rep X3)
      ∗ (arg4.view.loc (c : Thread nD τ) ↦[arg4.view.set]{fullShare} arg4.view.rep X4)
      ∗ (arg5.view.loc (c : Thread nD τ) ↦[arg5.view.set]{fullShare} arg5.view.rep X5)
      ∗ (arg6.view.loc (c : Thread nD τ) ↦[arg6.view.set]{fullShare} arg6.view.rep X6)
      ∗ (∃ f, arg7.view.loc (c : Thread nD τ) ↦[arg7.view.set]{fullShare} f)
      ∗ (∃ f, arg8.view.loc (c : Thread nD τ) ↦[arg8.view.set]{fullShare} f)
      ∗ (∃ f, arg9.view.loc (c : Thread nD τ) ↦[arg9.view.set]{fullShare} f)
      ∗ (∃ f, arg10.view.loc (c : Thread nD τ) ↦[arg10.view.set]{fullShare} f)) : sProp 𝕄)
    ⊢ wp frame (wpE (defs₀ (F := F)) Variants.none (c : Thread nD τ) none) Set.univ
        (cc0_fox_attention (F := F) i arg3 harg3 arg4 harg4 arg5 harg5 arg6 harg6 arg7 harg7 arg8 harg8 arg9 harg9 arg10 harg10)
        (fun _ => iprop((arg3.view.loc (c : Thread nD τ) ↦[arg3.view.set]{fullShare} arg3.view.rep X3)
      ∗ (arg4.view.loc (c : Thread nD τ) ↦[arg4.view.set]{fullShare} arg4.view.rep X4)
      ∗ (arg5.view.loc (c : Thread nD τ) ↦[arg5.view.set]{fullShare} arg5.view.rep X5)
      ∗ (arg6.view.loc (c : Thread nD τ) ↦[arg6.view.set]{fullShare} arg6.view.rep X6)
      ∗ (∃ f, ⌜arg7.view.read (Elt F) f = OUT X3 X4 X5 X6 (i 2).val⌝ ∗ (arg7.view.loc (c : Thread nD τ) ↦[arg7.view.set]{fullShare} f))
      ∗ (∃ f, arg8.view.loc (c : Thread nD τ) ↦[arg8.view.set]{fullShare} f)
      ∗ (∃ f, arg9.view.loc (c : Thread nD τ) ↦[arg9.view.set]{fullShare} f)
      ∗ (∃ f, arg10.view.loc (c : Thread nD τ) ↦[arg10.view.set]{fullShare} f))) := by
  iintro ⟨H3, H4, H5, H6, ⟨%f7, H7⟩, ⟨%f8, H8⟩, ⟨%f9, H9⟩, ⟨%f10, H10⟩⟩
  sl_exec
  sl_for (INV (F := F) c arg3 arg4 arg5 arg8 arg9 arg10 X3 X4 X5) $$ [H3 H4 H5 H8 H9 H10]
  · intro k acc
    by_cases hk : k0_cond1 i k = 1#1
    · exact trip_even c i arg3 harg3 arg4 harg4 arg5 harg5 arg6 harg6 arg7 harg7 arg8 harg8 arg9 harg9 arg10 harg10 _ _ k hk acc X3 X4 X5
    · exact trip_odd c i arg3 harg3 arg4 harg4 arg5 harg5 arg6 harg6 arg7 harg7 arg8 harg8 arg9 harg9 arg10 harg10 _ _ k hk acc X3 X4 X5
  · unfold INV
    isplitl [H3]; · iexact H3
    isplitl [H4]; · iexact H4
    isplitl [H5]; · iexact H5
    isplitl [H8]
    · iexists _
      isplitr; swap
      · iexact H8
      ipureintro
      intro s hs
      obtain rfl : s = 0 := Fin.ext hs
      refine all2 (all4 ?_ ?_ ?_ ?_) (all4 ?_ ?_ ?_ ?_)
      all_goals
        repeat rw [wr8, if_neg (by decide)]
        rw [wr8, if_pos (by decide)]
        unfold SC
        simp only [← rd_ka arg4.view X4 0 0 ![0, 0, 0, 0] rfl inb_S1x2x4096x128_S1x1x512x128_0_0_0_0,
          ← rd_ka arg4.view X4 1 0 ![0, 1, 0, 0] rfl inb_S1x2x4096x128_S1x1x512x128_0_1_0_0,
          ← rd_qt arg3.view X3 0 0 ![0, 0, 0, 0] rfl inb_S1x2x128x512_S1x1x128x256_0_0_0_0,
          ← rd_qt arg3.view X3 0 1 ![0, 0, 0, 256] rfl inb_S1x2x128x512_S1x1x128x256_0_0_0_256,
          ← rd_qt arg3.view X3 1 0 ![0, 1, 0, 0] rfl inb_S1x2x128x512_S1x1x128x256_0_1_0_0,
          ← rd_qt arg3.view X3 1 1 ![0, 1, 0, 256] rfl inb_S1x2x128x512_S1x1x128x256_0_1_0_256]
        rfl
    isplitl [H9]
    · iexists _
      iexact H9
    isplitl [H10]
    · iexists _
      isplitr; swap
      · iexact H10
      ipureintro
      intro h g
      funext y
      unfold BK10
      delta body_even.sl.H10_1
      rw [View.read_writes_full arg10.view]
      rfl
    · ipureintro
      rfl
  unfold INV
  iintro %acc ⟨H3, H4, H5, ⟨%g8, %h8, H8⟩, ⟨%g9, H9⟩, ⟨%g10, %h10, H10⟩, %ha⟩
  obtain rfl := ha
  sl_exec
  simp only [wp_ret]
  have hn : (k0_t1_loop i).trips = (i 2).val := trips_le i
  have hp : (k0_t1_loop i).trips % 2 = 0 := by rw [hn]; exact (cond3_iff i).mp hk
  have ev0 : VT X5 0 (k0_t1_loop i).trips = (arg5.view.readAt (Elt F) (Rect.unit (s := S1x2x128x4096) (k0_off17 i) S1x1x128x512.size (k0_off17_inb i hk)).toLoadRect (arg5.view.rep X5)) :=
    (rd_vt arg5.view X5 0 (k0_t1_loop i).trips _ ((off17_eq i).trans (by rw [hn]; rfl)) _).symm
  have a00 : AC X3 X4 X5 0 0 (k0_t1_loop i).trips = (arg10.view.readAt (Elt F) (Rect.unit (s := S2x128x512) ![0, 0, 0] S1x128x256.size inb_S2x128x512_S1x128x256_0_0_0).toLoadRect g10) :=
    ((rd10 arg10.view g10 0 0 _ rfl _).trans (h10 _ _)).symm
  have a01 : AC X3 X4 X5 0 1 (k0_t1_loop i).trips = (arg10.view.readAt (Elt F) (Rect.unit (s := S2x128x512) ![0, 0, 256] S1x128x256.size inb_S2x128x512_S1x128x256_0_0_256).toLoadRect g10) :=
    ((rd10 arg10.view g10 0 1 _ rfl _).trans (h10 _ _)).symm
  have t00 : ST X3 X4 (k0_t1_loop i).trips 0 0 = MK 0#32 (SH (arg8.view.readAt (Elt F) (Rect.unit (s := S2x2x4x512x128) ![0, 0, 0, 0, 0] S1x1x1x512x128.size inb_S2x2x4x512x128_S1x1x1x512x128_0_0_0_0_0).toLoadRect g8)) :=
    (ST_eq0 X3 X4 _ _).trans (congrArg (fun x => MK 0#32 (SH x)) ((rd8 arg8.view g8 0 0 0 _ rfl _).trans (h8 _ hp.symm _ _)).symm)
  have t01 : ST X3 X4 (k0_t1_loop i).trips 0 1 = MK 128#32 (SH (arg8.view.readAt (Elt F) (Rect.unit (s := S2x2x4x512x128) ![0, 0, 1, 0, 0] S1x1x1x512x128.size inb_S2x2x4x512x128_S1x1x1x512x128_0_0_1_0_0).toLoadRect g8)) :=
    (ST_eq1 X3 X4 _ _).trans (congrArg (fun x => MK 128#32 (SH x)) ((rd8 arg8.view g8 0 0 1 _ rfl _).trans (h8 _ hp.symm _ _)).symm)
  have t02 : ST X3 X4 (k0_t1_loop i).trips 0 2 = MK 256#32 (SH (arg8.view.readAt (Elt F) (Rect.unit (s := S2x2x4x512x128) ![0, 0, 2, 0, 0] S1x1x1x512x128.size inb_S2x2x4x512x128_S1x1x1x512x128_0_0_2_0_0).toLoadRect g8)) :=
    (ST_eq2 X3 X4 _ _).trans (congrArg (fun x => MK 256#32 (SH x)) ((rd8 arg8.view g8 0 0 2 _ rfl _).trans (h8 _ hp.symm _ _)).symm)
  have t03 : ST X3 X4 (k0_t1_loop i).trips 0 3 = MK 384#32 (SH (arg8.view.readAt (Elt F) (Rect.unit (s := S2x2x4x512x128) ![0, 0, 3, 0, 0] S1x1x1x512x128.size inb_S2x2x4x512x128_S1x1x1x512x128_0_0_3_0_0).toLoadRect g8)) :=
    (ST_eq3 X3 X4 _ _).trans (congrArg (fun x => MK 384#32 (SH x)) ((rd8 arg8.view g8 0 0 3 _ rfl _).trans (h8 _ hp.symm _ _)).symm)
  have ev1 : VT X5 1 (k0_t1_loop i).trips = (arg5.view.readAt (Elt F) (Rect.unit (s := S1x2x128x4096) (k0_off18 i) S1x1x128x512.size (k0_off18_inb i hk)).toLoadRect (arg5.view.rep X5)) :=
    (rd_vt arg5.view X5 1 (k0_t1_loop i).trips _ ((off18_eq i).trans (by rw [hn]; rfl)) _).symm
  have a10 : AC X3 X4 X5 1 0 (k0_t1_loop i).trips = (arg10.view.readAt (Elt F) (Rect.unit (s := S2x128x512) ![1, 0, 0] S1x128x256.size inb_S2x128x512_S1x128x256_1_0_0).toLoadRect g10) :=
    ((rd10 arg10.view g10 1 0 _ rfl _).trans (h10 _ _)).symm
  have a11 : AC X3 X4 X5 1 1 (k0_t1_loop i).trips = (arg10.view.readAt (Elt F) (Rect.unit (s := S2x128x512) ![1, 0, 256] S1x128x256.size inb_S2x128x512_S1x128x256_1_0_256).toLoadRect g10) :=
    ((rd10 arg10.view g10 1 1 _ rfl _).trans (h10 _ _)).symm
  have t10 : ST X3 X4 (k0_t1_loop i).trips 1 0 = MK 0#32 (SH (arg8.view.readAt (Elt F) (Rect.unit (s := S2x2x4x512x128) ![0, 1, 0, 0, 0] S1x1x1x512x128.size inb_S2x2x4x512x128_S1x1x1x512x128_0_1_0_0_0).toLoadRect g8)) :=
    (ST_eq0 X3 X4 _ _).trans (congrArg (fun x => MK 0#32 (SH x)) ((rd8 arg8.view g8 0 1 0 _ rfl _).trans (h8 _ hp.symm _ _)).symm)
  have t11 : ST X3 X4 (k0_t1_loop i).trips 1 1 = MK 128#32 (SH (arg8.view.readAt (Elt F) (Rect.unit (s := S2x2x4x512x128) ![0, 1, 1, 0, 0] S1x1x1x512x128.size inb_S2x2x4x512x128_S1x1x1x512x128_0_1_1_0_0).toLoadRect g8)) :=
    (ST_eq1 X3 X4 _ _).trans (congrArg (fun x => MK 128#32 (SH x)) ((rd8 arg8.view g8 0 1 1 _ rfl _).trans (h8 _ hp.symm _ _)).symm)
  have t12 : ST X3 X4 (k0_t1_loop i).trips 1 2 = MK 256#32 (SH (arg8.view.readAt (Elt F) (Rect.unit (s := S2x2x4x512x128) ![0, 1, 2, 0, 0] S1x1x1x512x128.size inb_S2x2x4x512x128_S1x1x1x512x128_0_1_2_0_0).toLoadRect g8)) :=
    (ST_eq2 X3 X4 _ _).trans (congrArg (fun x => MK 256#32 (SH x)) ((rd8 arg8.view g8 0 1 2 _ rfl _).trans (h8 _ hp.symm _ _)).symm)
  have t13 : ST X3 X4 (k0_t1_loop i).trips 1 3 = MK 384#32 (SH (arg8.view.readAt (Elt F) (Rect.unit (s := S2x2x4x512x128) ![0, 1, 3, 0, 0] S1x1x1x512x128.size inb_S2x2x4x512x128_S1x1x1x512x128_0_1_3_0_0).toLoadRect g8)) :=
    (ST_eq3 X3 X4 _ _).trans (congrArg (fun x => MK 384#32 (SH x)) ((rd8 arg8.view g8 0 1 3 _ rfl _).trans (h8 _ hp.symm _ _)).symm)
  isplitl [H3]; · iexact H3
  isplitl [H4]; · iexact H4
  isplitl [H5]; · iexact H5
  isplitl [H6]; · iexact H6
  isplitl [H7]
  · iexists _
    isplitr; swap
    · iexact H7
    ipureintro
    have hAF : ∀ h g, BK10 arg10.view (arg10.view.writes (Elt F) arg10.view.junk (body_even.sl.H10_4 i arg5 arg8 arg9 arg10 hk X3 X4 X5 g8 g10)) h g
        = AF X3 X4 X5 (k0_t1_loop i).trips h g := by
      delta body_even.sl.H10_4
      refine all2 (all2 ?_ ?_) (all2 ?_ ?_)
      · repeat first | rw [wr10a, if_neg (by decide)] | rw [wr10b, if_neg (by decide)]
        first | rw [wr10a, if_pos (by decide)] | rw [wr10b, if_pos (by decide)]
        show _ = UP (AL (MSL (MX X3 X4 0 (k0_t1_loop i).trips) 0) (ST X3 X4 (k0_t1_loop i).trips 0 0)) (AL (MSL (MX X3 X4 0 (k0_t1_loop i).trips) 1) (ST X3 X4 (k0_t1_loop i).trips 0 1))
          (PE (MSL (MX X3 X4 0 (k0_t1_loop i).trips) 0) (ST X3 X4 (k0_t1_loop i).trips 0 0)) (PE (MSL (MX X3 X4 0 (k0_t1_loop i).trips) 1) (ST X3 X4 (k0_t1_loop i).trips 0 1)) (AC X3 X4 X5 0 0 (k0_t1_loop i).trips) (VT X5 0 (k0_t1_loop i).trips)
        rw [t00, t01, a00, ev0]
        delta body_even.sl.r_6
        delta body_even.sl.v187 body_even.sl.v189 body_even.sl.H9_2
        repeat first | rw [rc9, if_neg (by decide)] | rw [rc9, if_pos (by decide)]
        rfl
      · repeat first | rw [wr10a, if_neg (by decide)] | rw [wr10b, if_neg (by decide)]
        first | rw [wr10a, if_pos (by decide)] | rw [wr10b, if_pos (by decide)]
        show _ = UP (AL (MSL (MX X3 X4 0 (k0_t1_loop i).trips) 2) (ST X3 X4 (k0_t1_loop i).trips 0 2)) (AL (MSL (MX X3 X4 0 (k0_t1_loop i).trips) 3) (ST X3 X4 (k0_t1_loop i).trips 0 3))
          (PE (MSL (MX X3 X4 0 (k0_t1_loop i).trips) 2) (ST X3 X4 (k0_t1_loop i).trips 0 2)) (PE (MSL (MX X3 X4 0 (k0_t1_loop i).trips) 3) (ST X3 X4 (k0_t1_loop i).trips 0 3)) (AC X3 X4 X5 0 1 (k0_t1_loop i).trips) (VT X5 0 (k0_t1_loop i).trips)
        rw [t02, t03, a01, ev0]
        delta body_even.sl.v277 body_even.sl.v279 body_even.sl.H9_4
        repeat first | rw [rc9, if_neg (by decide)] | rw [rc9, if_pos (by decide)]
        rfl
      · repeat first | rw [wr10a, if_neg (by decide)] | rw [wr10b, if_neg (by decide)]
        first | rw [wr10a, if_pos (by decide)] | rw [wr10b, if_pos (by decide)]
        show _ = UP (AL (MSL (MX X3 X4 1 (k0_t1_loop i).trips) 0) (ST X3 X4 (k0_t1_loop i).trips 1 0)) (AL (MSL (MX X3 X4 1 (k0_t1_loop i).trips) 1) (ST X3 X4 (k0_t1_loop i).trips 1 1))
          (PE (MSL (MX X3 X4 1 (k0_t1_loop i).trips) 0) (ST X3 X4 (k0_t1_loop i).trips 1 0)) (PE (MSL (MX X3 X4 1 (k0_t1_loop i).trips) 1) (ST X3 X4 (k0_t1_loop i).trips 1 1)) (AC X3 X4 X5 1 0 (k0_t1_loop i).trips) (VT X5 1 (k0_t1_loop i).trips)
        rw [t10, t11, a10, ev1]
        delta body_even.sl.v367 body_even.sl.v369 body_even.sl.H9_6
        repeat first | rw [rc9, if_neg (by decide)] | rw [rc9, if_pos (by decide)]
        rfl
      · repeat first | rw [wr10a, if_neg (by decide)] | rw [wr10b, if_neg (by decide)]
        first | rw [wr10a, if_pos (by decide)] | rw [wr10b, if_pos (by decide)]
        show _ = UP (AL (MSL (MX X3 X4 1 (k0_t1_loop i).trips) 2) (ST X3 X4 (k0_t1_loop i).trips 1 2)) (AL (MSL (MX X3 X4 1 (k0_t1_loop i).trips) 3) (ST X3 X4 (k0_t1_loop i).trips 1 3))
          (PE (MSL (MX X3 X4 1 (k0_t1_loop i).trips) 2) (ST X3 X4 (k0_t1_loop i).trips 1 2)) (PE (MSL (MX X3 X4 1 (k0_t1_loop i).trips) 3) (ST X3 X4 (k0_t1_loop i).trips 1 3)) (AC X3 X4 X5 1 1 (k0_t1_loop i).trips) (VT X5 1 (k0_t1_loop i).trips)
        rw [t12, t13, a11, ev1]
        delta body_even.sl.r_34
        delta body_even.sl.v457 body_even.sl.v459 body_even.sl.H9_8
        repeat first | rw [rc9, if_neg (by decide)] | rw [rc9, if_pos (by decide)]
        rfl
    rw [View.read_writes_full, View.readAt_rep_full arg6.view X6, show OUT X3 X4 X5 X6 (i 2).val = OUT X3 X4 X5 X6 (k0_t1_loop i).trips from by rw [hn]]
    have e0 : body_even.sl.v87 i arg5 arg8 arg9 arg10 hk X3 X4 X5 g8 g10 = JN (AF X3 X4 X5 (k0_t1_loop i).trips 0) :=
      (rj10 arg10.view _ 0 _ rfl _).trans (congrArg JN (funext (hAF 0)))
    have e1 : body_even.sl.v89 i arg5 arg8 arg9 arg10 hk X3 X4 X5 g8 g10 = JN (AF X3 X4 X5 (k0_t1_loop i).trips 1) :=
      (rj10 arg10.view _ 1 _ rfl _).trans (congrArg JN (funext (hAF 1)))
    rw [e0, e1]
    rfl
  isplitl [H8]; · iexists _; iexact H8
  isplitl [H9]; · iexists _; iexact H9
  iexists _; iexact H10

end Body
end Cert.Fox.KI
end
-- ==== Proof.FoxBodyOdd.lean ====
module

public import proofs.«01_k».proof.Proof.FoxBodyEven
@[expose] public section

set_option maxRecDepth 16384

noncomputable section

namespace Cert.Fox.KI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Body
variable {F : FTy → Type} [FloatOps F]
local notation "𝕄" => MT nD τ sig Unit (Elt F) ℕ (UR sig nD τ) ℕ

set_option maxHeartbeats 16000000 in
theorem body_odd (c : Dev nD) (i : grid0.Coords) (arg3 : Memref sig .tc .vmem S1x2x128x512 .bf16) (harg3 : arg3.IsWhole) (arg4 : Memref sig .tc .vmem S1x2x4096x128 .bf16) (harg4 : arg4.IsWhole) (arg5 : Memref sig .tc .vmem S1x2x128x4096 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S2x2x4x512x128 .f32) (harg8 : arg8.IsWhole) (arg9 : Memref sig .tc .vmem S2x4x512x128 .bf16) (harg9 : arg9.IsWhole) (arg10 : Memref sig .tc .vmem S2x128x512 .f32) (harg10 : arg10.IsWhole) (hk : ¬ k0_cond3 i = 1#1)
    (X3 : S1x2x128x512.Idx → Elt F .bf16) (X4 : S1x2x4096x128.Idx → Elt F .bf16) (X5 : S1x2x128x4096.Idx → Elt F .bf16) (X6 : S1x512x128.Idx → Elt F .bf16) :
    (iprop((arg3.view.loc (c : Thread nD τ) ↦[arg3.view.set]{fullShare} arg3.view.rep X3)
      ∗ (arg4.view.loc (c : Thread nD τ) ↦[arg4.view.set]{fullShare} arg4.view.rep X4)
      ∗ (arg5.view.loc (c : Thread nD τ) ↦[arg5.view.set]{fullShare} arg5.view.rep X5)
      ∗ (arg6.view.loc (c : Thread nD τ) ↦[arg6.view.set]{fullShare} arg6.view.rep X6)
      ∗ (∃ f, arg7.view.loc (c : Thread nD τ) ↦[arg7.view.set]{fullShare} f)
      ∗ (∃ f, arg8.view.loc (c : Thread nD τ) ↦[arg8.view.set]{fullShare} f)
      ∗ (∃ f, arg9.view.loc (c : Thread nD τ) ↦[arg9.view.set]{fullShare} f)
      ∗ (∃ f, arg10.view.loc (c : Thread nD τ) ↦[arg10.view.set]{fullShare} f)) : sProp 𝕄)
    ⊢ wp frame (wpE (defs₀ (F := F)) Variants.none (c : Thread nD τ) none) Set.univ
        (cc0_fox_attention (F := F) i arg3 harg3 arg4 harg4 arg5 harg5 arg6 harg6 arg7 harg7 arg8 harg8 arg9 harg9 arg10 harg10)
        (fun _ => iprop((arg3.view.loc (c : Thread nD τ) ↦[arg3.view.set]{fullShare} arg3.view.rep X3)
      ∗ (arg4.view.loc (c : Thread nD τ) ↦[arg4.view.set]{fullShare} arg4.view.rep X4)
      ∗ (arg5.view.loc (c : Thread nD τ) ↦[arg5.view.set]{fullShare} arg5.view.rep X5)
      ∗ (arg6.view.loc (c : Thread nD τ) ↦[arg6.view.set]{fullShare} arg6.view.rep X6)
      ∗ (∃ f, ⌜arg7.view.read (Elt F) f = OUT X3 X4 X5 X6 (i 2).val⌝ ∗ (arg7.view.loc (c : Thread nD τ) ↦[arg7.view.set]{fullShare} f))
      ∗ (∃ f, arg8.view.loc (c : Thread nD τ) ↦[arg8.view.set]{fullShare} f)
      ∗ (∃ f, arg9.view.loc (c : Thread nD τ) ↦[arg9.view.set]{fullShare} f)
      ∗ (∃ f, arg10.view.loc (c : Thread nD τ) ↦[arg10.view.set]{fullShare} f))) := by
  iintro ⟨H3, H4, H5, H6, ⟨%f7, H7⟩, ⟨%f8, H8⟩, ⟨%f9, H9⟩, ⟨%f10, H10⟩⟩
  sl_exec
  sl_for (INV (F := F) c arg3 arg4 arg5 arg8 arg9 arg10 X3 X4 X5) $$ [H3 H4 H5 H8 H9 H10]
  · intro k acc
    by_cases hk : k0_cond1 i k = 1#1
    · exact trip_even c i arg3 harg3 arg4 harg4 arg5 harg5 arg6 harg6 arg7 harg7 arg8 harg8 arg9 harg9 arg10 harg10 _ _ k hk acc X3 X4 X5
    · exact trip_odd c i arg3 harg3 arg4 harg4 arg5 harg5 arg6 harg6 arg7 harg7 arg8 harg8 arg9 harg9 arg10 harg10 _ _ k hk acc X3 X4 X5
  · unfold INV
    isplitl [H3]; · iexact H3
    isplitl [H4]; · iexact H4
    isplitl [H5]; · iexact H5
    isplitl [H8]
    · iexists _
      isplitr; swap
      · iexact H8
      ipureintro
      intro s hs
      obtain rfl : s = 0 := Fin.ext hs
      refine all2 (all4 ?_ ?_ ?_ ?_) (all4 ?_ ?_ ?_ ?_)
      all_goals
        repeat rw [wr8, if_neg (by decide)]
        rw [wr8, if_pos (by decide)]
        unfold SC
        simp only [← rd_ka arg4.view X4 0 0 ![0, 0, 0, 0] rfl inb_S1x2x4096x128_S1x1x512x128_0_0_0_0,
          ← rd_ka arg4.view X4 1 0 ![0, 1, 0, 0] rfl inb_S1x2x4096x128_S1x1x512x128_0_1_0_0,
          ← rd_qt arg3.view X3 0 0 ![0, 0, 0, 0] rfl inb_S1x2x128x512_S1x1x128x256_0_0_0_0,
          ← rd_qt arg3.view X3 0 1 ![0, 0, 0, 256] rfl inb_S1x2x128x512_S1x1x128x256_0_0_0_256,
          ← rd_qt arg3.view X3 1 0 ![0, 1, 0, 0] rfl inb_S1x2x128x512_S1x1x128x256_0_1_0_0,
          ← rd_qt arg3.view X3 1 1 ![0, 1, 0, 256] rfl inb_S1x2x128x512_S1x1x128x256_0_1_0_256]
        rfl
    isplitl [H9]
    · iexists _
      iexact H9
    isplitl [H10]
    · iexists _
      isplitr; swap
      · iexact H10
      ipureintro
      intro h g
      funext y
      unfold BK10
      delta body_odd.sl.H10_1
      rw [View.read_writes_full arg10.view]
      rfl
    · ipureintro
      rfl
  unfold INV
  iintro %acc ⟨H3, H4, H5, ⟨%g8, %h8, H8⟩, ⟨%g9, H9⟩, ⟨%g10, %h10, H10⟩, %ha⟩
  obtain rfl := ha
  sl_exec
  simp only [wp_ret]
  have hn : (k0_t1_loop i).trips = (i 2).val := trips_le i
  have hp : (k0_t1_loop i).trips % 2 = 1 := by rw [hn]; exact odd_of_tail i hk
  have ev0 : VT X5 0 (k0_t1_loop i).trips = (arg5.view.readAt (Elt F) (Rect.unit (s := S1x2x128x4096) (k0_off19 i) S1x1x128x512.size (k0_off19_inb i hk)).toLoadRect (arg5.view.rep X5)) :=
    (rd_vt arg5.view X5 0 (k0_t1_loop i).trips _ ((off19_eq i).trans (by rw [hn]; rfl)) _).symm
  have a00 : AC X3 X4 X5 0 0 (k0_t1_loop i).trips = (arg10.view.readAt (Elt F) (Rect.unit (s := S2x128x512) ![0, 0, 0] S1x128x256.size inb_S2x128x512_S1x128x256_0_0_0).toLoadRect g10) :=
    ((rd10 arg10.view g10 0 0 _ rfl _).trans (h10 _ _)).symm
  have a01 : AC X3 X4 X5 0 1 (k0_t1_loop i).trips = (arg10.view.readAt (Elt F) (Rect.unit (s := S2x128x512) ![0, 0, 256] S1x128x256.size inb_S2x128x512_S1x128x256_0_0_256).toLoadRect g10) :=
    ((rd10 arg10.view g10 0 1 _ rfl _).trans (h10 _ _)).symm
  have t00 : ST X3 X4 (k0_t1_loop i).trips 0 0 = MK 0#32 (SH (arg8.view.readAt (Elt F) (Rect.unit (s := S2x2x4x512x128) ![1, 0, 0, 0, 0] S1x1x1x512x128.size inb_S2x2x4x512x128_S1x1x1x512x128_1_0_0_0_0).toLoadRect g8)) :=
    (ST_eq0 X3 X4 _ _).trans (congrArg (fun x => MK 0#32 (SH x)) ((rd8 arg8.view g8 1 0 0 _ rfl _).trans (h8 _ hp.symm _ _)).symm)
  have t01 : ST X3 X4 (k0_t1_loop i).trips 0 1 = MK 128#32 (SH (arg8.view.readAt (Elt F) (Rect.unit (s := S2x2x4x512x128) ![1, 0, 1, 0, 0] S1x1x1x512x128.size inb_S2x2x4x512x128_S1x1x1x512x128_1_0_1_0_0).toLoadRect g8)) :=
    (ST_eq1 X3 X4 _ _).trans (congrArg (fun x => MK 128#32 (SH x)) ((rd8 arg8.view g8 1 0 1 _ rfl _).trans (h8 _ hp.symm _ _)).symm)
  have t02 : ST X3 X4 (k0_t1_loop i).trips 0 2 = MK 256#32 (SH (arg8.view.readAt (Elt F) (Rect.unit (s := S2x2x4x512x128) ![1, 0, 2, 0, 0] S1x1x1x512x128.size inb_S2x2x4x512x128_S1x1x1x512x128_1_0_2_0_0).toLoadRect g8)) :=
    (ST_eq2 X3 X4 _ _).trans (congrArg (fun x => MK 256#32 (SH x)) ((rd8 arg8.view g8 1 0 2 _ rfl _).trans (h8 _ hp.symm _ _)).symm)
  have t03 : ST X3 X4 (k0_t1_loop i).trips 0 3 = MK 384#32 (SH (arg8.view.readAt (Elt F) (Rect.unit (s := S2x2x4x512x128) ![1, 0, 3, 0, 0] S1x1x1x512x128.size inb_S2x2x4x512x128_S1x1x1x512x128_1_0_3_0_0).toLoadRect g8)) :=
    (ST_eq3 X3 X4 _ _).trans (congrArg (fun x => MK 384#32 (SH x)) ((rd8 arg8.view g8 1 0 3 _ rfl _).trans (h8 _ hp.symm _ _)).symm)
  have ev1 : VT X5 1 (k0_t1_loop i).trips = (arg5.view.readAt (Elt F) (Rect.unit (s := S1x2x128x4096) (k0_off20 i) S1x1x128x512.size (k0_off20_inb i hk)).toLoadRect (arg5.view.rep X5)) :=
    (rd_vt arg5.view X5 1 (k0_t1_loop i).trips _ ((off20_eq i).trans (by rw [hn]; rfl)) _).symm
  have a10 : AC X3 X4 X5 1 0 (k0_t1_loop i).trips = (arg10.view.readAt (Elt F) (Rect.unit (s := S2x128x512) ![1, 0, 0] S1x128x256.size inb_S2x128x512_S1x128x256_1_0_0).toLoadRect g10) :=
    ((rd10 arg10.view g10 1 0 _ rfl _).trans (h10 _ _)).symm
  have a11 : AC X3 X4 X5 1 1 (k0_t1_loop i).trips = (arg10.view.readAt (Elt F) (Rect.unit (s := S2x128x512) ![1, 0, 256] S1x128x256.size inb_S2x128x512_S1x128x256_1_0_256).toLoadRect g10) :=
    ((rd10 arg10.view g10 1 1 _ rfl _).trans (h10 _ _)).symm
  have t10 : ST X3 X4 (k0_t1_loop i).trips 1 0 = MK 0#32 (SH (arg8.view.readAt (Elt F) (Rect.unit (s := S2x2x4x512x128) ![1, 1, 0, 0, 0] S1x1x1x512x128.size inb_S2x2x4x512x128_S1x1x1x512x128_1_1_0_0_0).toLoadRect g8)) :=
    (ST_eq0 X3 X4 _ _).trans (congrArg (fun x => MK 0#32 (SH x)) ((rd8 arg8.view g8 1 1 0 _ rfl _).trans (h8 _ hp.symm _ _)).symm)
  have t11 : ST X3 X4 (k0_t1_loop i).trips 1 1 = MK 128#32 (SH (arg8.view.readAt (Elt F) (Rect.unit (s := S2x2x4x512x128) ![1, 1, 1, 0, 0] S1x1x1x512x128.size inb_S2x2x4x512x128_S1x1x1x512x128_1_1_1_0_0).toLoadRect g8)) :=
    (ST_eq1 X3 X4 _ _).trans (congrArg (fun x => MK 128#32 (SH x)) ((rd8 arg8.view g8 1 1 1 _ rfl _).trans (h8 _ hp.symm _ _)).symm)
  have t12 : ST X3 X4 (k0_t1_loop i).trips 1 2 = MK 256#32 (SH (arg8.view.readAt (Elt F) (Rect.unit (s := S2x2x4x512x128) ![1, 1, 2, 0, 0] S1x1x1x512x128.size inb_S2x2x4x512x128_S1x1x1x512x128_1_1_2_0_0).toLoadRect g8)) :=
    (ST_eq2 X3 X4 _ _).trans (congrArg (fun x => MK 256#32 (SH x)) ((rd8 arg8.view g8 1 1 2 _ rfl _).trans (h8 _ hp.symm _ _)).symm)
  have t13 : ST X3 X4 (k0_t1_loop i).trips 1 3 = MK 384#32 (SH (arg8.view.readAt (Elt F) (Rect.unit (s := S2x2x4x512x128) ![1, 1, 3, 0, 0] S1x1x1x512x128.size inb_S2x2x4x512x128_S1x1x1x512x128_1_1_3_0_0).toLoadRect g8)) :=
    (ST_eq3 X3 X4 _ _).trans (congrArg (fun x => MK 384#32 (SH x)) ((rd8 arg8.view g8 1 1 3 _ rfl _).trans (h8 _ hp.symm _ _)).symm)
  isplitl [H3]; · iexact H3
  isplitl [H4]; · iexact H4
  isplitl [H5]; · iexact H5
  isplitl [H6]; · iexact H6
  isplitl [H7]
  · iexists _
    isplitr; swap
    · iexact H7
    ipureintro
    have hAF : ∀ h g, BK10 arg10.view (arg10.view.writes (Elt F) arg10.view.junk (body_odd.sl.H10_4 i arg5 arg8 arg9 arg10 hk X3 X4 X5 g8 g10)) h g
        = AF X3 X4 X5 (k0_t1_loop i).trips h g := by
      delta body_odd.sl.H10_4
      refine all2 (all2 ?_ ?_) (all2 ?_ ?_)
      · repeat first | rw [wr10a, if_neg (by decide)] | rw [wr10b, if_neg (by decide)]
        first | rw [wr10a, if_pos (by decide)] | rw [wr10b, if_pos (by decide)]
        show _ = UP (AL (MSL (MX X3 X4 0 (k0_t1_loop i).trips) 0) (ST X3 X4 (k0_t1_loop i).trips 0 0)) (AL (MSL (MX X3 X4 0 (k0_t1_loop i).trips) 1) (ST X3 X4 (k0_t1_loop i).trips 0 1))
          (PE (MSL (MX X3 X4 0 (k0_t1_loop i).trips) 0) (ST X3 X4 (k0_t1_loop i).trips 0 0)) (PE (MSL (MX X3 X4 0 (k0_t1_loop i).trips) 1) (ST X3 X4 (k0_t1_loop i).trips 0 1)) (AC X3 X4 X5 0 0 (k0_t1_loop i).trips) (VT X5 0 (k0_t1_loop i).trips)
        rw [t00, t01, a00, ev0]
        delta body_odd.sl.r_6
        delta body_odd.sl.v187 body_odd.sl.v189 body_odd.sl.H9_2
        repeat first | rw [rc9, if_neg (by decide)] | rw [rc9, if_pos (by decide)]
        rfl
      · repeat first | rw [wr10a, if_neg (by decide)] | rw [wr10b, if_neg (by decide)]
        first | rw [wr10a, if_pos (by decide)] | rw [wr10b, if_pos (by decide)]
        show _ = UP (AL (MSL (MX X3 X4 0 (k0_t1_loop i).trips) 2) (ST X3 X4 (k0_t1_loop i).trips 0 2)) (AL (MSL (MX X3 X4 0 (k0_t1_loop i).trips) 3) (ST X3 X4 (k0_t1_loop i).trips 0 3))
          (PE (MSL (MX X3 X4 0 (k0_t1_loop i).trips) 2) (ST X3 X4 (k0_t1_loop i).trips 0 2)) (PE (MSL (MX X3 X4 0 (k0_t1_loop i).trips) 3) (ST X3 X4 (k0_t1_loop i).trips 0 3)) (AC X3 X4 X5 0 1 (k0_t1_loop i).trips) (VT X5 0 (k0_t1_loop i).trips)
        rw [t02, t03, a01, ev0]
        delta body_odd.sl.v277 body_odd.sl.v279 body_odd.sl.H9_4
        repeat first | rw [rc9, if_neg (by decide)] | rw [rc9, if_pos (by decide)]
        rfl
      · repeat first | rw [wr10a, if_neg (by decide)] | rw [wr10b, if_neg (by decide)]
        first | rw [wr10a, if_pos (by decide)] | rw [wr10b, if_pos (by decide)]
        show _ = UP (AL (MSL (MX X3 X4 1 (k0_t1_loop i).trips) 0) (ST X3 X4 (k0_t1_loop i).trips 1 0)) (AL (MSL (MX X3 X4 1 (k0_t1_loop i).trips) 1) (ST X3 X4 (k0_t1_loop i).trips 1 1))
          (PE (MSL (MX X3 X4 1 (k0_t1_loop i).trips) 0) (ST X3 X4 (k0_t1_loop i).trips 1 0)) (PE (MSL (MX X3 X4 1 (k0_t1_loop i).trips) 1) (ST X3 X4 (k0_t1_loop i).trips 1 1)) (AC X3 X4 X5 1 0 (k0_t1_loop i).trips) (VT X5 1 (k0_t1_loop i).trips)
        rw [t10, t11, a10, ev1]
        delta body_odd.sl.v367 body_odd.sl.v369 body_odd.sl.H9_6
        repeat first | rw [rc9, if_neg (by decide)] | rw [rc9, if_pos (by decide)]
        rfl
      · repeat first | rw [wr10a, if_neg (by decide)] | rw [wr10b, if_neg (by decide)]
        first | rw [wr10a, if_pos (by decide)] | rw [wr10b, if_pos (by decide)]
        show _ = UP (AL (MSL (MX X3 X4 1 (k0_t1_loop i).trips) 2) (ST X3 X4 (k0_t1_loop i).trips 1 2)) (AL (MSL (MX X3 X4 1 (k0_t1_loop i).trips) 3) (ST X3 X4 (k0_t1_loop i).trips 1 3))
          (PE (MSL (MX X3 X4 1 (k0_t1_loop i).trips) 2) (ST X3 X4 (k0_t1_loop i).trips 1 2)) (PE (MSL (MX X3 X4 1 (k0_t1_loop i).trips) 3) (ST X3 X4 (k0_t1_loop i).trips 1 3)) (AC X3 X4 X5 1 1 (k0_t1_loop i).trips) (VT X5 1 (k0_t1_loop i).trips)
        rw [t12, t13, a11, ev1]
        delta body_odd.sl.r_34
        delta body_odd.sl.v457 body_odd.sl.v459 body_odd.sl.H9_8
        repeat first | rw [rc9, if_neg (by decide)] | rw [rc9, if_pos (by decide)]
        rfl
    rw [View.read_writes_full, View.readAt_rep_full arg6.view X6, show OUT X3 X4 X5 X6 (i 2).val = OUT X3 X4 X5 X6 (k0_t1_loop i).trips from by rw [hn]]
    have e0 : body_odd.sl.v87 i arg5 arg8 arg9 arg10 hk X3 X4 X5 g8 g10 = JN (AF X3 X4 X5 (k0_t1_loop i).trips 0) :=
      (rj10 arg10.view _ 0 _ rfl _).trans (congrArg JN (funext (hAF 0)))
    have e1 : body_odd.sl.v89 i arg5 arg8 arg9 arg10 hk X3 X4 X5 g8 g10 = JN (AF X3 X4 X5 (k0_t1_loop i).trips 1) :=
      (rj10 arg10.view _ 1 _ rfl _).trans (congrArg JN (funext (hAF 1)))
    rw [e0, e1]
    rfl
  isplitl [H8]; · iexists _; iexact H8
  isplitl [H9]; · iexists _; iexact H9
  iexists _; iexact H10

end Body
end Cert.Fox.KI
end
-- ==== Proof.FoxFrame.lean ====
module

public import proofs.«01_k».proof.Proof.FoxBodyOdd
public import proofs.«01_k».proof.Proof.Gen.KernelIdeal.Points
public import proofs.«01_k».proof.Proof.Gen.KernelIdeal.Launch
public import Idealize.ShloMosaic.Lib.Pipeline.TableIdle
@[expose] public section

set_option maxRecDepth 16384

noncomputable section

namespace Cert.Fox.KI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! The body at every point, and the frame run it gives. -/

open Idealize.ShloMosaic.Pipeline (Dat Cfg Window BodyObligation cellOf)

section Frame
variable {F : FTy → Type} [FloatOps F]
local notation "𝕄" => MT nD τ sig Unit (Elt F) ℕ (UR sig nD τ) ℕ

theorem body_owns (c : Dev nD) (i : grid0.Coords) (arg3 : Memref sig .tc .vmem S1x2x128x512 .bf16) (harg3 : arg3.IsWhole) (arg4 : Memref sig .tc .vmem S1x2x4096x128 .bf16) (harg4 : arg4.IsWhole) (arg5 : Memref sig .tc .vmem S1x2x128x4096 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S2x2x4x512x128 .f32) (harg8 : arg8.IsWhole) (arg9 : Memref sig .tc .vmem S2x4x512x128 .bf16) (harg9 : arg9.IsWhole) (arg10 : Memref sig .tc .vmem S2x128x512 .f32) (harg10 : arg10.IsWhole)
    (X3 : S1x2x128x512.Idx → Elt F .bf16) (X4 : S1x2x4096x128.Idx → Elt F .bf16) (X5 : S1x2x128x4096.Idx → Elt F .bf16) (X6 : S1x512x128.Idx → Elt F .bf16) :
    (iprop((owns (c : Thread nD τ) arg3 fullShare X3)
      ∗ (owns (c : Thread nD τ) arg4 fullShare X4)
      ∗ (owns (c : Thread nD τ) arg5 fullShare X5)
      ∗ (owns (c : Thread nD τ) arg6 fullShare X6)
      ∗ (∃ d, (owns (c : Thread nD τ) arg7 fullShare d))
      ∗ (∃ d, (owns (c : Thread nD τ) arg8 fullShare d))
      ∗ (∃ d, (owns (c : Thread nD τ) arg9 fullShare d))
      ∗ (∃ d, (owns (c : Thread nD τ) arg10 fullShare d))) : sProp 𝕄)
    ⊢ wp frame (wpE (defs₀ (F := F)) Variants.none (c : Thread nD τ) none) Set.univ
        (cc0_fox_attention (F := F) i arg3 harg3 arg4 harg4 arg5 harg5 arg6 harg6 arg7 harg7 arg8 harg8 arg9 harg9 arg10 harg10)
        (fun _ => iprop((owns (c : Thread nD τ) arg3 fullShare X3)
      ∗ (owns (c : Thread nD τ) arg4 fullShare X4)
      ∗ (owns (c : Thread nD τ) arg5 fullShare X5)
      ∗ (owns (c : Thread nD τ) arg6 fullShare X6)
      ∗ (owns (c : Thread nD τ) arg7 fullShare (OUT X3 X4 X5 X6 (i 2).val))
      ∗ (∃ d, (owns (c : Thread nD τ) arg8 fullShare d))
      ∗ (∃ d, (owns (c : Thread nD τ) arg9 fullShare d))
      ∗ (∃ d, (owns (c : Thread nD τ) arg10 fullShare d)))) := by
  have key := (by
    by_cases hk : k0_cond3 i = 1#1
    · exact body_even (F := F) c i arg3 harg3 arg4 harg4 arg5 harg5 arg6 harg6 arg7 harg7 arg8 harg8 arg9 harg9 arg10 harg10 hk X3 X4 X5 X6
    · exact body_odd (F := F) c i arg3 harg3 arg4 harg4 arg5 harg5 arg6 harg6 arg7 harg7 arg8 harg8 arg9 harg9 arg10 harg10 hk X3 X4 X5 X6 :
      (iprop((arg3.view.loc (c : Thread nD τ) ↦[arg3.view.set]{fullShare} arg3.view.rep X3)
      ∗ (arg4.view.loc (c : Thread nD τ) ↦[arg4.view.set]{fullShare} arg4.view.rep X4)
      ∗ (arg5.view.loc (c : Thread nD τ) ↦[arg5.view.set]{fullShare} arg5.view.rep X5)
      ∗ (arg6.view.loc (c : Thread nD τ) ↦[arg6.view.set]{fullShare} arg6.view.rep X6)
      ∗ (∃ f, arg7.view.loc (c : Thread nD τ) ↦[arg7.view.set]{fullShare} f)
      ∗ (∃ f, arg8.view.loc (c : Thread nD τ) ↦[arg8.view.set]{fullShare} f)
      ∗ (∃ f, arg9.view.loc (c : Thread nD τ) ↦[arg9.view.set]{fullShare} f)
      ∗ (∃ f, arg10.view.loc (c : Thread nD τ) ↦[arg10.view.set]{fullShare} f)) : sProp 𝕄)
      ⊢ wp frame (wpE (defs₀ (F := F)) Variants.none (c : Thread nD τ) none) Set.univ (cc0_fox_attention (F := F) i arg3 harg3 arg4 harg4 arg5 harg5 arg6 harg6 arg7 harg7 arg8 harg8 arg9 harg9 arg10 harg10)
        (fun _ => iprop((arg3.view.loc (c : Thread nD τ) ↦[arg3.view.set]{fullShare} arg3.view.rep X3)
      ∗ (arg4.view.loc (c : Thread nD τ) ↦[arg4.view.set]{fullShare} arg4.view.rep X4)
      ∗ (arg5.view.loc (c : Thread nD τ) ↦[arg5.view.set]{fullShare} arg5.view.rep X5)
      ∗ (arg6.view.loc (c : Thread nD τ) ↦[arg6.view.set]{fullShare} arg6.view.rep X6)
      ∗ (∃ f, ⌜arg7.view.read (Elt F) f = OUT X3 X4 X5 X6 (i 2).val⌝ ∗ arg7.view.loc (c : Thread nD τ) ↦[arg7.view.set]{fullShare} f)
      ∗ (∃ f, arg8.view.loc (c : Thread nD τ) ↦[arg8.view.set]{fullShare} f)
      ∗ (∃ f, arg9.view.loc (c : Thread nD τ) ↦[arg9.view.set]{fullShare} f)
      ∗ (∃ f, arg10.view.loc (c : Thread nD τ) ↦[arg10.view.set]{fullShare} f))))
  refine BIBase.Entails.trans ?_ (key.trans (wp_mono _ _ _ ?_))
  · simp only [owns_eq_rep]
    iintro ⟨H3, H4, H5, H6, ⟨%d7, H7⟩, ⟨%d8, H8⟩, ⟨%d9, H9⟩, ⟨%d10, H10⟩⟩
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexists _; iexact H10
  · intro x
    rw [owns_eq_rep (c : Thread nD τ) arg3, owns_eq_rep (c : Thread nD τ) arg4, owns_eq_rep (c : Thread nD τ) arg5, owns_eq_rep (c : Thread nD τ) arg6]
    iintro ⟨H3, H4, H5, H6, ⟨%f7, %h7, H7⟩, ⟨%f8, H8⟩, ⟨%f9, H9⟩, ⟨%f10, H10⟩⟩
    isplitl [H3]; · iexact H3
    isplitl [H4]; · iexact H4
    isplitl [H5]; · iexact H5
    isplitl [H6]; · iexact H6
    unfold owns
    isplitl [H7]; · iexists _; isplitr; swap; iexact H7; ipureintro; exact h7
    isplitl [H8]; · iexists _; iexists _; isplitr; swap; iexact H8; ipureintro; rfl
    isplitl [H9]; · iexists _; iexists _; isplitr; swap; iexact H9; ipureintro; rfl
    iexists _; iexists _; isplitr; swap; iexact H10; ipureintro; rfl

variable (m : (ℓ : Loc nD τ sig) → Buf (Elt F) ℓ) (ρ : Dev nD → PrngReg)

/-- The block of the result that point `t` writes. -/
def outAt (c : Dev nD) (t : Fin cfg0.N) : S1x512x128.Idx → Elt F .bf16 :=
  OUT (iblk m c 0 t) (iblk m c 1 t) (iblk m c 2 t) (iblk m c 3 t) ((grid0.coords t) 2).val

/-- The proof data: the inputs' blocks stay, the result's is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4]
  rw [show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl, show (dats m 0 c).owed t.succ = 0 from rfl]
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c)]
  simp only [← owns_whole]
  iintro ⟨⟨⟨HS0, HS1, HS2⟩, Hg⟩, HW, ⟨%d0, H0⟩, ⟨%d1, H1⟩, ⟨%d2, H2⟩, ⟨%d3, H3⟩, ⟨%d4, H4⟩⟩
  iapply wp_wand_r
  isplitl [H0 H1 H2 H3 H4 HS0 HS1 HS2]
  · iapply (body_owns (F := F) c (grid0.coords t) _ _ _ _ _ _ _ _ _ _ _ _ _ _ _ _ (iblk m c 0 t) (iblk m c 1 t) (iblk m c 2 t) (iblk m c 3 t))
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iexact HS2
  iintro %_ ⟨H0, H1, H2, H3, H4, HS0, HS1, HS2⟩
  isplitl [HS0 HS1 HS2 Hg]
  · isplitl [HS0 HS1 HS2]
    · isplitl [HS0]; · iexact HS0
      isplitl [HS1]; · iexact HS1
      iexact HS2
    iexact Hg
  isplitl [HW]; · iexact HW
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hΦ := fun _ _ => rfl) (Q' := fun r => Pipeline.FramePost cfgs (dats m) 0 (V m) r ∧ r.2.sem = fun _ => 0) (hQ' := fun _ h => h)

/-- The frame: the arguments end unchanged and every semaphore counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩) (run_main m ρ)
end Frame

end Cert.Fox.KI
end
-- ==== Proof.FoxMath.lean ====
module

public import Idealize.ShloMosaic.PureOps.Ideal
public import Mathlib.Algebra.BigOperators.Intervals

@[expose] public section

noncomputable section

namespace Cert.Fox.Online

open Idealize.ShloMosaic

/-! The online softmax over the extended reals: sums of weighted values kept relative to a running maximum are
the sums relative to the last maximum, and their quotient is the softmax's weighted sum. -/

/-- A finite extended real. -/
def Real? (x : EReal) : Prop := ∃ r : ℝ, x = (r : EReal)

theorem real_mul {x y : EReal} (hx : Real? x) (hy : Real? y) : Real? (x * y) := by
  obtain ⟨a, rfl⟩ := hx; obtain ⟨b, rfl⟩ := hy
  exact ⟨a * b, (EReal.coe_mul a b).symm⟩

theorem real_add {x y : EReal} (hx : Real? x) (hy : Real? y) : Real? (x + y) := by
  obtain ⟨a, rfl⟩ := hx; obtain ⟨b, rfl⟩ := hy
  exact ⟨a + b, (EReal.coe_add a b).symm⟩

theorem real_sum {ι : Type} (s : Finset ι) (f : ι → EReal) (h : ∀ i, Real? (f i)) : Real? (∑ i ∈ s, f i) := by
  classical
  induction s using Finset.induction_on with
  | empty => exact ⟨0, by simp⟩
  | insert a s ha ih => rw [Finset.sum_insert ha]; exact real_add (h a) ih

theorem real_of {x : EReal} (h1 : x ≠ ⊥) (h2 : x ≠ ⊤) : Real? x := ⟨x.toReal, (EReal.coe_toReal h2 h1).symm⟩

theorem exp_pos_real {x y : EReal} (hx : Real? x) (hy : Real? y) : ∃ r : ℝ, 0 < r ∧ Ideal.exp (x - y) = (r : EReal) := by
  obtain ⟨a, rfl⟩ := hx; obtain ⟨b, rfl⟩ := hy
  exact ⟨Real.exp (a - b), Real.exp_pos _, by rw [← EReal.coe_sub, Ideal.exp_coe]⟩

theorem exp_sub_mul {x y z : EReal} (hx : Real? x) (hy : Real? y) (hz : Real? z) :
    Ideal.exp (y - z) * Ideal.exp (x - y) = Ideal.exp (x - z) := by
  obtain ⟨a, rfl⟩ := hx; obtain ⟨b, rfl⟩ := hy; obtain ⟨c, rfl⟩ := hz
  rw [← EReal.coe_sub, ← EReal.coe_sub, ← EReal.coe_sub, Ideal.exp_coe, Ideal.exp_coe, Ideal.exp_coe, ← EReal.coe_mul, ← Real.exp_add]
  congr 2; ring

theorem exp_bot_sub {y : EReal} (hy : Real? y) : Ideal.exp (⊥ - y) = 0 := by
  obtain ⟨b, rfl⟩ := hy
  rw [EReal.bot_sub]; rfl

/-- A finite nonnegative factor goes through a finite sum. -/
theorem mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert b s hb ih =>
    rw [Finset.sum_insert hb, Finset.sum_insert hb, ← ih]
    exact EReal.left_distrib_of_nonneg_of_ne_top (EReal.coe_nonneg.2 ha) (EReal.coe_ne_top a) _ _

/-- `M` is the maximum of the first `n` scores. -/
def IsMax (W : ℕ → EReal) (n : ℕ) (M : EReal) : Prop := ∀ u, M ≤ u ↔ ∀ r, r < n → W r ≤ u

theorem IsMax.unique {W : ℕ → EReal} {n : ℕ} {M N : EReal} (h : IsMax W n M) (h' : IsMax W n N) : M = N :=
  le_antisymm ((h N).2 ((h' N).1 le_rfl)) ((h' M).2 ((h M).1 le_rfl))

/-- Scores that are finite up to `q` and masked after it have a finite maximum. -/
theorem IsMax.real {W : ℕ → EReal} {n q : ℕ} {M : EReal} (h : IsMax W n M) (hn : 0 < n)
    (hW : ∀ r, r ≤ q → Real? (W r)) (hb : ∀ r, q < r → W r = ⊥) : Real? M := by
  obtain ⟨a, ha⟩ := hW 0 (Nat.zero_le _)
  refine real_of (fun e => ?_) (fun e => ?_)
  · have := (h M).1 le_rfl 0 hn
    rw [e, ha] at this
    exact EReal.coe_ne_bot a (le_bot_iff.1 this)
  · have key : ∀ k, ∃ b : ℝ, ∀ r, r < k → W r ≤ (b : EReal) := by
      intro k
      induction k with
      | zero => exact ⟨0, fun r hr => absurd hr (Nat.not_lt_zero r)⟩
      | succ k ih =>
        obtain ⟨b, hb'⟩ := ih
        have hk : ∃ d : ℝ, W k ≤ (d : EReal) := by
          by_cases hq : k ≤ q
          · obtain ⟨d, hd⟩ := hW k hq; exact ⟨d, hd.le⟩
          · exact ⟨0, by rw [hb k (by omega)]; exact bot_le⟩
        obtain ⟨d, hd⟩ := hk
        refine ⟨max b d, fun r hr => ?_⟩
        rcases Nat.lt_succ_iff_lt_or_eq.1 hr with h1 | h1
        · exact (hb' r h1).trans (EReal.coe_le_coe_iff.2 (le_max_left b d))
        · rw [h1]; exact hd.trans (EReal.coe_le_coe_iff.2 (le_max_right b d))
    obtain ⟨b, hb'⟩ := key n
    have := (h b).2 hb'
    rw [e] at this
    exact EReal.coe_ne_top b (top_le_iff.1 this)

/-- The sums relative to the maximum `M`. -/
def WSum (W V : ℕ → EReal) (n : ℕ) (M : EReal) : EReal := ∑ r ∈ Finset.range n, V r * Ideal.exp (W r - M)

/-- One step: scaling the sums so far to the new maximum and adding a block's. -/
theorem wsum_step {W V : ℕ → EReal} {n b q : ℕ} {M N : EReal} (hM : IsMax W n M) (hN : IsMax W (n + b) N) (hb0 : 0 < b)
    (hnq : n ≤ q + 1) (hW : ∀ r, r ≤ q → Real? (W r)) (hb : ∀ r, q < r → W r = ⊥) :
    Ideal.exp (M - N) * WSum W V n M + ∑ j : Fin b, V (n + j.val) * Ideal.exp (W (n + j.val) - N) = WSum W V (n + b) N := by
  unfold WSum
  rw [Finset.sum_range_add, Finset.sum_range (fun x => V (n + x) * Ideal.exp (W (n + x) - N))]
  congr 1
  rcases Nat.eq_zero_or_pos n with h0 | h0
  · subst h0; simp
  · have hMr := hM.real h0 hW hb
    have hNr := hN.real (by omega) hW hb
    obtain ⟨a, ha, hae⟩ := exp_pos_real hMr hNr
    rw [hae, mul_sum _ _ ha.le, ← hae]
    refine Finset.sum_congr rfl fun r hr => ?_
    have hrn : r < n := Finset.mem_range.1 hr
    rw [mul_left_comm, exp_sub_mul (hW r (by omega)) hMr hNr]

/-- Sums do not change past the last unmasked score. -/
theorem wsum_mono {W V : ℕ → EReal} {n n' q : ℕ} {M : EReal} (hq : q < n) (hn : n ≤ n') (hMr : Real? M)
    (hb : ∀ r, q < r → W r = ⊥) : WSum W V n M = WSum W V n' M := by
  unfold WSum
  refine Finset.sum_subset (fun r hr => Finset.mem_range.2 ((Finset.mem_range.1 hr).trans_le hn)) fun r _ hr => ?_
  rw [hb r (by rw [Finset.mem_range] at hr; omega), exp_bot_sub hMr, mul_zero]

/-- The maximum does not change past the last unmasked score. -/
theorem IsMax.mono {W : ℕ → EReal} {n n' q : ℕ} {M : EReal} (h : IsMax W n M) (hq : q < n) (hn : n ≤ n')
    (hb : ∀ r, q < r → W r = ⊥) : IsMax W n' M := fun u => by
  rw [h u]
  refine ⟨fun H r _ => ?_, fun H r hr => H r (hr.trans_le hn)⟩
  by_cases hr : r < n
  · exact H r hr
  · rw [hb r (by omega)]; exact bot_le

/-- The denominator is finite and positive. -/
theorem den_real {W : ℕ → EReal} {n q : ℕ} {M : EReal} (hn : 0 < n) (hMr : Real? M)
    (hW : ∀ r, r ≤ q → Real? (W r)) (hb : ∀ r, q < r → W r = ⊥) : ∃ d : ℝ, 0 < d ∧ WSum W (fun _ => 1) n M = (d : EReal) := by
  unfold WSum
  obtain ⟨k, rfl⟩ : ∃ k, n = k + 1 := ⟨n - 1, by omega⟩
  induction k with
  | zero =>
    obtain ⟨a, ha, hae⟩ := exp_pos_real (hW 0 (Nat.zero_le _)) hMr
    exact ⟨a, ha, by simp [hae]⟩
  | succ k ih =>
    obtain ⟨d, hd, hde⟩ := ih (by omega)
    rw [Finset.sum_range_succ, hde]
    by_cases hq : k + 1 ≤ q
    · obtain ⟨a, ha, hae⟩ := exp_pos_real (hW (k + 1) hq) hMr
      exact ⟨d + a, by positivity, by rw [hae, one_mul, EReal.coe_add]⟩
    · exact ⟨d, hd, by rw [hb (k + 1) (by omega), exp_bot_sub hMr, mul_zero, add_zero]⟩

/-- The quotient of the sums is the sum of the weights' quotients. -/
theorem quotient {W V : ℕ → EReal} {n : ℕ} {M : EReal} {d : ℝ} (hd : 0 < d) :
    Ideal.div (WSum W V n M) (d : EReal) = ∑ r ∈ Finset.range n, Ideal.div (Ideal.exp (W r - M)) (d : EReal) * V r := by
  have h0 : (d : EReal) ≠ 0 := by exact_mod_cast hd.ne'
  unfold Ideal.div WSum
  simp only [h0, if_false]
  rw [← EReal.coe_inv, mul_comm, mul_sum _ _ (inv_nonneg.2 hd.le)]
  refine Finset.sum_congr rfl fun r _ => ?_
  ac_rfl

end Cert.Fox.Online

end
-- ==== Proof.FoxIdeal.lean ====
module

public import proofs.«01_k».proof.Proof.FoxOps
public import proofs.«01_k».proof.Proof.FoxMath
public import Idealize.ShloMosaic.Lib.Pointwise

@[expose] public section

set_option maxRecDepth 100000

noncomputable section

namespace Cert.Fox.KI
open Cert.KernelIdeal Cert.KernelIdeal.Gen
open Idealize.ShloMosaic

/-! The step's functions read at an index over the extended reals. -/

theorem negInf : (Ideal.ofBits .f32 0xFF800000#32 : EReal) = ⊥ := by
  simp [Ideal.ofBits, Ideal.ieee]

theorem SS_at (X3 : S1x2x128x512.Idx → Elt Ideal .bf16) (X4 : S1x2x4096x128.Idx → Elt Ideal .bf16) (k : ℕ) (h : Fin 2) (c : Fin 4) (j : Fin 512) (q : Fin 128) :
    SS (F := Ideal) X3 X4 k h c (ix2 j q)
      = ∑ f : Fin 128, X4 (ix4 (0 : Fin 1) h (⟨(512 * k + j.val) % 4096, Nat.mod_lt _ (by decide)⟩ : Fin 4096) f)
          * X3 (ix4 (0 : Fin 1) h f (⟨128 * c.val + q.val, by omega⟩ : Fin 512)) := by
  fin_cases c <;> (dsimp only [SS, SC]; pointwise [SH, k0_pay5, k0_pay6, k0_pay4, KA, QT])
  exact Finset.sum_congr rfl fun f _ => congrArg (_ * X3 ·) (congrArg (ix4 (0 : Fin 1) h f) (Fin.ext (by show 256 + (128 + q.val) = 384 + q.val; omega)))

theorem MN_le (m : FVec Ideal S1x128 .f32) (s : FVec Ideal S512x128 .f32) (q : Fin 128) (u : EReal) :
    MN m s (ix2 (0 : Fin 1) q) ≤ u ↔ m (ix2 (0 : Fin 1) q) ≤ u ∧ ∀ j : Fin 512, s (ix2 j q) ≤ u := by
  pointwise [MN]
  rw [negInf, max_le_iff, Finset.fold_max_le]
  refine and_congr_right fun _ => ⟨fun H j => ?_, fun H => ⟨bot_le, fun x _ => ?_⟩⟩
  · have hx := H.2 (⟨j.val % 64, Nat.mod_lt _ (by decide)⟩ : Fin 64) (Finset.mem_univ _)
    simp only [max_le_iff] at hx
    obtain ⟨⟨⟨h0, h1⟩, h2, h3⟩, ⟨h4, h5⟩, h6, h7⟩ := hx
    have hj := j.isLt
    have e : ∀ (n : ℕ) (hn : n < 512), n = j.val → s (ix2 ⟨n, hn⟩ q) ≤ u → s (ix2 j q) ≤ u := fun n hn he h => by subst he; exact h
    rcases (by omega : j.val / 64 = 0 ∨ j.val / 64 = 1 ∨ j.val / 64 = 2 ∨ j.val / 64 = 3 ∨ j.val / 64 = 4 ∨ j.val / 64 = 5 ∨ j.val / 64 = 6 ∨ j.val / 64 = 7)
      with h | h | h | h | h | h | h | h
    · exact e _ _ (by omega) h0
    · exact e _ _ (by omega) h1
    · exact e _ _ (by omega) h2
    · exact e _ _ (by omega) h3
    · exact e _ _ (by omega) h4
    · exact e _ _ (by omega) h5
    · exact e _ _ (by omega) h6
    · exact e _ _ (by omega) h7
  · simp only [max_le_iff, H, and_self]

theorem PE_at (m : FVec Ideal S1x128 .f32) (s : FVec Ideal S512x128 .f32) (j : Fin 512) (q : Fin 128) :
    PE m s (ix4 (0 : Fin 1) (0 : Fin 1) j q) = Ideal.exp (s (ix2 j q) - MN m s (ix2 (0 : Fin 1) q)) := by
  pointwise [PE]

theorem AL_at (m : FVec Ideal S1x128 .f32) (s : FVec Ideal S512x128 .f32) (q : Fin 128) :
    AL m s (ix2 (0 : Fin 1) q) = Ideal.exp (m (ix2 (0 : Fin 1) q) - MN m s (ix2 (0 : Fin 1) q)) := by
  pointwise [AL]

theorem UP_lo (a0 a1 : FVec Ideal S1x128 .f32) (p0 p1 : FVec Ideal S1x1x512x128 .bf16) (acc : Vec Ideal S1x128x256 .f32) (vt : Vec Ideal S1x1x128x512 .bf16)
    (f : Fin 128) (q : Fin 256) (hq : q.val < 128) :
    UP a0 a1 p0 p1 acc vt (ix3 (0 : Fin 1) f q)
      = a0 (ix2 (0 : Fin 1) (⟨q.val, hq⟩ : Fin 128)) * acc (ix3 (0 : Fin 1) f q)
        + ∑ j : Fin 512, vt (ix4 (0 : Fin 1) (0 : Fin 1) f j) * p0 (ix4 (0 : Fin 1) (0 : Fin 1) j (⟨q.val, hq⟩ : Fin 128)) := by
  pointwise [UP]
  simp only [dif_pos hq]

theorem UP_hi (a0 a1 : FVec Ideal S1x128 .f32) (p0 p1 : FVec Ideal S1x1x512x128 .bf16) (acc : Vec Ideal S1x128x256 .f32) (vt : Vec Ideal S1x1x128x512 .bf16)
    (f : Fin 128) (q : Fin 256) (hq : ¬ q.val < 128) :
    UP a0 a1 p0 p1 acc vt (ix3 (0 : Fin 1) f q)
      = a1 (ix2 (0 : Fin 1) (⟨q.val - 128, by omega⟩ : Fin 128)) * acc (ix3 (0 : Fin 1) f q)
        + ∑ j : Fin 512, vt (ix4 (0 : Fin 1) (0 : Fin 1) f j) * p1 (ix4 (0 : Fin 1) (0 : Fin 1) j (⟨q.val - 128, by omega⟩ : Fin 128)) := by
  pointwise [UP]
  simp only [dif_neg hq]

theorem MROW_at (m : FVec Ideal S1x512 .f32) (S : Fin 4 → FVec Ideal S512x128 .f32) (c : Fin 4) (q : Fin 128) :
    MROW m S (ix2 (0 : Fin 1) (⟨128 * c.val + q.val, by omega⟩ : Fin 512)) = MN (MSL m c) (S c) (ix2 (0 : Fin 1) q) := by
  fin_cases c <;> pointwise [MROW]
  · rw [dif_neg (by omega), dif_neg (by omega), dif_pos (by omega)]
    exact congrArg _ (congrArg (ix2 (0 : Fin 1)) (Fin.ext (by show 256 + q.val - 128 - 128 = q.val; omega)))
  · rw [dif_neg (by omega), dif_neg (by omega), dif_neg (by omega)]
    exact congrArg _ (congrArg (ix2 (0 : Fin 1)) (Fin.ext (by show 384 + q.val - 128 - 128 - 128 = q.val; omega)))

theorem MSL_at (m : FVec Ideal S1x512 .f32) (c : Fin 4) (q : Fin 128) :
    MSL m c (ix2 (0 : Fin 1) q) = m (ix2 (0 : Fin 1) (⟨128 * c.val + q.val, by omega⟩ : Fin 512)) := by
  fin_cases c <;> (dsimp only [MSL]; pointwise [])

theorem toInt_small (a : ℕ) (ha : a < 4096) : (BitVec.ofNat 32 a).toInt = (a : ℤ) := by
  have e : (BitVec.ofNat 32 a).toNat = a := by rw [BitVec.toNat_ofNat]; omega
  rw [BitVec.toInt_eq_toNat_of_lt (by omega), e]

/-- A signed comparison of small words is the comparison of the numbers. -/
theorem sle_small (a b : ℕ) (ha : a < 4096) (hb : b < 4096) :
    IntOp.cmpi .sle (BitVec.ofNat 32 a) (BitVec.ofNat 32 b) = BitVec.ofBool (decide (a ≤ b)) := by
  simp only [IntOp.cmpi, BitVec.sle, toInt_small a ha, toInt_small b hb, Int.ofNat_le]

theorem sge_small (a b : ℕ) (ha : a < 4096) (hb : b < 4096) :
    IntOp.cmpi .sge (BitVec.ofNat 32 a) (BitVec.ofNat 32 b) = BitVec.ofBool (decide (b ≤ a)) := by
  simp only [IntOp.cmpi, BitVec.sle, toInt_small a ha, toInt_small b hb, Int.ofNat_le]

theorem select_ofBool {α : Type} (p : Prop) [Decidable p] (x y : α) : Scalar.select (BitVec.ofBool (decide p)) x y = if p then x else y := by
  by_cases h : p <;> simp [Scalar.select, h]

theorem MK_at (c : Fin 4) (s : FVec Ideal S512x128 .f32) (j : Fin 512) (q : Fin 128) :
    MK (F := Ideal) (![0#32, 128#32, 256#32, 384#32] c) s (ix2 j q) = if j.val ≤ 128 * c.val + q.val then s (ix2 j q) else ⊥ := by
  pointwise [MK]
  have e : IntOp.addi (BitVec.ofNat 32 q.val) ((![0#32, 128#32, 256#32, 384#32] : Fin 4 → BitVec 32) c) = BitVec.ofNat 32 (128 * c.val + q.val) := by
    rw [show (![0#32, 128#32, 256#32, 384#32] : Fin 4 → BitVec 32) c = BitVec.ofNat 32 (128 * c.val) by fin_cases c <;> rfl, add_comm]
    exact (BitVec.ofNat_add _ _).symm
  rw [negInf, e, sle_small _ _ (by omega) (by omega), select_ofBool]

end Cert.Fox.KI
end
-- ==== Proof.FoxValue.lean ====
module

public import proofs.«01_k».proof.Proof.FoxIdeal

@[expose] public section

set_option maxRecDepth 100000

noncomputable section

namespace Cert.Fox.KI
open Cert.KernelIdeal Cert.KernelIdeal.Gen
open Idealize.ShloMosaic Cert.Fox.Online

/-! A grid point's sums over the extended reals: what `OUT` holds at an index. -/

/-- Chunk `e` of half `g`. -/
def ch (g e : Fin 2) : Fin 4 := ⟨2 * g.val + e.val, by omega⟩

theorem UPD_at (m : FVec Ideal S1x512 .f32) (S : Fin 4 → FVec Ideal S512x128 .f32) (g e : Fin 2) (acc : Vec Ideal S1x128x256 .f32) (vt : Vec Ideal S1x1x128x512 .bf16)
    (f : Fin 128) (q : Fin 128) :
    UPD m S (lo g) (hi g) acc vt (ix3 (0 : Fin 1) f (⟨128 * e.val + q.val, by omega⟩ : Fin 256))
      = Ideal.exp (m (ix2 (0 : Fin 1) (⟨128 * (ch g e).val + q.val, by omega⟩ : Fin 512)) - MN (MSL m (ch g e)) (S (ch g e)) (ix2 (0 : Fin 1) q))
          * acc (ix3 (0 : Fin 1) f (⟨128 * e.val + q.val, by omega⟩ : Fin 256))
        + ∑ j : Fin 512, vt (ix4 (0 : Fin 1) (0 : Fin 1) f j) * Ideal.exp (S (ch g e) (ix2 j q) - MN (MSL m (ch g e)) (S (ch g e)) (ix2 (0 : Fin 1) q)) := by
  unfold UPD
  rw [← MSL_at m (ch g e) q]
  have hlo : lo g = ch g 0 := by fin_cases g <;> rfl
  have hhi : hi g = ch g 1 := by fin_cases g <;> rfl
  rw [hlo, hhi]
  rcases (by omega : e = 0 ∨ e = 1) with rfl | rfl
  · rw [UP_lo _ _ _ _ _ _ _ _ (by show 128 * 0 + q.val < 128; omega)]
    rw [show (⟨128 * ((0 : Fin 2) : ℕ) + q.val, by show 128 * 0 + q.val < 128; omega⟩ : Fin 128) = q from Fin.ext (by show 128 * 0 + q.val = q.val; omega)]
    rw [AL_at]
    simp only [PE_at]
  · rw [UP_hi _ _ _ _ _ _ _ _ (by show ¬ 128 * 1 + q.val < 128; omega)]
    rw [show (⟨128 * ((1 : Fin 2) : ℕ) + q.val - 128, by show 128 * 1 + q.val - 128 < 128; omega⟩ : Fin 128) = q from Fin.ext (by show 128 * 1 + q.val - 128 = q.val; omega)]
    rw [AL_at]
    simp only [PE_at]

/-- The maximum over the keys so far and one more block of them. -/
theorem MN_isMax {W : ℕ → EReal} {n : ℕ} {m : FVec Ideal S1x128 .f32} {s : FVec Ideal S512x128 .f32} {q : Fin 128}
    (h : IsMax W n (m (ix2 (0 : Fin 1) q))) (hs : ∀ j : Fin 512, s (ix2 j q) = W (n + j.val)) :
    IsMax W (n + 512) (MN m s (ix2 (0 : Fin 1) q)) := fun u => by
  rw [MN_le, h u]
  refine ⟨fun H r hr => ?_, fun H => ⟨fun r hr => H r (by omega), fun j => by rw [hs j]; exact H _ (by omega)⟩⟩
  by_cases h' : r < n
  · exact H.1 r h'
  · have := H.2 (⟨r - n, by omega⟩ : Fin 512)
    rw [hs, show n + (r - n) = r by omega] at this
    exact this

section Point
variable (X3 : S1x2x128x512.Idx → Elt Ideal .bf16) (X4 : S1x2x4096x128.Idx → Elt Ideal .bf16) (X5 : S1x2x128x4096.Idx → Elt Ideal .bf16) (n : ℕ) (h : Fin 2)

/-- The masked score of key `r` for query `q` of the block. -/
def WQ (q : ℕ) (hq : q < 512) (r : ℕ) : EReal :=
  if r ≤ 512 * n + q then ∑ f : Fin 128, X4 (ix4 (0 : Fin 1) h (⟨r % 4096, Nat.mod_lt _ (by decide)⟩ : Fin 4096) f) * X3 (ix4 (0 : Fin 1) h f (⟨q, hq⟩ : Fin 512)) else ⊥
/-- Feature `f` of the value of key `r`. -/
def VQ (f : Fin 128) (r : ℕ) : EReal := X5 (ix4 (0 : Fin 1) h f (⟨r % 4096, Nat.mod_lt _ (by decide)⟩ : Fin 4096))

theorem WQ_real (hX3 : ∀ y, Real? (X3 y)) (hX4 : ∀ y, Real? (X4 y)) {q : ℕ} (hq : q < 512) (r : ℕ) (hr : r ≤ 512 * n + q) : Real? (WQ X3 X4 n h q hq r) := by
  unfold WQ; rw [if_pos hr]; exact real_sum _ _ fun f => real_mul (hX4 _) (hX3 _)
theorem WQ_bot {q : ℕ} (hq : q < 512) (r : ℕ) (hr : 512 * n + q < r) : WQ X3 X4 n h q hq r = ⊥ := by
  unfold WQ; exact if_neg (by omega)

theorem SS_eq {k : ℕ} (hk : k < n) (c : Fin 4) (j : Fin 512) (q : Fin 128) :
    SS (F := Ideal) X3 X4 k h c (ix2 j q) = WQ X3 X4 n h (128 * c.val + q.val) (by omega) (512 * k + j.val) := by
  rw [SS_at]; unfold WQ; rw [if_pos (by omega)]
theorem ST_eq (c : Fin 4) (j : Fin 512) (q : Fin 128) :
    ST (F := Ideal) X3 X4 n h c (ix2 j q) = WQ X3 X4 n h (128 * c.val + q.val) (by omega) (512 * n + j.val) := by
  unfold ST; rw [MK_at, SS_at]; unfold WQ
  by_cases hj : j.val ≤ 128 * c.val + q.val
  · rw [if_pos hj, if_pos (by omega)]
  · rw [if_neg hj, if_neg (by omega)]

theorem MX_isMax (c : Fin 4) (q : Fin 128) (k : ℕ) (hk : k ≤ n) :
    IsMax (WQ X3 X4 n h (128 * c.val + q.val) (by omega)) (512 * k) (MX (F := Ideal) X3 X4 h k (ix2 (0 : Fin 1) (⟨128 * c.val + q.val, by omega⟩ : Fin 512))) := by
  induction k with
  | zero =>
    intro u
    have e : MX (F := Ideal) X3 X4 h 0 (ix2 (0 : Fin 1) (⟨128 * c.val + q.val, by omega⟩ : Fin 512)) = ⊥ := by
      unfold MX
      pointwise [k0_pay443]
      exact negInf
    rw [e]
    exact ⟨fun _ r hr => absurd hr (by omega), fun _ => bot_le⟩
  | succ k ih =>
    unfold MX
    rw [MROW_at]
    refine MN_isMax (n := 512 * k) ?_ (fun j => SS_eq X3 X4 n h (by omega) c j q)
    rw [MSL_at]
    exact ih (by omega)

/-- The maximum after the diagonal block. -/
def MF (c : Fin 4) (q : Fin 128) : EReal := MN (MSL (MX (F := Ideal) X3 X4 h n) c) (ST (F := Ideal) X3 X4 n h c) (ix2 (0 : Fin 1) q)

theorem MF_isMax (c : Fin 4) (q : Fin 128) :
    IsMax (WQ X3 X4 n h (128 * c.val + q.val) (by omega)) (512 * n + 512) (MF X3 X4 n h c q) := by
  refine MN_isMax (n := 512 * n) ?_ (fun j => ST_eq X3 X4 n h c j q)
  rw [MSL_at]
  exact MX_isMax X3 X4 n h c q n le_rfl

theorem VT_at (k : ℕ) (f : Fin 128) (j : Fin 512) : VT (F := Ideal) X5 h k (ix4 (0 : Fin 1) (0 : Fin 1) f j) = VQ X5 h f (512 * k + j.val) := rfl

theorem AC_eq (hX3 : ∀ y, Real? (X3 y)) (hX4 : ∀ y, Real? (X4 y)) (g e : Fin 2) (f q : Fin 128) (k : ℕ) (hk : k ≤ n) :
    AC (F := Ideal) X3 X4 X5 h g k (ix3 (0 : Fin 1) f (⟨128 * e.val + q.val, by omega⟩ : Fin 256))
      = WSum (WQ X3 X4 n h (128 * (ch g e).val + q.val) (by omega)) (VQ X5 h f) (512 * k)
          (MX (F := Ideal) X3 X4 h k (ix2 (0 : Fin 1) (⟨128 * (ch g e).val + q.val, by omega⟩ : Fin 512))) := by
  induction k with
  | zero =>
    unfold AC WSum
    simp only [Nat.mul_zero, Finset.range_zero, Finset.sum_empty]
    pointwise []
  | succ k ih =>
    unfold AC
    rw [UPD_at, ih (by omega)]
    simp only [SS_eq X3 X4 n h (show k < n by omega), VT_at]
    have hM := MX_isMax X3 X4 n h (ch g e) q k (by omega)
    have hN := MX_isMax X3 X4 n h (ch g e) q (k + 1) hk
    have e1 : MX (F := Ideal) X3 X4 h (k + 1) (ix2 (0 : Fin 1) (⟨128 * (ch g e).val + q.val, by omega⟩ : Fin 512))
        = MN (MSL (MX X3 X4 h k) (ch g e)) (SS X3 X4 k h (ch g e)) (ix2 (0 : Fin 1) q) := by
      conv_lhs => unfold MX
      exact MROW_at _ _ _ _
    rw [← e1]
    exact wsum_step (b := 512) hM hN (by decide) (by omega) (WQ_real X3 X4 n h hX3 hX4 _) (WQ_bot X3 X4 n h _)

theorem AF_eq (hX3 : ∀ y, Real? (X3 y)) (hX4 : ∀ y, Real? (X4 y)) (g e : Fin 2) (f q : Fin 128) :
    AF (F := Ideal) X3 X4 X5 n h g (ix3 (0 : Fin 1) f (⟨128 * e.val + q.val, by omega⟩ : Fin 256))
      = WSum (WQ X3 X4 n h (128 * (ch g e).val + q.val) (by omega)) (VQ X5 h f) (512 * n + 512) (MF X3 X4 n h (ch g e) q) := by
  unfold AF
  rw [UPD_at, AC_eq X3 X4 X5 n h hX3 hX4 g e f q n le_rfl]
  simp only [ST_eq X3 X4 n h, VT_at]
  exact wsum_step (b := 512) (MX_isMax X3 X4 n h (ch g e) q n le_rfl) (MF_isMax X3 X4 n h (ch g e) q) (by decide) (by omega)
    (WQ_real X3 X4 n h hX3 hX4 _) (WQ_bot X3 X4 n h _)

end Point

theorem pay3_at (a0 a1 : Vec Ideal S1x128x512 .f32) (z : Vec Ideal S1x512x128 .bf16) (q : Fin 512) (l : Fin 128) :
    k0_pay3 (F := Ideal) a0 a1 z (ix3 (0 : Fin 1) q l)
      = Ideal.div ((![a0, a1] : Fin 2 → _) (⟨l.val / 64, by omega⟩ : Fin 2) (ix3 (0 : Fin 1) l q))
          ((![a0, a1] : Fin 2 → _) (⟨l.val / 64, by omega⟩ : Fin 2) (ix3 (0 : Fin 1) (⟨(l.val + 64) % 128, Nat.mod_lt _ (by decide)⟩ : Fin 128) q))
        * Ideal.div 1 (1 + Ideal.exp (0 - z (ix3 (0 : Fin 1) q l))) := by
  pointwise [k0_pay3]
  congr 1
  have hl := l.isLt
  by_cases h : l.val < 64
  · rw [dif_pos h, dif_pos h, show (⟨l.val / 64, by omega⟩ : Fin 2) = 0 from Fin.ext (by show l.val / 64 = 0; omega)]
    exact congrArg (fun x => Ideal.div _ (a0 (ix3 (0 : Fin 1) x q))) (Fin.ext (by show 64 + l.val = (l.val + 64) % 128; omega))
  · rw [dif_neg h, dif_neg h, show (⟨l.val / 64, by omega⟩ : Fin 2) = 1 from Fin.ext (by show l.val / 64 = 1; omega)]
    refine congr (congrArg (fun x => Ideal.div (a1 (ix3 (0 : Fin 1) x q))) (Fin.ext (by show 64 + (l.val - 64) = l.val; omega)))
      (congrArg (fun x => a1 (ix3 (0 : Fin 1) x q)) (Fin.ext (by show l.val - 64 = (l.val + 64) % 128; omega)))

theorem JN_at (a : Fin 2 → FVec Ideal S1x128x256 .f32) (f : Fin 128) (g e : Fin 2) (q : Fin 128) :
    JN a (ix3 (0 : Fin 1) f (⟨128 * (ch g e).val + q.val, by omega⟩ : Fin 512)) = a g (ix3 (0 : Fin 1) f (⟨128 * e.val + q.val, by omega⟩ : Fin 256)) := by
  unfold JN ch
  rcases (by omega : g = 0 ∨ g = 1) with rfl | rfl
  · rw [dif_pos (by show 128 * (2 * 0 + e.val) + q.val < 256; omega)]
    exact congrArg (a 0) (congrArg (ix3 (0 : Fin 1) f) (Fin.ext (by show 128 * (2 * 0 + e.val) + q.val = 128 * e.val + q.val; omega)))
  · rw [dif_neg (by show ¬ 128 * (2 * 1 + e.val) + q.val < 256; omega)]
    exact congrArg (a 1) (congrArg (ix3 (0 : Fin 1) f) (Fin.ext (by show 128 * (2 * 1 + e.val) + q.val - 256 = 128 * e.val + q.val; omega)))

theorem wsum_ones {W V : ℕ → EReal} {n : ℕ} {M : EReal} (hV : ∀ r, V r = 1) : WSum W V n M = WSum W (fun _ => 1) n M := by
  unfold WSum; simp only [hV]

theorem OUT_at' (X3 : S1x2x128x512.Idx → Elt Ideal .bf16) (X4 : S1x2x4096x128.Idx → Elt Ideal .bf16) (X5 : S1x2x128x4096.Idx → Elt Ideal .bf16) (X6 : S1x512x128.Idx → Elt Ideal .bf16)
    (n : ℕ) (hn : n < 8) (hX3 : ∀ y, Real? (X3 y)) (hX4 : ∀ y, Real? (X4 y)) (g e : Fin 2) (q l : Fin 128) (h : Fin 2) (hh : h.val = l.val / 64)
    (hV : ∀ r, VQ X5 h (⟨(l.val + 64) % 128, Nat.mod_lt _ (by decide)⟩ : Fin 128) r = 1) (M : EReal)
    (hM : IsMax (WQ X3 X4 n h (128 * (ch g e).val + q.val) (by omega)) 4096 M) :
    OUT (F := Ideal) X3 X4 X5 X6 n (ix3 (0 : Fin 1) (⟨128 * (ch g e).val + q.val, by omega⟩ : Fin 512) l)
      = (∑ r ∈ Finset.range 4096, Ideal.div (Ideal.exp (WQ X3 X4 n h (128 * (ch g e).val + q.val) (by omega) r - M))
            (∑ r ∈ Finset.range 4096, Ideal.exp (WQ X3 X4 n h (128 * (ch g e).val + q.val) (by omega) r - M)) * VQ X5 h l r)
        * Ideal.div 1 (1 + Ideal.exp (0 - X6 (ix3 (0 : Fin 1) (⟨128 * (ch g e).val + q.val, by omega⟩ : Fin 512) l))) := by
  unfold OUT
  rw [pay3_at]
  congr 1
  rw [show (⟨l.val / 64, by omega⟩ : Fin 2) = h from Fin.ext hh.symm]
  rw [show (![JN (AF X3 X4 X5 n 0), JN (AF X3 X4 X5 n 1)] : Fin 2 → _) h = JN (AF (F := Ideal) X3 X4 X5 n h) by
    rcases (by omega : h = 0 ∨ h = 1) with rfl | rfl <;> rfl]
  rw [JN_at, JN_at, AF_eq X3 X4 X5 n h hX3 hX4, AF_eq X3 X4 X5 n h hX3 hX4, wsum_ones hV]
  have hW := WQ_real X3 X4 n h hX3 hX4 (q := 128 * (ch g e).val + q.val) (by omega)
  have hb := WQ_bot X3 X4 n h (q := 128 * (ch g e).val + q.val) (by omega)
  have hM' := (MF_isMax X3 X4 n h (ch g e) q).mono (n' := 4096) (q := 512 * n + (128 * (ch g e).val + q.val)) (by omega) (by omega) hb
  rw [hM'.unique hM]
  have hMr := hM.real (by decide) hW hb
  rw [wsum_mono (n' := 4096) (q := 512 * n + (128 * (ch g e).val + q.val)) (by omega) (by omega) hMr hb,
    wsum_mono (V := fun _ => 1) (n' := 4096) (q := 512 * n + (128 * (ch g e).val + q.val)) (by omega) (by omega) hMr hb]
  obtain ⟨d, hd, hde⟩ := den_real (n := 4096) (by decide) hMr hW hb
  have hde' : ∑ r ∈ Finset.range 4096, Ideal.exp (WQ X3 X4 n h (128 * (ch g e).val + q.val) (by omega) r - M) = (d : EReal) := by
    rw [← hde]; unfold WSum; simp only [one_mul]
  rw [hde, hde']
  exact quotient hd

theorem OUT_at (X3 : S1x2x128x512.Idx → Elt Ideal .bf16) (X4 : S1x2x4096x128.Idx → Elt Ideal .bf16) (X5 : S1x2x128x4096.Idx → Elt Ideal .bf16) (X6 : S1x512x128.Idx → Elt Ideal .bf16)
    (n : ℕ) (hn : n < 8) (hX3 : ∀ y, Real? (X3 y)) (hX4 : ∀ y, Real? (X4 y)) (q : Fin 512) (l : Fin 128) (h : Fin 2) (hh : h.val = l.val / 64)
    (hV : ∀ r, VQ X5 h (⟨(l.val + 64) % 128, Nat.mod_lt _ (by decide)⟩ : Fin 128) r = 1) (M : EReal)
    (hM : IsMax (WQ X3 X4 n h q.val q.isLt) 4096 M) :
    OUT (F := Ideal) X3 X4 X5 X6 n (ix3 (0 : Fin 1) q l)
      = (∑ r ∈ Finset.range 4096, Ideal.div (Ideal.exp (WQ X3 X4 n h q.val q.isLt r - M))
            (∑ r ∈ Finset.range 4096, Ideal.exp (WQ X3 X4 n h q.val q.isLt r - M)) * VQ X5 h l r)
        * Ideal.div 1 (1 + Ideal.exp (0 - X6 (ix3 (0 : Fin 1) q l))) := by
  obtain ⟨g, e, q', rfl⟩ : ∃ (g e : Fin 2) (q' : Fin 128), q = (⟨128 * (ch g e).val + q'.val, by omega⟩ : Fin 512) :=
    ⟨⟨q.val / 256, by omega⟩, ⟨q.val / 128 % 2, by omega⟩, ⟨q.val % 128, by omega⟩, Fin.ext (by
      show q.val = 128 * (2 * (q.val / 256) + q.val / 128 % 2) + q.val % 128; omega)⟩
  exact OUT_at' X3 X4 X5 X6 n hn hX3 hX4 g e q' l h hh hV M hM

end Cert.Fox.KI
end
-- ==== Proof.FoxRef.lean ====
module

public import proofs.«01_k».proof.Defs
public import proofs.«01_k».proof.Proof.Gen.ReferenceIdeal
public import proofs.«01_k».proof.Proof.FoxIdeal
public import Idealize.ShloMosaic.Lib.Pointwise

@[expose] public section

set_option maxRecDepth 100000

noncomputable section

namespace Cert.Fox.Ref
open Cert.ReferenceIdeal Cert.ReferenceIdeal.Gen
open Idealize.ShloMosaic Idealize.SL.Sem

/-- The masked scores. -/
def SCO (q : FVec Ideal S8x16x128x4096 .bf16) (k : FVec Ideal S8x16x4096x128 .bf16) : FVec Ideal S8x16x4096x4096 .f32 :=
  select
    (broadcastInDim S8x16x4096x4096 ![2, 3] bcast_S4096x4096_S8x16x4096x4096_2_3
      (cmpi .sge (broadcastInDim S4096x4096 ![0, 1] bcast_S4096x1_S4096x4096_0_1 (broadcastInDim S4096x1 ![0] bcast_S4096_S4096x1_0 (iotaInDim S4096 32 0)))
        (broadcastInDim S4096x4096 ![0, 1] bcast_S1x4096_S4096x4096_0_1 (broadcastInDim S1x4096 ![1] bcast_S4096_S1x4096_1 (iotaInDim S4096 32 0)))))
    (Host.dotGeneral dot_S8x16x128x4096_S8x16x4096x128_S8x16x4096x4096_2_3_3_2_01_01 none (extf .f32 q bitsLt_bf16_f32) (extf .f32 k bitsLt_bf16_f32))
    (broadcastInDim S8x16x4096x4096 ![] bcast_S_S8x16x4096x4096 (constant (F := Ideal) S_ .f32 0xFF800000#32))

/-- Each row's maximum. -/
def MXR (x : FVec Ideal S8x16x4096x4096 .f32) : FVec Ideal S8x16x4096 .f32 :=
  maximumf (broadcastInDim S8x16x4096 ![] bcast_S_S8x16x4096 (constant (F := Ideal) S_ .f32 0xFF800000#32))
    (Host.reduce FloatOps.maximumf x (constant (F := Ideal) S_ .f32 0xFF800000#32) reducesTo_S8x16x4096x4096_S8x16x4096_d3 h_S_)

/-- Each row's exponentials relative to its maximum. -/
def EXR (x : FVec Ideal S8x16x4096x4096 .f32) : FVec Ideal S8x16x4096x4096 .f32 :=
  Host.exp (subf x (broadcastInDim S8x16x4096x4096 ![0, 1, 2, 3] bcast_S8x16x4096x1_S8x16x4096x4096_0_1_2_3
    (broadcastInDim S8x16x4096x1 ![0, 1, 2] bcast_S8x16x4096_S8x16x4096x1_0_1_2 (MXR x))))

/-- Each row divided by its sum. -/
def NRM (x : FVec Ideal S8x16x4096x4096 .f32) : FVec Ideal S8x16x4096x4096 .f32 :=
  Host.divf x (broadcastInDim S8x16x4096x4096 ![0, 1, 2, 3] bcast_S8x16x4096x1_S8x16x4096x4096_0_1_2_3
    (broadcastInDim S8x16x4096x1 ![0, 1, 2] bcast_S8x16x4096_S8x16x4096x1_0_1_2
      (Host.reduceAdd x (constant (F := Ideal) S_ .f32 0x00000000#32) reducesTo_S8x16x4096x4096_S8x16x4096_d3 h_S_)))

/-- Each head's values. -/
def VAL (v : FVec Ideal S8x16x128x4096 .bf16) : FVec Ideal S8x16x64x4096 .f32 :=
  let w := shapeCast S8x8x2x2x64x4096 (extf .f32 v bitsLt_bf16_f32 : FVec Ideal S8x16x128x4096 .f32) shapeCasts_S8x16x128x4096_S8x8x2x2x64x4096
  shapeCast S8x16x64x4096 (concatenate S8x8x2x64x4096 2
    [⟨S8x8x1x64x4096, broadcastInDim S8x8x1x64x4096 ![0, 1, 3, 4] bcast_S8x8x64x4096_S8x8x1x64x4096_0_1_3_4
        (shapeCast S8x8x64x4096 (extractStridedSlice S8x8x1x1x64x4096 ![0, 0, 0, 0, 0, 0] w slices_S8x8x2x2x64x4096_S8x8x1x1x64x4096_0_0_0_0_0_0) shapeCasts_S8x8x1x1x64x4096_S8x8x64x4096)⟩,
      ⟨S8x8x1x64x4096, broadcastInDim S8x8x1x64x4096 ![0, 1, 3, 4] bcast_S8x8x64x4096_S8x8x1x64x4096_0_1_3_4
        (shapeCast S8x8x64x4096 (extractStridedSlice S8x8x1x1x64x4096 ![0, 0, 1, 1, 0, 0] w slices_S8x8x2x2x64x4096_S8x8x1x1x64x4096_0_0_1_1_0_0) shapeCasts_S8x8x1x1x64x4096_S8x8x64x4096)⟩]
    concatenates_S8x8x1x64x4096_S8x8x1x64x4096_S8x8x2x64x4096_d2) shapeCasts_S8x8x2x64x4096_S8x16x64x4096

/-- The weighted values, gated. -/
def GAT (p : FVec Ideal S8x16x4096x4096 .f32) (v : FVec Ideal S8x16x64x4096 .f32) (z : FVec Ideal S8x4096x1024 .bf16) : FVec Ideal S8x4096x1024 .bf16 :=
  truncf .bf16
    (mulf
      (shapeCast S8x4096x1024
        (transpose S8x4096x16x64 [0, 2, 1, 3] (Host.dotGeneral dot_S8x16x4096x4096_S8x16x64x4096_S8x16x4096x64_3_3_2_2_01_01 none p v : FVec Ideal S8x16x4096x64 .f32) transposes_S8x16x4096x64_S8x4096x16x64_0_2_1_3)
        shapeCasts_S8x4096x16x64_S8x4096x1024)
      (Host.divf (broadcastInDim S8x4096x1024 ![] bcast_S_S8x4096x1024 (constant (F := Ideal) S_ .f32 0x3F800000#32))
        (addf (broadcastInDim S8x4096x1024 ![] bcast_S_S8x4096x1024 (constant (F := Ideal) S_ .f32 0x3F800000#32))
          (Host.exp (Host.negf (extf .f32 z bitsLt_bf16_f32))))))
    bitsLt_bf16_f32

/-- The reference's result as one function of its arguments. -/
def REF (q : FVec Ideal S8x16x128x4096 .bf16) (k : FVec Ideal S8x16x4096x128 .bf16) (v : FVec Ideal S8x16x128x4096 .bf16) (z : FVec Ideal S8x4096x1024 .bf16) :
    FVec Ideal S8x4096x1024 .bf16 := GAT (NRM (EXR (SCO q k))) (VAL v) z

theorem SCO_at (q : FVec Ideal S8x16x128x4096 .bf16) (k : FVec Ideal S8x16x4096x128 .bf16) (b : Fin 8) (h : Fin 16) (i j : Fin 4096) :
    SCO q k (ix4 b h i j) = if j.val ≤ i.val then ∑ f : Fin 128, q (ix4 b h f i) * k (ix4 b h j f) else ⊥ := by
  pointwise [SCO]
  rw [Cert.Fox.KI.negInf, Cert.Fox.KI.sge_small _ _ i.isLt j.isLt, Cert.Fox.KI.select_ofBool]

/-- A row's largest entry is below a bound exactly when every entry of the row is. -/
theorem reduce_max_le {n0 n1 n2 n3 : ℕ} {u : Shape} (x : (⟨4, ![n0, n1, n2, n3]⟩ : Shape).Idx → EReal) (z : u.Idx → EReal) (hz : ∀ i, z i = ⊥)
    (h : (⟨4, ![n0, n1, n2, n3]⟩ : Shape).ReducesTo [3] (⟨3, ![n0, n1, n2]⟩ : Shape)) (hu : 0 < u.numel)
    (a : Fin n0) (b : Fin n1) (c : Fin n2) (w : EReal) :
    Host.reduce (FloatOps.maximumf (F := Ideal) (φ := .f32)) x z h hu (ix3 a b c) ≤ w ↔ ∀ r : Fin n3, x (ix4 a b c r) ≤ w := by
  rw [Ideal.maximumf_eq_max, Host.reduce_eq_fold, Shape.ReducesTo.fold_fiber_r4_a3, Finset.fold_max_le, hz]
  exact ⟨fun k r => k.2 r (Finset.mem_univ r), fun k => ⟨bot_le, fun r _ => k r⟩⟩

theorem MXR_le (x : FVec Ideal S8x16x4096x4096 .f32) (b : Fin 8) (h : Fin 16) (i : Fin 4096) (w : EReal) :
    MXR x (ix3 b h i) ≤ w ↔ ∀ r : Fin 4096, x (ix4 b h i r) ≤ w := by
  have k := reduce_max_le x (constant (F := Ideal) S_ .f32 0xFF800000#32) (fun _ => Cert.Fox.KI.negInf) reducesTo_S8x16x4096x4096_S8x16x4096_d3 h_S_ b h i w
  rw [← k]
  unfold MXR
  rw [show ∀ A B : FVec Ideal S8x16x4096 .f32, maximumf A B (ix3 b h i) = max (A (ix3 b h i)) (B (ix3 b h i)) from fun _ _ => rfl]
  rw [show (broadcastInDim S8x16x4096 ![] bcast_S_S8x16x4096 (constant (F := Ideal) S_ .f32 0xFF800000#32)) (ix3 b h i) = ⊥ from Cert.Fox.KI.negInf, bot_sup_eq]

theorem EXR_at (x : FVec Ideal S8x16x4096x4096 .f32) (b : Fin 8) (h : Fin 16) (i j : Fin 4096) :
    EXR x (ix4 b h i j) = Ideal.exp (x (ix4 b h i j) - MXR x (ix3 b h i)) := by
  pointwise [EXR]

theorem NRM_at (x : FVec Ideal S8x16x4096x4096 .f32) (b : Fin 8) (h : Fin 16) (i j : Fin 4096) :
    NRM x (ix4 b h i j) = Ideal.div (x (ix4 b h i j)) (∑ r : Fin 4096, x (ix4 b h i r)) := by
  pointwise [NRM]

theorem VAL_at (v : FVec Ideal S8x16x128x4096 .bf16) (b : Fin 8) (h : Fin 16) (d : Fin 64) (j : Fin 4096) :
    VAL v (ix4 b h d j) = v (ix4 b h (⟨64 * (h.val % 2) + d.val, by omega⟩ : Fin 128) j) := by
  pointwise [VAL]
  by_cases e : h.val % 2 < 1
  · rw [dif_pos e]
    refine congrArg v (congrArg₂ (fun s t => ix4 b s t j) (Fin.ext ?_) (Fin.ext ?_)) <;> dsimp only <;> omega
  · rw [dif_neg e]
    refine congrArg v (congrArg₂ (fun s t => ix4 b s t j) (Fin.ext ?_) (Fin.ext ?_)) <;> dsimp only <;> omega

theorem GAT_at (p : FVec Ideal S8x16x4096x4096 .f32) (v : FVec Ideal S8x16x64x4096 .f32) (z : FVec Ideal S8x4096x1024 .bf16) (b : Fin 8) (i : Fin 4096) (l : Fin 1024) :
    GAT p v z (ix3 b i l) = (∑ r : Fin 4096, p (ix4 b (⟨l.val / 64, by omega⟩ : Fin 16) i r) * v (ix4 b (⟨l.val / 64, by omega⟩ : Fin 16) (⟨l.val % 64, by omega⟩ : Fin 64) r))
      * Ideal.div 1 (1 + Ideal.exp (-z (ix3 b i l))) := by
  pointwise [GAT]

end Cert.Fox.Ref
end
-- ==== Proof.FoxCore.lean ====
module

public import proofs.«01_k».proof.Proof.FoxValue
public import proofs.«01_k».proof.Proof.FoxRef

@[expose] public section

set_option maxRecDepth 100000

noncomputable section

namespace Cert.Fox.KI
open Cert.KernelIdeal Cert.KernelIdeal.Gen
open Idealize.ShloMosaic Idealize.SL.Sem Cert.Fox.Online Cert.Fox.Ref

/-- A block of the kernel's result, from the blocks it reads, is that block of the reference's result. -/
theorem core (Q : FVec Ideal S8x16x128x4096 .bf16) (K : FVec Ideal S8x16x4096x128 .bf16) (V : FVec Ideal S8x16x128x4096 .bf16) (Z : FVec Ideal S8x4096x1024 .bf16)
    (X3 : S1x2x128x512.Idx → Elt Ideal .bf16) (X4 : S1x2x4096x128.Idx → Elt Ideal .bf16) (X5 : S1x2x128x4096.Idx → Elt Ideal .bf16) (X6 : S1x512x128.Idx → Elt Ideal .bf16)
    (b p n : ℕ) (hb : b < 8) (hp : p < 8) (hn : n < 8)
    (h3 : ∀ (h : Fin 2) (f : Fin 128) (q : Fin 512), X3 (ix4 (0 : Fin 1) h f q) = Q (ix4 (⟨b, hb⟩ : Fin 8) (⟨2 * p + h.val, by omega⟩ : Fin 16) f (⟨512 * n + q.val, by omega⟩ : Fin 4096)))
    (h4 : ∀ (h : Fin 2) (r : Fin 4096) (f : Fin 128), X4 (ix4 (0 : Fin 1) h r f) = K (ix4 (⟨b, hb⟩ : Fin 8) (⟨2 * p + h.val, by omega⟩ : Fin 16) r f))
    (h5 : ∀ (h : Fin 2) (f : Fin 128) (r : Fin 4096), X5 (ix4 (0 : Fin 1) h f r) = V (ix4 (⟨b, hb⟩ : Fin 8) (⟨2 * p + h.val, by omega⟩ : Fin 16) f r))
    (h6 : ∀ (q : Fin 512) (l : Fin 128), X6 (ix3 (0 : Fin 1) q l) = Z (ix3 (⟨b, hb⟩ : Fin 8) (⟨512 * n + q.val, by omega⟩ : Fin 4096) (⟨128 * p + l.val, by omega⟩ : Fin 1024)))
    (hX3 : ∀ y, Real? (X3 y)) (hX4 : ∀ y, Real? (X4 y))
    (he : ∀ (d : Fin 64) (r : Fin 4096), V (ix4 (⟨b, hb⟩ : Fin 8) (⟨2 * p, by omega⟩ : Fin 16) (⟨64 + d.val, by omega⟩ : Fin 128) r) = 1)
    (ho : ∀ (d : Fin 64) (r : Fin 4096), V (ix4 (⟨b, hb⟩ : Fin 8) (⟨2 * p + 1, by omega⟩ : Fin 16) (⟨d.val, by omega⟩ : Fin 128) r) = 1)
    (q : Fin 512) (l : Fin 128) :
    OUT (F := Ideal) X3 X4 X5 X6 n (ix3 (0 : Fin 1) q l)
      = REF Q K V Z (ix3 (⟨b, hb⟩ : Fin 8) (⟨512 * n + q.val, by omega⟩ : Fin 4096) (⟨128 * p + l.val, by omega⟩ : Fin 1024)) := by
  obtain ⟨h, hh⟩ : ∃ h : Fin 2, h.val = l.val / 64 := ⟨⟨l.val / 64, by omega⟩, rfl⟩
  have hW : ∀ r : Fin 4096, WQ X3 X4 n h q.val q.isLt r.val
      = SCO Q K (ix4 (⟨b, hb⟩ : Fin 8) (⟨2 * p + h.val, by omega⟩ : Fin 16) (⟨512 * n + q.val, by omega⟩ : Fin 4096) r) := by
    intro r
    rw [SCO_at]
    unfold WQ
    refine if_congr Iff.rfl (Finset.sum_congr rfl fun f _ => ?_) rfl
    rw [h3, h4, mul_comm, show (⟨r.val % 4096, Nat.mod_lt _ (by decide)⟩ : Fin 4096) = r from Fin.ext (Nat.mod_eq_of_lt r.isLt)]
  have hM : IsMax (WQ X3 X4 n h q.val q.isLt) 4096
      (MXR (SCO Q K) (ix3 (⟨b, hb⟩ : Fin 8) (⟨2 * p + h.val, by omega⟩ : Fin 16) (⟨512 * n + q.val, by omega⟩ : Fin 4096))) := fun u => by
    rw [MXR_le]
    exact ⟨fun k r hr => (hW ⟨r, hr⟩).le.trans (k ⟨r, hr⟩), fun k r => (hW r).ge.trans (k r.val r.isLt)⟩
  have hV : ∀ r, VQ X5 h (⟨(l.val + 64) % 128, Nat.mod_lt _ (by decide)⟩ : Fin 128) r = 1 := fun r => by
    unfold VQ
    rw [h5]
    rcases (by omega : h.val = 0 ∨ h.val = 1) with e | e
    · refine Eq.trans (congrArg V (congrArg₂ (fun s t => ix4 _ s t _) (Fin.ext ?_) (Fin.ext ?_))) (he ⟨l.val, by omega⟩ _) <;> dsimp only <;> omega
    · refine Eq.trans (congrArg V (congrArg₂ (fun s t => ix4 _ s t _) (Fin.ext ?_) (Fin.ext ?_))) (ho ⟨l.val - 64, by omega⟩ _) <;> dsimp only <;> omega
  rw [OUT_at X3 X4 X5 X6 n hn hX3 hX4 q l h hh hV _ hM]
  unfold REF
  rw [GAT_at, h6, zero_sub]
  refine congrArg (· * _) ?_
  rw [Finset.sum_range]
  refine Finset.sum_congr rfl fun r _ => ?_
  rw [Finset.sum_range, hW]
  have hH : (⟨(128 * p + l.val) / 64, by omega⟩ : Fin 16) = ⟨2 * p + h.val, by omega⟩ := Fin.ext (by dsimp only; omega)
  rw [hH, NRM_at, EXR_at, VAL_at]
  refine congrArg₂ (· * ·) (congrArg₂ Ideal.div rfl (Finset.sum_congr rfl fun s _ => ?_)) ?_
  · rw [hW, EXR_at]
  · unfold VQ
    rw [h5]
    refine congrArg V (congrArg₂ (fun s t => ix4 _ _ s t) (Fin.ext ?_) (Fin.ext ?_))
    · dsimp only; omega
    · exact Nat.mod_eq_of_lt r.isLt

end Cert.Fox.KI
end
-- ==== Proof.FoxPre.lean ====
module

public import proofs.«01_k».proof.Defs
public import proofs.«01_k».proof.Proof.Gen.Pre_finite_scores_unit_denominators
public import proofs.«01_k».proof.Proof.FoxMath
public import proofs.«01_k».proof.Proof.FoxIdeal
public import Idealize.ShloMosaic.Lib.Pointwise
public import Idealize.ShloMosaic.Lib.ReduceAll

@[expose] public section

set_option maxRecDepth 100000

noncomputable section

namespace Cert.Fox.Pre
open Cert.Pre_finite_scores_unit_denominators Cert.Pre_finite_scores_unit_denominators.Gen
open Idealize.ShloMosaic Idealize.SL.Sem Cert.Fox.Online

theorem posInf : Ideal.ofBits .f32 0x7F800000#32 = ⊤ := by simp [Ideal.ofBits, Ideal.ieee]

theorem real_of_abs {x : EReal} (h : Ideal.cmp .olt (max x (-x)) (Ideal.ofBits .f32 0x7F800000#32) = 1#1) : Real? x := by
  rw [posInf] at h
  unfold Ideal.cmp at h
  dsimp only at h
  by_cases k : max x (-x) < ⊤
  · refine real_of (fun e => ?_) (fun e => ?_) <;> subst e <;> simp at k
  · rw [decide_eq_false k] at h; exact absurd h (by decide)

theorem eq_of_ofBool {x y : EReal} (h : BitVec.ofBool (decide (x = y)) = 1#1) : x = y := by
  by_cases k : x = y
  · exact k
  · rw [decide_eq_false k] at h; exact absurd h (by decide)

/-- The four parts of the precondition. -/
theorem parts (q : FVec Ideal S8x16x128x4096 .bf16) (k : FVec Ideal S8x16x4096x128 .bf16) (v : FVec Ideal S8x16x128x4096 .bf16) (z : FVec Ideal S8x4096x1024 .bf16)
    (hp : fn (F := Ideal) q k v z = fun _ => 1#1) : ((∀ y, Real? (q y)) ∧ (∀ y, Real? (k y)))
      ∧ (∀ (b p : Fin 8) (d : Fin 64) (r : Fin 4096), v (ix4 b (⟨2 * p.val, by omega⟩ : Fin 16) (⟨64 + d.val, by omega⟩ : Fin 128) r) = 1)
      ∧ (∀ (b p : Fin 8) (d : Fin 64) (r : Fin 4096), v (ix4 b (⟨2 * p.val + 1, by omega⟩ : Fin 16) (⟨d.val, by omega⟩ : Fin 128) r) = 1) := by
  have e := congrFun hp ix0
  unfold fn fn_part1 at e
  dsimp only at e
  obtain ⟨e, e4⟩ := IntOp.andi_eq_one.1 e
  obtain ⟨e, e3⟩ := IntOp.andi_eq_one.1 e
  obtain ⟨e1, e2⟩ := IntOp.andi_eq_one.1 e
  haveI : Subsingleton S_.Idx := ⟨fun a b => funext fun i => i.elim0⟩
  refine ⟨⟨fun y => ?_, fun y => ?_⟩, fun b p d r => ?_, fun b p d r => ?_⟩
  · exact real_of_abs (Host.reduce_andi_all _ _ _ _ _ e1 y)
  · exact real_of_abs (Host.reduce_andi_all _ _ _ _ _ e2 y)
  · have h := Host.reduce_andi_all _ _ _ _ _ e3 (ix4 b p d r)
    pointwise at h
    refine (congrArg v (congrArg (fun s => ix4 b s _ r) (Fin.ext ?_))).trans (eq_of_ofBool h)
    dsimp only; omega
  · have h := Host.reduce_andi_all _ _ _ _ _ e4 (ix4 b p d r)
    pointwise at h
    refine (congrArg v (congrArg (fun s => ix4 b s _ r) (Fin.ext ?_))).trans (eq_of_ofBool h)
    dsimp only; omega

end Cert.Fox.Pre
end
-- ==== Proof.FoxEqual.lean ====
module

public import proofs.«01_k».proof.Proof.FoxFrame
public import proofs.«01_k».proof.Proof.FoxCore
public import proofs.«01_k».proof.Proof.FoxRef
public import proofs.«01_k».proof.Proof.FoxPre
public import Idealize.ShloMosaic.Lib.Pipeline.ValueKit

@[expose] public section

set_option maxRecDepth 100000

noncomputable section

namespace Cert.Fox.KI
open Cert.KernelIdeal Cert.KernelIdeal.Gen
open Idealize.ShloMosaic Idealize.ShloMosaic.TcCoe Idealize.SL.Sem Cert.Fox.Online
open Idealize.ShloMosaic.Pipeline (Dat)

variable (m : (ℓ : Loc nD τ sig) → Buf (Elt Ideal) ℓ)

theorem idx : ∀ t : Fin cfg0.N, win0_0.index t = ![(grid0.coords t 0).val, (grid0.coords t 1).val, 0, (grid0.coords t 2).val]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 2).val, (grid0.coords t 1).val]
    ∧ win0_4.index t = ![(grid0.coords t 0).val, (grid0.coords t 2).val, (grid0.coords t 1).val] :=
  (by decide +kernel : ∀ t : Fin grid0.N, _)

theorem coords_lt (t : Fin cfg0.N) : (grid0.coords t 0).val < 8 ∧ (grid0.coords t 1).val < 8 ∧ (grid0.coords t 2).val < 8 :=
  ⟨(grid0.coords t 0).isLt, (grid0.coords t 1).isLt, (grid0.coords t 2).isLt⟩

section Blocks
variable (c : Dev nD) (t : Fin cfg0.N)

theorem blk0 (h : Fin 2) (f : Fin 128) (q : Fin 512) : (iblk m c 0 t : S1x2x128x512.Idx → Elt Ideal .bf16) (ix4 (0 : Fin 1) h f q)
    = (m ((c.tc : Thread nD τ).loc main_arg0) : FVec Ideal S8x16x128x4096 .bf16) (ix4 (⟨(grid0.coords t 0).val, (coords_lt t).1⟩ : Fin 8)
        (⟨2 * (grid0.coords t 1).val + h.val, by have := coords_lt t; omega⟩ : Fin 16) f (⟨512 * (grid0.coords t 2).val + q.val, by have := coords_lt t; omega⟩ : Fin 4096)) := by
  blk_ext [iblk, V, idx t]
theorem blk1 (h : Fin 2) (r : Fin 4096) (f : Fin 128) : (iblk m c 1 t : S1x2x4096x128.Idx → Elt Ideal .bf16) (ix4 (0 : Fin 1) h r f)
    = (m ((c.tc : Thread nD τ).loc main_arg1) : FVec Ideal S8x16x4096x128 .bf16) (ix4 (⟨(grid0.coords t 0).val, (coords_lt t).1⟩ : Fin 8)
        (⟨2 * (grid0.coords t 1).val + h.val, by have := coords_lt t; omega⟩ : Fin 16) r f) := by
  blk_ext [iblk, V, idx t]
theorem blk2 (h : Fin 2) (f : Fin 128) (r : Fin 4096) : (iblk m c 2 t : S1x2x128x4096.Idx → Elt Ideal .bf16) (ix4 (0 : Fin 1) h f r)
    = (m ((c.tc : Thread nD τ).loc main_arg2) : FVec Ideal S8x16x128x4096 .bf16) (ix4 (⟨(grid0.coords t 0).val, (coords_lt t).1⟩ : Fin 8)
        (⟨2 * (grid0.coords t 1).val + h.val, by have := coords_lt t; omega⟩ : Fin 16) f r) := by
  blk_ext [iblk, V, idx t]
theorem blk3 (q : Fin 512) (l : Fin 128) : (iblk m c 3 t : S1x512x128.Idx → Elt Ideal .bf16) (ix3 (0 : Fin 1) q l)
    = (m ((c.tc : Thread nD τ).loc main_arg3) : FVec Ideal S8x4096x1024 .bf16) (ix3 (⟨(grid0.coords t 0).val, (coords_lt t).1⟩ : Fin 8)
        (⟨512 * (grid0.coords t 2).val + q.val, by have := coords_lt t; omega⟩ : Fin 4096) (⟨128 * (grid0.coords t 1).val + l.val, by have := coords_lt t; omega⟩ : Fin 1024)) := by
  blk_ext [iblk, V, idx t]
theorem blk4 (q : Fin 512) (l : Fin 128) : (((cfg0.win 4).blk t).view.emb (ix3 (0 : Fin 1) q l) : S8x4096x1024.Idx)
    = ix3 (⟨(grid0.coords t 0).val, (coords_lt t).1⟩ : Fin 8)
        (⟨512 * (grid0.coords t 2).val + q.val, by have := coords_lt t; omega⟩ : Fin 4096) (⟨128 * (grid0.coords t 1).val + l.val, by have := coords_lt t; omega⟩ : Fin 1024) := by
  blk_ext [iblk, V, idx t]
theorem real0 (h : ∀ y, Real? ((m ((c.tc : Thread nD τ).loc main_arg0) : FVec Ideal S8x16x128x4096 .bf16) y)) (y) :
    Real? ((iblk m c 0 t : S1x2x128x512.Idx → Elt Ideal .bf16) y) := by
  blk_simp [iblk, V]; exact h _
theorem real1 (h : ∀ y, Real? ((m ((c.tc : Thread nD τ).loc main_arg1) : FVec Ideal S8x16x4096x128 .bf16) y)) (y) :
    Real? ((iblk m c 1 t : S1x2x4096x128.Idx → Elt Ideal .bf16) y) := by
  blk_simp [iblk, V]; exact h _
end Blocks

/-- What the body stores at a place of its block is the reference's result where the block puts that place. -/
theorem point (hpre : Cert.Pre_KernelIdeal_finite_scores_unit_denominators (hPre_finite_scores_unit_denominators := Cert.Pre_finite_scores_unit_denominators.Gen.facts) m)
    (c : Dev nD) (t : Fin cfg0.N) (y : S1x512x128.Idx) : outAt m c t y
    = Cert.Fox.Ref.REF (m ((c.tc : Thread nD τ).loc main_arg0)) (m ((c.tc : Thread nD τ).loc main_arg1)) (m ((c.tc : Thread nD τ).loc main_arg2)) (m ((c.tc : Thread nD τ).loc main_arg3))
        (((cfg0.win 4).blk t).view.emb y) := by
  obtain ⟨⟨hq, hk⟩, he, ho⟩ := Cert.Fox.Pre.parts _ _ _ _ (hpre c)
  obtain ⟨q, l, rfl⟩ : ∃ (q : Fin 512) (l : Fin 128), y = ix3 (0 : Fin 1) q l := ⟨y 1, y 2, by
    funext a; fin_cases a
    · exact Subsingleton.elim (α := Fin 1) _ _
    · rfl
    · rfl⟩
  refine (core (m ((c.tc : Thread nD τ).loc main_arg0)) (m ((c.tc : Thread nD τ).loc main_arg1)) (m ((c.tc : Thread nD τ).loc main_arg2)) (m ((c.tc : Thread nD τ).loc main_arg3))
    (iblk m c 0 t) (iblk m c 1 t) (iblk m c 2 t) (iblk m c 3 t) _ _ _ (coords_lt t).1 (coords_lt t).2.1 (coords_lt t).2.2
    (blk0 m c t) (blk1 m c t) (blk2 m c t) (blk3 m c t) (real0 m c t hq) (real1 m c t hk) (fun d r => he _ ⟨_, (coords_lt t).2.1⟩ d r) (fun d r => ho _ ⟨_, (coords_lt t).2.1⟩ d r) q l).trans ?_
  exact congrArg _ (blk4 t q l).symm

theorem final (hpre : Cert.Pre_KernelIdeal_finite_scores_unit_denominators (hPre_finite_scores_unit_denominators := Cert.Pre_finite_scores_unit_denominators.Gen.facts) m)
    (c : Dev nD) : (dats m 0 c).arrAt 4 (cfgs 0).N
    = Cert.Fox.Ref.REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  rw [after0_4]
  exact point m hpre c t y

end Cert.Fox.KI
end
-- ==== Proof.FoxRun.lean ====
module

public import proofs.«01_k».proof.Proof.FoxRef
public import Idealize.ShloMosaic.Lib.Claim

@[expose] public section

set_option maxRecDepth 100000

noncomputable section

namespace Cert.Fox.Ref
open Cert.ReferenceIdeal Cert.ReferenceIdeal.Gen
open Idealize.ShloMosaic Idealize.SL.Sem

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v43) = REF (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run
  rfl

end Cert.Fox.Ref
end
-- ==== Proof.ExpBody.lean ====
module

public import proofs.«01_k».proof.Proof.Gen.Kernel2Ideal.Skeleton
public import proofs.«01_k».proof.Proof.Gen.Kernel2Ideal.Launch
public import Idealize.ShloMosaic.Lib.Exec
public import Idealize.ShloMosaic.Lib.Writes
public import Idealize.ShloMosaic.Lib.VecWindow
public import Idealize.ShloMosaic.Lib.Tactic
public import Idealize.ShloMosaic.Lib.Pipeline.TableIdle
public import Idealize.ShloMosaic.Lib.Pipeline.Kit

@[expose] public section

set_option maxRecDepth 16384

noncomputable section

namespace Cert.Experts.KI
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! The body at a grid point: it keeps the expert's weights in the scratch buffers, loading them where the expert changes,
    and stores the block's result, or zeros past the last block in use. -/

section Body
variable {F : FTy → Type} [FloatOps F]
local notation "𝕄" => MT nD τ sig Unit (Elt F) ℕ (UR sig nD τ) ℕ

abbrev tb0 : Memref sig .tc .smem S160 .i32 := Memref.whole main_arg0
abbrev tb1 : Memref sig .tc .smem S1 .i32 := Memref.whole main_arg1
abbrev sc0 : Memref sig .tc .vmem S1024x512 .bf16 := Memref.whole cc0_scratch0
abbrev sc1 : Memref sig .tc .vmem S1024x512 .bf16 := Memref.whole cc0_scratch1
abbrev sc2 : Memref sig .tc .vmem S512x1024 .bf16 := Memref.whole cc0_scratch2

/-- The point loads its expert's weights. -/
abbrev Loads (i : grid0.Coords) (T0 : S160.Idx → Elt F .i32) : Prop :=
  Scalar.cmpi .ne (Scalar.extui (Scalar.ori (Scalar.cmpi .eq (BitVec.ofNat 32 (i 0).val) 0#32)
    (Scalar.cmpi .ne (View.readAt (Elt F) tb0.view (Rect.unit (s := S160) (k0_off1 i) S1.size (k0_off1_inb i)).toLoadRect T0 (Shape.Idx.first (numel1_S1.symm ▸ Nat.one_pos)))
      (View.readAt (Elt F) tb0.view (Rect.unit (s := S160) (k0_off2 i) S1.size (k0_off2_inb i)).toLoadRect T0 (Shape.Idx.first (numel1_S1.symm ▸ Nat.one_pos)))))) 0#32 = 1#1
/-- The number of blocks in use. -/
abbrev used (T1 : S1.Idx → Elt F .i32) : BitVec 32 :=
  View.readAt (Elt F) tb1.view (Rect.unit (s := S1) ![0] S1.size inb_S1_S1_0).toLoadRect T1 (Shape.Idx.first (numel1_S1.symm ▸ Nat.one_pos))

theorem cond3_iff (i : grid0.Coords) (w : BitVec 32) : k0_cond3 i w = 1#1 ↔ ¬ k0_cond2 i w = 1#1 := by
  unfold k0_cond3 k0_cond2
  dsimp only
  simp only [Scalar.cmpi, Scalar.extui, IntOp.cmpi]
  have e : (BitVec.ofNat 32 (i 0).val).slt w = !(w.sle (BitVec.ofNat 32 (i 0).val)) := by
    simp only [BitVec.slt, BitVec.sle, ← decide_not, not_le]
  rw [e]
  cases w.sle (BitVec.ofNat 32 (i 0).val) <;> decide

open Classical in
/-- The weights held after the point. -/
def held {α : Type} (i : grid0.Coords) (T0 : S160.Idx → Elt F .i32) (x a : α) : α := if Loads i T0 then x else a
open Classical in
/-- The block stored at the point. -/
def block (i : grid0.Coords) (T1 : S1.Idx → Elt F .i32) (X : S512x8x128.Idx → Elt F .f32) (a b : S1024x512.Idx → Elt F .bf16) (d : S512x1024.Idx → Elt F .bf16) :
    S512x8x128.Idx → Elt F .f32 := if k0_cond2 i (used T1) = 1#1 then k0_pay4 X a b d else k0_pay5

set_option maxHeartbeats 8000000 in
theorem body_rep (c : Dev nD) (i : grid0.Coords) (arg3 : Memref sig .tc .vmem S512x8x128 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x8x128 .f32) (harg7 : arg7.IsWhole)
    (T0 : S160.Idx → Elt F .i32) (T1 : S1.Idx → Elt F .i32) (x0 : S512x8x128.Idx → Elt F .f32) (x1 x2 : S1x1x1024x512.Idx → Elt F .f32) (x3 : S1x1x512x1024.Idx → Elt F .f32)
    (a b : S1024x512.Idx → Elt F .bf16) (d : S512x1024.Idx → Elt F .bf16) :
    (iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (tb0.view.loc (c : Thread nD τ) ↦{fullShare.right} T0)
      ∗ (tb1.view.loc (c : Thread nD τ) ↦{fullShare.right} T1)
      ∗ (∃ f, arg7.view.loc (c : Thread nD τ) ↦[arg7.view.set]{fullShare} f)
      ∗ (sc0.view.loc (c : Thread nD τ) ↦[sc0.view.set]{fullShare} sc0.view.rep a)
      ∗ (sc1.view.loc (c : Thread nD τ) ↦[sc1.view.set]{fullShare} sc1.view.rep b)
      ∗ (sc2.view.loc (c : Thread nD τ) ↦[sc2.view.set]{fullShare} sc2.view.rep d)) : sProp 𝕄)
    ⊢ wp frame (wpE (defs₀ (F := F)) Variants.none (c : Thread nD τ) none) Set.univ
        (cc0_moe_experts (F := F) i tb0 (Memref.isWhole_whole _) tb1 (Memref.isWhole_whole _) arg3 harg3 arg4 harg4 arg5 harg5 arg6 harg6 arg7 harg7 sc0 (Memref.isWhole_whole _) sc1 (Memref.isWhole_whole _) sc2 (Memref.isWhole_whole _))
        (fun _ => iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (tb0.view.loc (c : Thread nD τ) ↦{fullShare.right} T0)
      ∗ (tb1.view.loc (c : Thread nD τ) ↦{fullShare.right} T1)
      ∗ (∃ f, ⌜arg7.view.read (Elt F) f = block i T1 x0 (held i T0 (k0_pay1 x1) a) (held i T0 (k0_pay2 x2) b) (held i T0 (k0_pay3 x3) d)⌝ ∗ arg7.view.loc (c : Thread nD τ) ↦[arg7.view.set]{fullShare} f)
      ∗ (∃ f, ⌜sc0.view.read (Elt F) f = held i T0 (k0_pay1 x1) a⌝ ∗ sc0.view.loc (c : Thread nD τ) ↦[sc0.view.set]{fullShare} f)
      ∗ (∃ f, ⌜sc1.view.read (Elt F) f = held i T0 (k0_pay2 x2) b⌝ ∗ sc1.view.loc (c : Thread nD τ) ↦[sc1.view.set]{fullShare} f)
      ∗ (∃ f, ⌜sc2.view.read (Elt F) f = held i T0 (k0_pay3 x3) d⌝ ∗ sc2.view.loc (c : Thread nD τ) ↦[sc2.view.set]{fullShare} f))) := by
  have hS0 : sc0.IsWhole := Memref.isWhole_whole _
  have hS1 : sc1.IsWhole := Memref.isWhole_whole _
  have hS2 : sc2.IsWhole := Memref.isWhole_whole _
  have hT0 : tb0.IsWhole := Memref.isWhole_whole _
  have hT1 : tb1.IsWhole := Memref.isWhole_whole _
  rw [cc0_moe_experts_eq_skeleton]; unfold cc0_moe_experts_skel
  by_cases h0 : Loads i T0
  · by_cases h2 : k0_cond2 i (used T1) = 1#1
    · have h3 : ¬ k0_cond3 i (used T1) = 1#1 := fun h => (cond3_iff _ _).1 h h2
      iintro ⟨H0, H1, H2, H3, HT0, HT1, ⟨%f4, HO4⟩, HS0, HS1, HS2⟩
      sl_exec! (disch := first | exact h0 | exact h2 | exact h3)
      sl_step
      unfold block held
      rw [if_pos h2, if_pos h0, if_pos h0, if_pos h0]
      isplitl [H0]; · iexact H0
      isplitl [H1]; · iexact H1
      isplitl [H2]; · iexact H2
      isplitl [H3]; · iexact H3
      isplitl [HT0]; · iexact HT0
      isplitl [HT1]; · iexact HT1
      isplitl [HO4]
      · iexists _; isplitr; swap
        · iexact HO4
        · ipureintro
          refine (View.read_writes_full _ _ _ _ _).trans ?_
          rw [View.readAt_rep_full]
          refine congr (congr (congrArg (k0_pay4 x0) ?_) ?_) ?_
          · exact (View.readCov_full _ _ _ _ _).trans (congrArg k0_pay1 (View.readAt_rep_full _ _ _))
          · exact (View.readCov_full _ _ _ _ _).trans (congrArg k0_pay2 (View.readAt_rep_full _ _ _))
          · exact (View.readCov_full _ _ _ _ _).trans (congrArg k0_pay3 (View.readAt_rep_full _ _ _))
      isplitl [HS0]
      · iexists _; isplitr; swap
        · iexact HS0
        · ipureintro
          exact (View.read_writes_full _ _ _ _ _).trans (congrArg k0_pay1 (View.readAt_rep_full _ _ _))
      isplitl [HS1]
      · iexists _; isplitr; swap
        · iexact HS1
        · ipureintro
          exact (View.read_writes_full _ _ _ _ _).trans (congrArg k0_pay2 (View.readAt_rep_full _ _ _))
      · iexists _; isplitr; swap
        · iexact HS2
        · ipureintro
          exact (View.read_writes_full _ _ _ _ _).trans (congrArg k0_pay3 (View.readAt_rep_full _ _ _))
    · have h3 : k0_cond3 i (used T1) = 1#1 := (cond3_iff _ _).2 h2
      iintro ⟨H0, H1, H2, H3, HT0, HT1, ⟨%f4, HO4⟩, HS0, HS1, HS2⟩
      sl_exec! (disch := first | exact h0 | exact h2 | exact h3)
      sl_step
      unfold block held
      rw [if_neg h2, if_pos h0, if_pos h0, if_pos h0]
      isplitl [H0]; · iexact H0
      isplitl [H1]; · iexact H1
      isplitl [H2]; · iexact H2
      isplitl [H3]; · iexact H3
      isplitl [HT0]; · iexact HT0
      isplitl [HT1]; · iexact HT1
      isplitl [HO4]
      · iexists _; isplitr; swap
        · iexact HO4
        · ipureintro
          exact View.read_writes_full _ _ _ _ _
      isplitl [HS0]
      · iexists _; isplitr; swap
        · iexact HS0
        · ipureintro
          exact (View.read_writes_full _ _ _ _ _).trans (congrArg k0_pay1 (View.readAt_rep_full _ _ _))
      isplitl [HS1]
      · iexists _; isplitr; swap
        · iexact HS1
        · ipureintro
          exact (View.read_writes_full _ _ _ _ _).trans (congrArg k0_pay2 (View.readAt_rep_full _ _ _))
      · iexists _; isplitr; swap
        · iexact HS2
        · ipureintro
          exact (View.read_writes_full _ _ _ _ _).trans (congrArg k0_pay3 (View.readAt_rep_full _ _ _))
  · by_cases h2 : k0_cond2 i (used T1) = 1#1
    · have h3 : ¬ k0_cond3 i (used T1) = 1#1 := fun h => (cond3_iff _ _).1 h h2
      iintro ⟨H0, H1, H2, H3, HT0, HT1, ⟨%f4, HO4⟩, HS0, HS1, HS2⟩
      sl_exec! (disch := first | exact h0 | exact h2 | exact h3)
      sl_step
      unfold block held
      rw [if_pos h2, if_neg h0, if_neg h0, if_neg h0]
      isplitl [H0]; · iexact H0
      isplitl [H1]; · iexact H1
      isplitl [H2]; · iexact H2
      isplitl [H3]; · iexact H3
      isplitl [HT0]; · iexact HT0
      isplitl [HT1]; · iexact HT1
      isplitl [HO4]
      · iexists _; isplitr; swap
        · iexact HO4
        · ipureintro
          refine (View.read_writes_full _ _ _ _ _).trans ?_
          rw [View.readAt_rep_full]
          rw [View.readAt_rep_full, View.readAt_rep_full, View.readAt_rep_full]
      isplitl [HS0]
      · iexists _; isplitr; swap
        · iexact HS0
        · ipureintro
          exact View.read_rep _ _
      isplitl [HS1]
      · iexists _; isplitr; swap
        · iexact HS1
        · ipureintro
          exact View.read_rep _ _
      · iexists _; isplitr; swap
        · iexact HS2
        · ipureintro
          exact View.read_rep _ _
    · have h3 : k0_cond3 i (used T1) = 1#1 := (cond3_iff _ _).2 h2
      iintro ⟨H0, H1, H2, H3, HT0, HT1, ⟨%f4, HO4⟩, HS0, HS1, HS2⟩
      sl_exec! (disch := first | exact h0 | exact h2 | exact h3)
      sl_step
      unfold block held
      rw [if_neg h2, if_neg h0, if_neg h0, if_neg h0]
      isplitl [H0]; · iexact H0
      isplitl [H1]; · iexact H1
      isplitl [H2]; · iexact H2
      isplitl [H3]; · iexact H3
      isplitl [HT0]; · iexact HT0
      isplitl [HT1]; · iexact HT1
      isplitl [HO4]
      · iexists _; isplitr; swap
        · iexact HO4
        · ipureintro
          exact View.read_writes_full _ _ _ _ _
      isplitl [HS0]
      · iexists _; isplitr; swap
        · iexact HS0
        · ipureintro
          exact View.read_rep _ _
      isplitl [HS1]
      · iexists _; isplitr; swap
        · iexact HS1
        · ipureintro
          exact View.read_rep _ _
      · iexists _; isplitr; swap
        · iexact HS2
        · ipureintro
          exact View.read_rep _ _

end Body
end Cert.Experts.KI
end
-- ==== Proof.ExpFrame.lean ====
module

public import proofs.«01_k».proof.Proof.ExpBody
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Adequacy
public import Idealize.ShloMosaic.Init

@[expose] public section

set_option maxRecDepth 16384

noncomputable section

namespace Cert.Experts.KI
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! The grid's run at any tables whose blocks lie inside the arrays: after each point the scratch buffers hold the weights of
    that point's expert, loaded there or left from the point before, and the output's block is the one the body stores from
    them. -/

section Frame
variable {F : FTy → Type} [FloatOps F]
local notation "𝕄" => MT nD τ sig Unit (Elt F) ℕ (UR sig nD τ) ℕ

abbrev EP : Emb (UR sig nD τ) 𝕄 := emb₁

variable (a : (pcfg0 (F := F)).Adm)
variable (m : (ℓ : Loc nD τ sig) → Buf (Elt F) ℓ) (ρ : Dev nD → PrngReg)

abbrev cfgA : Pipeline.Cfg sig Λ₀ := cfg0 (F := F) a
abbrev pcs : Fin 1 → Pipeline.Cfg sig Λ₀ := Pipeline.pin (pcfgs (F := F)) fun | 0 => a
abbrev tab0 : S160.Idx → Elt F .i32 := a.1 0
abbrev tab1 : S1.Idx → Elt F .i32 := a.1 1
abbrev crd (t : Fin (cfgA a).N) : grid0.Coords := (cfgA a).grid.coords t

abbrev ms0_0 (t : Fin (cfgA a).N) : Memref sig .tc .vmem S512x8x128 .f32 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x1x1024x512 .f32 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x1x1024x512 .f32 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x1x512x1024 .f32 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S512x8x128 .f32 := spec0_4.stage ((cfgA a).slots t (4 : Fin 5))
abbrev hs0_4 (t : Fin (cfgA a).N) : (ms0_4 a t).IsWhole := hstage0_4 (((cfgA a).slots t (4 : Fin 5)).cast nbuf0_4)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

abbrev xblk (c : Dev nD) (t : Fin (cfgA a).N) : S512x8x128.Idx → Elt F .f32 := iblk a m c (0 : Fin 5) t
abbrev gblk (c : Dev nD) (t : Fin (cfgA a).N) : S1x1x1024x512.Idx → Elt F .f32 := iblk a m c (1 : Fin 5) t
abbrev ublk (c : Dev nD) (t : Fin (cfgA a).N) : S1x1x1024x512.Idx → Elt F .f32 := iblk a m c (2 : Fin 5) t
abbrev dblk (c : Dev nD) (t : Fin (cfgA a).N) : S1x1x512x1024.Idx → Elt F .f32 := iblk a m c (3 : Fin 5) t

/-- The point before position `n`. -/
abbrev before (n : ℕ) (h0 : n ≠ 0) (h : n ≤ (cfgA a).N) : Fin (cfgA a).N := ⟨n - 1, by omega⟩

/-- The invariant before position `t`: each scratch buffer at the weights of the point before, the tables. -/
def Phi (c : Dev nD) (t : Fin ((cfgA a).N + 1)) : sProp 𝕄 :=
  iprop((∃ x, ⌜∀ h0 : t.val ≠ 0, x = k0_pay1 (gblk a m c (before a t.val h0 (Nat.le_of_lt_succ t.isLt)))⌝ ∗ owns (c : Thread nD τ) sc0 fullShare x)
    ∗ (∃ x, ⌜∀ h0 : t.val ≠ 0, x = k0_pay2 (ublk a m c (before a t.val h0 (Nat.le_of_lt_succ t.isLt)))⌝ ∗ owns (c : Thread nD τ) sc1 fullShare x)
    ∗ (∃ x, ⌜∀ h0 : t.val ≠ 0, x = k0_pay3 (dblk a m c (before a t.val h0 (Nat.le_of_lt_succ t.isLt)))⌝ ∗ owns (c : Thread nD τ) sc2 fullShare x)
    ∗ (tb0.view.loc (c : Thread nD τ) ↦{fullShare.right} tab0 a) ∗ (tb1.view.loc (c : Thread nD τ) ↦{fullShare.right} tab1 a))

/-- The output's block at a point. -/
def oblk (c : Dev nD) (t : Fin (cfgA a).N) : S512x8x128.Idx → Elt F .f32 :=
  block (crd a t) (tab1 a) (xblk a m c t) (k0_pay1 (gblk a m c t)) (k0_pay2 (ublk a m c t)) (k0_pay3 (dblk a m c t))

def dats : (p : Fin 1) → (c : Dev nD) → Dat τ (Elt F) Unit ℕ (UR sig nD τ) ℕ (pcs a p) c
  | 0, c =>
  { A := fun w => m (((cfgA a).win w).arr.view.loc (c : Thread nD τ))
    after := fun w t => match w with
    | ⟨0, _⟩ => iblk a m c (0 : Fin 5) t
    | ⟨1, _⟩ => iblk a m c (1 : Fin 5) t
    | ⟨2, _⟩ => iblk a m c (2 : Fin 5) t
    | ⟨3, _⟩ => iblk a m c (3 : Fin 5) t
    | ⟨4, _⟩ => oblk a m c t
    Φ := fun t => Phi a m c t
    q := fun _ => fullShare
    owed := fun _ => 0 }

theorem after0_0 (c : Dev nD) (t : Fin (cfgA a).N) : (dats a m 0 c).after (0 : Fin 5) t = iblk a m c (0 : Fin 5) t := rfl
theorem after0_1 (c : Dev nD) (t : Fin (cfgA a).N) : (dats a m 0 c).after (1 : Fin 5) t = iblk a m c (1 : Fin 5) t := rfl
theorem after0_2 (c : Dev nD) (t : Fin (cfgA a).N) : (dats a m 0 c).after (2 : Fin 5) t = iblk a m c (2 : Fin 5) t := rfl
theorem after0_3 (c : Dev nD) (t : Fin (cfgA a).N) : (dats a m 0 c).after (3 : Fin 5) t = iblk a m c (3 : Fin 5) t := rfl
theorem after0_4 (c : Dev nD) (t : Fin (cfgA a).N) : (dats a m 0 c).after (4 : Fin 5) t = oblk a m c t := rfl

theorem before0_0 (c : Dev nD) (t : Fin (cfgA a).N) (d) : (dats a m 0 c).before (0 : Fin 5) t d = iblk a m c (0 : Fin 5) t :=
  ((dats a m 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m 0 c).before (1 : Fin 5) t d = iblk a m c (1 : Fin 5) t :=
  ((dats a m 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m 0 c).before (2 : Fin 5) t d = iblk a m c (2 : Fin 5) t :=
  ((dats a m 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats a m 0 c).before (3 : Fin 5) t d = iblk a m c (3 : Fin 5) t :=
  ((dats a m 0 c).before_in_eq_fetched (3 : Fin 5) rfl (fun _ => rfl) (fun _ _ _ => rfl) (fun t => by rw [after0_3]; unfold Dat.blockOf iblk; rfl) t d).trans
    (by unfold Dat.fetched Dat.blockOf iblk; rfl)

/-! ## Where the weights are kept -/

theorem coords_val : ∀ t : Fin grid0.N, (grid0.coords t 0).val = t.val := by decide +kernel

theorem off1_nat : ∀ k : Fin 160, (BitVec.ofNat 32 k.val).toNat = k.val := by decide +kernel
theorem off2_nat : ∀ k : Fin 160, (Scalar.maxsi (Scalar.subi (BitVec.ofNat 32 k.val) 1#32) 0#32).toNat = k.val - 1 := by decide +kernel
theorem off1_val (i : grid0.Coords) : k0_off1 i 0 = (i 0).val := off1_nat (i 0)
theorem off2_val (i : grid0.Coords) : k0_off2 i 0 = (i 0).val - 1 := off2_nat (i 0)

/-- The table's word at a position. -/
abbrev wd (T0 : S160.Idx → Elt F .i32) (k : ℕ) (hk : k < 160) : BitVec 32 := T0 (fun d => match d with | ⟨0, _⟩ => ⟨k, hk⟩)

theorem idx_eq {k : ℕ} (hk : k < 160) (r : S160.Idx) (h : (r 0).val = k) : r = (fun d => match d with | ⟨0, _⟩ => ⟨k, hk⟩ : S160.Idx) := by
  funext d; match d with | ⟨0, _⟩ => exact Fin.ext h

theorem word1 (i : grid0.Coords) (T0 : S160.Idx → Elt F .i32) :
    View.readAt (Elt F) tb0.view (Rect.unit (s := S160) (k0_off1 i) S1.size (k0_off1_inb i)).toLoadRect T0 (Shape.Idx.first (numel1_S1.symm ▸ Nat.one_pos))
      = wd T0 (i 0).val (i 0).isLt := by
  rw [View.readAt_apply]
  simp only [Memref.view_whole, View.read_whole]
  refine congrArg T0 (idx_eq _ _ ?_)
  show k0_off1 i 0 + 1 * 0 = _
  rw [off1_val]; omega
theorem word2 (i : grid0.Coords) (T0 : S160.Idx → Elt F .i32) :
    View.readAt (Elt F) tb0.view (Rect.unit (s := S160) (k0_off2 i) S1.size (k0_off2_inb i)).toLoadRect T0 (Shape.Idx.first (numel1_S1.symm ▸ Nat.one_pos))
      = wd T0 ((i 0).val - 1) (lt_of_le_of_lt (Nat.sub_le _ _) (i 0).isLt) := by
  rw [View.readAt_apply]
  simp only [Memref.view_whole, View.read_whole]
  refine congrArg T0 (idx_eq _ _ ?_)
  show k0_off2 i 0 + 1 * 0 = _
  rw [off2_val]; omega

theorem loads_iff (i : grid0.Coords) (T0 : S160.Idx → Elt F .i32) :
    Loads i T0 ↔ (i 0).val = 0 ∨ wd T0 (i 0).val (i 0).isLt ≠ wd T0 ((i 0).val - 1) (lt_of_le_of_lt (Nat.sub_le _ _) (i 0).isLt) := by
  unfold Loads
  rw [word1, word2]
  generalize wd T0 (i 0).val (i 0).isLt = u
  generalize wd T0 ((i 0).val - 1) _ = v
  have e0 : (BitVec.ofNat 32 (i 0).val == 0#32) = decide ((i 0).val = 0) :=
    (show ∀ k : Fin 160, (BitVec.ofNat 32 k.val == 0#32) = decide (k.val = 0) by decide +kernel) (i 0)
  have e1 : (u != v) = decide (u ≠ v) := by by_cases h : u = v <;> simp [h]
  simp only [Scalar.cmpi, Scalar.extui, Scalar.ori, IntOp.cmpi, IntOp.ori, e0, e1]
  by_cases h1 : (i 0).val = 0 <;> by_cases h2 : u = v <;> simp only [h1, h2, decide_true, decide_false, ne_eq, not_true_eq_false, not_false_eq_true, or_true, true_or, or_false, iff_true, iff_false] <;> decide

/-- The expert's block index at a coordinate. -/
theorem trans1 (pf : pre0.Contents (Elt F)) (i : grid0.Coords) : cc0_transform_1 k0_off1_inb numel1_S1 pf i = ![0, (wd (F := F) (pf 0) (i 0).val (i 0).isLt).toNat, 0, 0] := by
  unfold cc0_transform_1
  refine congrArg (fun b : BitVec 32 => ![0, b.toNat, 0, 0]) (congrArg (pf 0) (idx_eq _ _ ?_))
  show k0_off1 i 0 + 1 * 0 = _
  rw [off1_val]; omega
theorem trans2 (pf : pre0.Contents (Elt F)) (i : grid0.Coords) : cc0_transform_2 k0_off1_inb numel1_S1 pf i = ![0, (wd (F := F) (pf 0) (i 0).val (i 0).isLt).toNat, 0, 0] := by
  unfold cc0_transform_2
  refine congrArg (fun b : BitVec 32 => ![0, b.toNat, 0, 0]) (congrArg (pf 0) (idx_eq _ _ ?_))
  show k0_off1 i 0 + 1 * 0 = _
  rw [off1_val]; omega
theorem trans3 (pf : pre0.Contents (Elt F)) (i : grid0.Coords) : cc0_transform_3 k0_off1_inb numel1_S1 pf i = ![0, (wd (F := F) (pf 0) (i 0).val (i 0).isLt).toNat, 0, 0] := by
  unfold cc0_transform_3
  refine congrArg (fun b : BitVec 32 => ![0, b.toNat, 0, 0]) (congrArg (pf 0) (idx_eq _ _ ?_))
  show k0_off1 i 0 + 1 * 0 = _
  rw [off1_val]; omega

theorem kept_word (t : Fin (cfgA a).N) (h : ¬ Loads (crd a t) (tab0 a)) :
    t.val ≠ 0 ∧ ∀ t' : Fin (cfgA a).N, t'.val = t.val - 1 →
      wd (tab0 a) ((crd a t) 0).val ((crd a t) 0).isLt = wd (tab0 a) ((crd a t') 0).val ((crd a t') 0).isLt := by
  rw [loads_iff, not_or, not_not] at h
  have hc : ((crd a t) 0).val = t.val := coords_val t
  refine ⟨fun h0 => h.1 (hc.trans h0), fun t' ht => h.2.trans ?_⟩
  have hc' : ((crd a t') 0).val = t'.val := coords_val t'
  exact congrArg (tab0 a) (idx_eq _ _ (by show ((crd a t) 0).val - 1 = ((crd a t') 0).val; omega))

theorem held_iblk {α : Type} (w : Fin (cfgA a).W) (c : Dev nD) (f : ((((cfgA a).win w).block).Idx → Elt F ((cfgA a).win w).elt) → α)
    (g : Fin (cfgA a).N → (((cfgA a).win w).block).Idx → Elt F ((cfgA a).win w).elt) (t : Fin (cfgA a).N)
    (hg : ∀ t t' : Fin (cfgA a).N, ((cfgA a).win w).index t = ((cfgA a).win w).index t' → g t = g t')
    (hi : ∀ t t' : Fin (cfgA a).N, wd (tab0 a) ((crd a t) 0).val ((crd a t) 0).isLt = wd (tab0 a) ((crd a t') 0).val ((crd a t') 0).isLt → ((cfgA a).win w).index t = ((cfgA a).win w).index t')
    (x : α) (hx : ∀ h0 : t.val ≠ 0, x = f (g (before a t.val h0 (Nat.le_of_lt t.isLt)))) :
    held (crd a t) (tab0 a) (f (g t)) x = f (g t) := by
  unfold held
  split
  · rfl
  · rename_i h
    obtain ⟨h0, hw⟩ := kept_word a t h
    rw [hx h0]
    exact congrArg f (hg _ _ (hi _ _ (hw _ rfl)).symm)

theorem congr1 (c : Dev nD) (t t' : Fin (cfgA a).N) (h : ((cfgA a).win (1 : Fin 5)).index t = ((cfgA a).win (1 : Fin 5)).index t') : gblk a m c t = gblk a m c t' := by
  have e := (dats a m 0 c).fetched_congr (1 : Fin 5) h rfl (fun _ => default)
  unfold Dat.fetched Dat.blockOf at e
  exact e
theorem congr2 (c : Dev nD) (t t' : Fin (cfgA a).N) (h : ((cfgA a).win (2 : Fin 5)).index t = ((cfgA a).win (2 : Fin 5)).index t') : ublk a m c t = ublk a m c t' := by
  have e := (dats a m 0 c).fetched_congr (2 : Fin 5) h rfl (fun _ => default)
  unfold Dat.fetched Dat.blockOf at e
  exact e
theorem congr3 (c : Dev nD) (t t' : Fin (cfgA a).N) (h : ((cfgA a).win (3 : Fin 5)).index t = ((cfgA a).win (3 : Fin 5)).index t') : dblk a m c t = dblk a m c t' := by
  have e := (dats a m 0 c).fetched_congr (3 : Fin 5) h rfl (fun _ => default)
  unfold Dat.fetched Dat.blockOf at e
  exact e

theorem held1 (c : Dev nD) (t : Fin (cfgA a).N) (x : S1024x512.Idx → Elt F .bf16)
    (hx : ∀ h0 : t.val ≠ 0, x = k0_pay1 (gblk a m c (before a t.val h0 (Nat.le_of_lt t.isLt)))) :
    held (crd a t) (tab0 a) (k0_pay1 (gblk a m c t)) x = k0_pay1 (gblk a m c t) :=
  held_iblk a (1 : Fin 5) c k0_pay1 (gblk a m c) t (congr1 a m c)
    (fun t t' h => by
      show cc0_transform_1 k0_off1_inb numel1_S1 a.1 (crd a t) = cc0_transform_1 k0_off1_inb numel1_S1 a.1 (crd a t')
      rw [trans1, trans1]; exact congrArg (fun b : BitVec 32 => ![0, b.toNat, 0, 0]) h) x hx
theorem held2 (c : Dev nD) (t : Fin (cfgA a).N) (x : S1024x512.Idx → Elt F .bf16)
    (hx : ∀ h0 : t.val ≠ 0, x = k0_pay2 (ublk a m c (before a t.val h0 (Nat.le_of_lt t.isLt)))) :
    held (crd a t) (tab0 a) (k0_pay2 (ublk a m c t)) x = k0_pay2 (ublk a m c t) :=
  held_iblk a (2 : Fin 5) c k0_pay2 (ublk a m c) t (congr2 a m c)
    (fun t t' h => by
      show cc0_transform_2 k0_off1_inb numel1_S1 a.1 (crd a t) = cc0_transform_2 k0_off1_inb numel1_S1 a.1 (crd a t')
      rw [trans2, trans2]; exact congrArg (fun b : BitVec 32 => ![0, b.toNat, 0, 0]) h) x hx
theorem held3 (c : Dev nD) (t : Fin (cfgA a).N) (x : S512x1024.Idx → Elt F .bf16)
    (hx : ∀ h0 : t.val ≠ 0, x = k0_pay3 (dblk a m c (before a t.val h0 (Nat.le_of_lt t.isLt)))) :
    held (crd a t) (tab0 a) (k0_pay3 (dblk a m c t)) x = k0_pay3 (dblk a m c t) :=
  held_iblk a (3 : Fin 5) c k0_pay3 (dblk a m c) t (congr3 a m c)
    (fun t t' h => by
      show cc0_transform_3 k0_off1_inb numel1_S1 a.1 (crd a t) = cc0_transform_3 k0_off1_inb numel1_S1 a.1 (crd a t')
      rw [trans3, trans3]; exact congrArg (fun b : BitVec 32 => ![0, b.toNat, 0, 0]) h) x hx

theorem idle4 (t : Fin (cfgA a).N) : (cfgA a).idle (4 : Fin 5) ((cfgA a).grid.coords t) = false := by
  show (!(k0_cond2 (crd a t) (a.1.atD 1 ![0]) == 1#1) && !(k0_cond3 (crd a t) (a.1.atD 1 ![0]) == 1#1)) = false
  have h := cond3_iff (crd a t) (a.1.atD 1 ![0])
  by_cases h2 : k0_cond2 (crd a t) (a.1.atD 1 ![0]) = 1#1
  · rw [h2]; rfl
  · rw [h.2 h2]; exact Bool.and_false _

/-! ## The body at a point of the grid -/

abbrev bodyAt0 (t : Fin (cfgA a).N) : Prog (TpuEff nD τ sig (Elt F) Λ₀ .tc) PUnit :=
  cc0_moe_experts (crd a t) (Memref.whole main_arg0) (Memref.isWhole_whole _) (Memref.whole main_arg1) (Memref.isWhole_whole _) (ms0_0 a t) (hs0_0 a t) (ms0_1 a t) (hs0_1 a t) (ms0_2 a t) (hs0_2 a t) (ms0_3 a t) (hs0_3 a t) (ms0_4 a t) (hs0_4 a t) (Memref.whole cc0_scratch0) (Memref.isWhole_whole _) (Memref.whole cc0_scratch1) (Memref.isWhole_whole _) (Memref.whole cc0_scratch2) (Memref.isWhole_whole _)

set_option maxHeartbeats 4000000 in
theorem sound_body (c : Dev nD) (t : Fin (cfgA a).N) :
    iprop((dats a m 0 c).Φ t.castSucc ∗ (dats a m 0 c).owesAt () t.castSucc
        ∗ (∃ d, owns (c : Thread nD τ) (ms0_0 a t) fullShare ((dats a m 0 c).before (0 : Fin 5) t d))
        ∗ (∃ d, owns (c : Thread nD τ) (ms0_1 a t) fullShare ((dats a m 0 c).before (1 : Fin 5) t d))
        ∗ (∃ d, owns (c : Thread nD τ) (ms0_2 a t) fullShare ((dats a m 0 c).before (2 : Fin 5) t d))
        ∗ (∃ d, owns (c : Thread nD τ) (ms0_3 a t) fullShare ((dats a m 0 c).before (3 : Fin 5) t d))
        ∗ (∃ d, owns (c : Thread nD τ) (ms0_4 a t) fullShare ((dats a m 0 c).before (4 : Fin 5) t d)))
      ⊢ wp frame (wpE (defs₀ (F := F)) Variants.none c none) Set.univ (bodyAt0 a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle4]
  simp only [before0_0, before0_1, before0_2, before0_3, after0_0, after0_1, after0_2, after0_3, after0_4]
  rewrite [show (dats a m 0 c).Φ t.succ = Phi a m c t.succ from rfl, show (dats a m 0 c).Φ t.castSucc = Phi a m c t.castSucc from rfl,
    show (dats a m 0 c).owesAt () t.succ = (dats a m 0 c).owesAt () t.castSucc from rfl]
  unfold Phi
  iintro ⟨⟨⟨%y0, %hy0, HS0⟩, ⟨%y1, %hy1, HS1⟩, ⟨%y2, %hy2, HS2⟩, HT0, HT1⟩, Ho, ⟨%d0, H0⟩, ⟨%d1, H1⟩, ⟨%d2, H2⟩, ⟨%d3, H3⟩, ⟨%d4, H4⟩⟩
  have e1 := held1 a m c t y0 hy0
  have e2 := held2 a m c t y1 hy1
  have e3 := held3 a m c t y2 hy2
  iapply wp_wand_r
  isplitl [H0 H1 H2 H3 H4 HS0 HS1 HS2 HT0 HT1]
  · iapply (body_rep (F := F) c (crd a t) (ms0_0 a t) (hs0_0 a t) (ms0_1 a t) (hs0_1 a t) (ms0_2 a t) (hs0_2 a t) (ms0_3 a t) (hs0_3 a t) (ms0_4 a t) (hs0_4 a t)
      (tab0 a) (tab1 a) (xblk a m c t) (gblk a m c t) (ublk a m c t) (dblk a m c t) y0 y1 y2)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iapply rep_of_owns; iexact H4
    isplitl [HS0]; · iapply rep_of_owns; iexact HS0
    isplitl [HS1]; · iapply rep_of_owns; iexact HS1
    iapply rep_of_owns; iexact HS2
  iintro %_ ⟨H0, H1, H2, H3, HT0, HT1, ⟨%f4, %h4, H4⟩, ⟨%g0, %hg0, HS0⟩, ⟨%g1, %hg1, HS1⟩, ⟨%g2, %hg2, HS2⟩⟩
  isplitl [HS0 HS1 HS2 HT0 HT1]
  · isplitl [HS0]
    · iexists (k0_pay1 (gblk a m c t)); isplitr
      · ipureintro; intro _; rfl
      · unfold owns; iexists g0; isplitr; swap
        · iexact HS0
        · ipureintro; exact hg0.trans e1
    isplitl [HS1]
    · iexists (k0_pay2 (ublk a m c t)); isplitr
      · ipureintro; intro _; rfl
      · unfold owns; iexists g1; isplitr; swap
        · iexact HS1
        · ipureintro; exact hg1.trans e2
    isplitl [HS2]
    · iexists (k0_pay3 (dblk a m c t)); isplitr
      · ipureintro; intro _; rfl
      · unfold owns; iexists g2; isplitr; swap
        · iexact HS2
        · ipureintro; exact hg2.trans e3
    isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  unfold owns; iexists f4; isplitr; swap
  · iexact H4
  · ipureintro; rw [h4, e1, e2, e3]; rfl

theorem body_obligation (c : Dev nD) : BodyObligation (dats a m 0 c) (defs₀ (F := F)) Variants.none () Set.univ := fun t => by
  rw [bigSep_W0]
  exact sound_body a m c t

/-! ## The launch -/

def u₀ : UR sig nD τ :=
  initOf (Pipeline.cells (pcs a) ((launch0 (F := F)).cellOf_inj fun | 0 => a))
    (Pipeline.launchToks (pcs a) ((launch0 (F := F)).cellOf_inj fun | 0 => a))

theorem share_eq (c : Dev nD) (w : Fin (cfgA a).W) : (dats a m 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a m c 0 from rfl]
  unfold Phi
  iintro ⟨-, ⟨HT0, HT1⟩, ⟨%a0, HS0⟩, ⟨%a1, HS1⟩, ⟨%a2, HS2⟩⟩
  isplitl [HS0]
  · iexists a0; isplitr
    · ipureintro; intro h; exact absurd rfl h
    · iapply (Entails.of_eq (owns_whole (c : Thread nD τ) cc0_scratch0 fullShare a0).symm); iexact HS0
  isplitl [HS1]
  · iexists a1; isplitr
    · ipureintro; intro h; exact absurd rfl h
    · iapply (Entails.of_eq (owns_whole (c : Thread nD τ) cc0_scratch1 fullShare a1).symm); iexact HS1
  isplitl [HS2]
  · iexists a2; isplitr
    · ipureintro; intro h; exact absurd rfl h
    · iapply (Entails.of_eq (owns_whole (c : Thread nD τ) cc0_scratch2 fullShare a2).symm); iexact HS2
  isplitl [HT0]
  · iexact HT0
  iexact HT1

theorem phiN_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a m c (Fin.last _) from rfl]
  unfold Phi
  iintro ⟨⟨%a0, -, HS0⟩, ⟨%a1, -, HS1⟩, ⟨%a2, -, HS2⟩, -, -⟩
  isplitr; · iempintro
  isplitl [HS0]
  · iexists a0; iapply (Entails.of_eq (owns_whole (c : Thread nD τ) cc0_scratch0 fullShare a0)); iexact HS0
  isplitl [HS1]
  · iexists a1; iapply (Entails.of_eq (owns_whole (c : Thread nD τ) cc0_scratch1 fullShare a1)); iexact HS1
  iexists a2; iapply (Entails.of_eq (owns_whole (c : Thread nD τ) cc0_scratch2 fullShare a2)); iexact HS2

/-- Every array at what the grid's run computes, every table at what it ran at. -/
def QC : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
theorem run_main (hp : ∀ (c : Dev nD) (j : Fin 2), m ((c : Thread nD τ).loc (pre0.ref j)) = a.1 j) :
    θ_run (defs (F := F)) (onTc (τ := τ) (main (F := F))) ⟨m, fun _ => 0, ρ⟩ (fun r => QC a m r ∧ r.2.sem = fun _ => 0) :=
  Pipeline.θ_run_region_noSem_pf_quiescent pcfgs (fun | 0 => a) (dats a m) () ((launch0 (F := F)).cellOf_inj fun | 0 => a) (0 : Fin 1)
    (launch0 (F := F)).win.to₀ (launch0 (F := F)).pre EP defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := F)).win.arr_inj c (launch0 (F := F)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m)
    (hout := phiN_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem frame_of (hp : ∀ (c : Dev nD) (j : Fin 2), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 0).trans (hp c 0).symm, ((h.1 c).2 1).trans (hp c 1).symm, ((h.1 c).1 (0 : Fin 5)).trans ((dats a m 0 c).arrAt_in (0 : Fin 5) rfl _), ((h.1 c).1 (1 : Fin 5)).trans ((dats a m 0 c).arrAt_in (1 : Fin 5) rfl _), ((h.1 c).1 (2 : Fin 5)).trans ((dats a m 0 c).arrAt_in (2 : Fin 5) rfl _), ((h.1 c).1 (3 : Fin 5)).trans ((dats a m 0 c).arrAt_in (3 : Fin 5) rfl _)⟩, h.2⟩) (run_main a m ρ hp)

end Frame
end Cert.Experts.KI
end
-- ==== Proof.ExpTab.lean ====
module

public import proofs.«01_k».proof.Proof.ExpFrame

@[expose] public section

set_option maxRecDepth 16384

noncomputable section

namespace Cert.Experts.KI
open Cert.Kernel2Ideal Cert.Kernel2Ideal.Gen
open Idealize.ShloMosaic Idealize.ShloMosaic.TcCoe Idealize.SL.Sem

/-! Tables in the stated range keep every block inside its array. -/

section Tables
variable {F : FTy → Type} [FloatOps F]

/-- Every block's expert is one of the 32, and at least one block is in use. -/
abbrev InRange (T0 : S160.Idx → Elt F .i32) (T1 : S1.Idx → Elt F .i32) : Prop :=
  (∀ i : S160.Idx, (show BitVec 32 from T0 i).toNat < 32) ∧ ∀ i : S1.Idx, 1 ≤ (show BitVec 32 from T1 i).toNat ∧ (show BitVec 32 from T1 i).toNat < 2147483648

theorem min_val (k : ℕ) (w : BitVec 32) (hk : k < 160) (h1 : 1 ≤ w.toNat) (h2 : w.toNat < 2147483648) :
    (Scalar.minsi (BitVec.ofNat 32 k) (Scalar.subi w 1#32)).toNat = min k (w.toNat - 1) := by
  have ek : (BitVec.ofNat 32 k).toNat = k := by rw [BitVec.toNat_ofNat]; omega
  have ew : (Scalar.subi w 1#32).toNat = w.toNat - 1 := by
    show (w - 1#32).toNat = _
    rw [BitVec.toNat_sub]
    have : (1#32 : BitVec 32).toNat = 1 := rfl
    omega
  generalize Scalar.subi w 1#32 = v at ew
  have eik : (BitVec.ofNat 32 k).toInt = (k : Int) := by rw [BitVec.toInt_eq_toNat_cond, ek]; split <;> omega
  have eiv : v.toInt = ((w.toNat - 1 : ℕ) : Int) := by rw [BitVec.toInt_eq_toNat_cond, ew]; split <;> omega
  show (if (BitVec.ofNat 32 k).slt v then BitVec.ofNat 32 k else v).toNat = _
  by_cases h : k < w.toNat - 1
  · rw [if_pos (show (BitVec.ofNat 32 k).slt v = true from decide_eq_true (by rw [eik, eiv]; omega)), ek]; omega
  · rw [if_neg (show ¬ (BitVec.ofNat 32 k).slt v = true from fun q => h (by have := of_decide_eq_true q; rw [eik, eiv] at this; omega)), ew]; omega

theorem trans0 (pf : pre0.Contents (Elt F)) (i : grid0.Coords) (r : S1.Idx) (h : InRange (F := F) (pf 0) (pf 1)) :
    cc0_transform_0 inb_S1_S1_0 numel1_S1 pf i = ![min (i 0).val ((show BitVec 32 from pf 1 r).toNat - 1), 0, 0] := by
  have hi : (i 0).val < 160 := (i 0).isLt
  rw [← min_val _ _ hi (h.2 r).1 (h.2 r).2]
  unfold cc0_transform_0
  refine congrArg (fun b : BitVec 32 => ![(Scalar.minsi (BitVec.ofNat 32 (i 0).val) (Scalar.subi b 1#32)).toNat, 0, 0]) (congrArg (pf 1) ?_)
  haveI : Subsingleton S1.Idx := ⟨fun a b => funext fun j => match j with | ⟨0, _⟩ => Subsingleton.elim (α := Fin 1) _ _⟩
  exact Subsingleton.elim (α := S1.Idx) _ _

def first1 : S1.Idx := fun d => match d with | ⟨0, _⟩ => ⟨0, Nat.one_pos⟩

theorem ok_of (pf : pre0.Contents (Elt F)) (h : InRange (F := F) (pf 0) (pf 1)) : ok0 pf := by
  refine ⟨fun i => ⟨?_, .inl rfl⟩, fun i => ⟨?_, .inl rfl⟩, fun i => ⟨?_, .inl rfl⟩, fun i => ⟨?_, .inl rfl⟩⟩
  · rw [trans0 pf i first1 h]
    have hi : (i 0).val < 160 := (i 0).isLt
    intro a
    match a with
    | ⟨0, _⟩ => show (min (i 0).val _ + 1) * 512 ≤ 81920; omega
    | ⟨1, _⟩ => show (0 + 1) * 8 ≤ 8; omega
    | ⟨2, _⟩ => show (0 + 1) * 128 ≤ 128; omega
  · rw [trans1]
    have hi := h.1 (fun d => match d with | ⟨0, _⟩ => ⟨(i 0).val, (i 0).isLt⟩)
    intro a
    match a with
    | ⟨0, _⟩ => show (0 + 1) * 1 ≤ 4; omega
    | ⟨1, _⟩ => exact (Nat.mul_one _).le.trans hi
    | ⟨2, _⟩ => show (0 + 1) * 1024 ≤ 1024; omega
    | ⟨3, _⟩ => show (0 + 1) * 512 ≤ 512; omega
  · rw [trans2]
    have hi := h.1 (fun d => match d with | ⟨0, _⟩ => ⟨(i 0).val, (i 0).isLt⟩)
    intro a
    match a with
    | ⟨0, _⟩ => show (0 + 1) * 1 ≤ 4; omega
    | ⟨1, _⟩ => exact (Nat.mul_one _).le.trans hi
    | ⟨2, _⟩ => show (0 + 1) * 1024 ≤ 1024; omega
    | ⟨3, _⟩ => show (0 + 1) * 512 ≤ 512; omega
  · rw [trans3]
    have hi := h.1 (fun d => match d with | ⟨0, _⟩ => ⟨(i 0).val, (i 0).isLt⟩)
    intro a
    match a with
    | ⟨0, _⟩ => show (0 + 1) * 1 ≤ 4; omega
    | ⟨1, _⟩ => exact (Nat.mul_one _).le.trans hi
    | ⟨2, _⟩ => show (0 + 1) * 512 ≤ 512; omega
    | ⟨3, _⟩ => show (0 + 1) * 1024 ≤ 1024; omega

variable (m : (ℓ : Loc nD τ sig) → Buf (Elt F) ℓ) (ρ : Dev nD → PrngReg)

abbrev dev0 : Dev nD := ⟨0, Nat.one_pos⟩
/-- The tables a memory holds. -/
def tabs : pre0.Contents (Elt F) := fun j => m ((dev0 : Thread nD τ).loc (pre0.ref j))

def adm (h : InRange (F := F) (m ((dev0 : Thread nD τ).loc main_arg0)) (m ((dev0 : Thread nD τ).loc main_arg1))) : (pcfg0 (F := F)).Adm :=
  ⟨tabs m, ok_of (tabs m) h⟩

theorem adm_tab (h) (c : Dev nD) (j : Fin 2) : m ((c : Thread nD τ).loc (pre0.ref j)) = (adm m h).1 j := by
  obtain rfl : c = dev0 := Subsingleton.elim (α := Fin 1) _ _
  rfl

end Tables
end Cert.Experts.KI
end
-- ==== Proof.ExpRef.lean ====
module

public import proofs.«01_k».proof.Defs
public import proofs.«01_k».proof.Proof.Gen.Reference2Ideal
public import proofs.«01_k».proof.Proof.FoxIdeal
public import Idealize.ShloMosaic.Lib.Pointwise

@[expose] public section

set_option maxRecDepth 100000

noncomputable section

namespace Cert.Experts.Ref
open Cert.Reference2Ideal Cert.Reference2Ideal.Gen
open Idealize.ShloMosaic Idealize.SL.Sem

/-- Each block's expert, as an index. -/
def IDX (T0 : IVec S160 32) : IVec S160x1 32 :=
  broadcastInDim S160x1 ![0] bcast_S160_S160x1_0
    (select (cmpi .slt T0 (broadcastInDim S160 ![] bcast_S_S160 (constantI S_ 32 0#32)))
      (addi T0 (broadcastInDim S160 ![] bcast_S_S160 (constantI S_ 32 32#32))) T0)

/-- The first layer's weights into the hidden features, each block's expert's. -/
def WIN (T0 : IVec S160 32) (G : FVec Ideal S4x32x1024x512 .f32) : FVec Ideal S160x1024x512 .f32 :=
  Host.gather gather_S32x1024x512_S160x1_S160x1024x512_12_0_n_n_0_1_11024512
    (shapeCast S32x1024x512 (extractStridedSlice S1x32x1024x512 ![0, 0, 0, 0] G slices_S4x32x1024x512_S1x32x1024x512_0_0_0_0) shapeCasts_S1x32x1024x512_S32x1024x512) (IDX T0)

/-- The first layer's weights out of the hidden features, each block's expert's. -/
def WOUT (T0 : IVec S160 32) (D : FVec Ideal S4x32x512x1024 .f32) : FVec Ideal S160x512x1024 .f32 :=
  Host.gather gather_S32x512x1024_S160x1_S160x512x1024_12_0_n_n_0_1_15121024
    (shapeCast S32x512x1024 (extractStridedSlice S1x32x512x1024 ![0, 0, 0, 0] D slices_S4x32x512x1024_S1x32x512x1024_0_0_0_0) shapeCasts_S1x32x512x1024_S32x512x1024) (IDX T0)

/-- Every block's rows by its expert's weights. -/
def HID (T0 : IVec S160 32) (X : FVec Ideal S81920x8x128 .f32) (G : FVec Ideal S4x32x1024x512 .f32) : FVec Ideal S160x512x512 .f32 :=
  Host.dotGeneral dot_S160x512x1024_S160x1024x512_S160x512x512_2_1_1_2_0_0 none (shapeCast S160x512x1024 X shapeCasts_S81920x8x128_S160x512x1024) (WIN T0 G)

def SILU (x : FVec Ideal S160x512x512 .f32) : FVec Ideal S160x512x512 .f32 :=
  mulf x (Host.divf (broadcastInDim S160x512x512 ![] bcast_S_S160x512x512 (constant (F := Ideal) S_ .f32 0x3F800000#32))
    (addf (broadcastInDim S160x512x512 ![] bcast_S_S160x512x512 (constant (F := Ideal) S_ .f32 0x3F800000#32)) (Host.exp (Host.negf x))))

/-- The blocks in use. -/
def USED (T1 : IVec S1 32) : IVec S160x1x1 1 :=
  broadcastInDim S160x1x1 ![0] bcast_S160_S160x1x1_0 (cmpi .slt (iotaInDim S160 32 0) (broadcastInDim S160 ![] bcast_S_S160 (shapeCast S_ T1 shapeCasts_S1_S_)))

def OUT (T0 : IVec S160 32) (h : FVec Ideal S160x512x512 .f32) (D : FVec Ideal S4x32x512x1024 .f32) : FVec Ideal S160x512x1024 .f32 :=
  Host.dotGeneral dot_S160x512x512_S160x512x1024_S160x512x1024_2_1_1_2_0_0 none h (WOUT T0 D)

/-- The reference's result as one function of its arguments. -/
def REF (T0 : IVec S160 32) (T1 : IVec S1 32) (X : FVec Ideal S81920x8x128 .f32) (G U : FVec Ideal S4x32x1024x512 .f32) (D : FVec Ideal S4x32x512x1024 .f32) :
    FVec Ideal S81920x8x128 .f32 :=
  shapeCast S81920x8x128
    (select (broadcastInDim S160x512x1024 ![0, 1, 2] bcast_S160x1x1_S160x512x1024_0_1_2 (USED T1))
      (OUT T0 (mulf (SILU (HID T0 X G)) (HID T0 X U)) D)
      (broadcastInDim S160x512x1024 ![] bcast_S_S160x512x1024 (constant (F := Ideal) S_ .f32 0x00000000#32)))
    shapeCasts_S160x512x1024_S81920x8x128

/-! ## A gather of matrices, read at an index -/

/-- The dimension numbers of `table[idx]` over the matrices of an `[N, A, B]` table. -/
abbrev matDims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

theorem gather_mat {α : Type} {N A B n : ℕ} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (y : Fin A) (z : Fin B) (b : Fin N)
    (hb : (idx (ix2 c (0 : Fin 1))).toInt.toNat = b.val) :
    Host.gather (matDims N A B n wf) x idx (ix3 c y z) = x (ix3 b y z) := by
  unfold Host.gather
  refine congrArg x (funext fun a => Fin.ext ?_)
  show (matDims N A B n wf).start (ix3 c y z) idx a + (matDims N A B n wf).batchCoord (ix3 c y z) a + (matDims N A B n wf).offCoord (ix3 c y z) a = _
  rw [GatherDims.batchCoord_eq_zero _ _ _ List.not_mem_nil, Nat.add_zero]
  match a with
  | ⟨0, _⟩ =>
    have hm : (0 : Fin 3) ∈ (matDims N A B n wf).startIndexMap := List.mem_singleton.mpr rfl
    show (matDims N A B n wf).start (ix3 c y z) idx 0 + (matDims N A B n wf).offCoord (ix3 c y z) 0 = b.val
    rw [GatherDims.offCoord_eq_zero _ _ _ (fun h => ((GatherDims.mem_sKept _ _).mp h).1 (List.mem_singleton.mpr rfl)), Nat.add_zero]
    unfold GatherDims.start
    rw [dif_pos hm]
    have hsi : (matDims N A B n wf).siIdx (ix3 c y z) ⟨(matDims N A B n wf).startIndexMap.idxOf 0, List.idxOf_lt_length_iff.2 hm⟩ = ix2 c (0 : Fin 1) := by
      funext b'
      refine Fin.ext ?_
      match b' with
      | ⟨0, _⟩ => rfl
      | ⟨1, _⟩ => rfl
    rw [hsi, hb]
    show min b.val (N - 1) = b.val
    have := b.isLt
    omega
  | ⟨1, _⟩ =>
    have hm : (1 : Fin 3) ∉ ([0] : List (Fin 3)) := by decide
    have hk : (1 : Fin 3) ∈ (matDims N A B n wf).sKept := (GatherDims.mem_sKept _ _).2 ⟨hm, List.not_mem_nil⟩
    show (matDims N A B n wf).start (ix3 c y z) idx 1 + (matDims N A B n wf).offCoord (ix3 c y z) 1 = y.val
    unfold GatherDims.start GatherDims.offCoord
    rw [dif_neg hm, dif_pos hk, Nat.zero_add]
    rfl
  | ⟨2, _⟩ =>
    have hm : (2 : Fin 3) ∉ ([0] : List (Fin 3)) := by decide
    have hk : (2 : Fin 3) ∈ (matDims N A B n wf).sKept := (GatherDims.mem_sKept _ _).2 ⟨hm, List.not_mem_nil⟩
    show (matDims N A B n wf).start (ix3 c y z) idx 2 + (matDims N A B n wf).offCoord (ix3 c y z) 2 = z.val
    unfold GatherDims.start GatherDims.offCoord
    rw [dif_neg hm, dif_pos hk, Nat.zero_add]
    rfl

/-! ## The reference at an index -/

theorem toInt_small (x : BitVec 32) (h : x.toNat < 32) : x.toInt.toNat = x.toNat := by
  rw [BitVec.toInt_eq_toNat_cond]; split <;> omega

theorem IDX_at (T0 : IVec S160 32) (b : Fin 160) (h : (T0 (ix1 b)).toNat < 32) : IDX T0 (ix2 b (0 : Fin 1)) = T0 (ix1 b) := by
  have e : IDX T0 (ix2 b (0 : Fin 1)) = Scalar.select (IntOp.cmpi .slt (T0 (ix1 b)) 0#32) (IntOp.addi (T0 (ix1 b)) 32#32) (T0 (ix1 b)) := by
    pointwise [IDX]
  rw [e]
  generalize T0 (ix1 b) = x at h
  have k : x.slt 0#32 = false := by
    refine decide_eq_false ?_
    rw [BitVec.toInt_eq_toNat_cond, show (0#32 : BitVec 32).toInt = 0 by decide]
    split <;> omega
  show Scalar.select (BitVec.ofBool (x.slt 0#32)) _ x = x
  rw [k]; rfl

theorem WIN_at (T0 : IVec S160 32) (G : FVec Ideal S4x32x1024x512 .f32) (b : Fin 160) (h : (T0 (ix1 b)).toNat < 32) (d : Fin 1024) (f : Fin 512) :
    WIN T0 G (ix3 b d f) = G (ix4 (0 : Fin 4) (⟨(T0 (ix1 b)).toNat, h⟩ : Fin 32) d f) := by
  refine (gather_mat gather_S32x1024x512_S160x1_S160x1024x512_12_0_n_n_0_1_11024512.wf _ (IDX T0) b d f (⟨(T0 (ix1 b)).toNat, h⟩ : Fin 32) ?_).trans ?_
  · rw [IDX_at T0 b h]; exact toInt_small _ h
  · pointwise

theorem WOUT_at (T0 : IVec S160 32) (D : FVec Ideal S4x32x512x1024 .f32) (b : Fin 160) (h : (T0 (ix1 b)).toNat < 32) (f : Fin 512) (d : Fin 1024) :
    WOUT T0 D (ix3 b f d) = D (ix4 (0 : Fin 4) (⟨(T0 (ix1 b)).toNat, h⟩ : Fin 32) f d) := by
  refine (gather_mat gather_S32x512x1024_S160x1_S160x512x1024_12_0_n_n_0_1_15121024.wf _ (IDX T0) b f d (⟨(T0 (ix1 b)).toNat, h⟩ : Fin 32) ?_).trans ?_
  · rw [IDX_at T0 b h]; exact toInt_small _ h
  · pointwise

theorem HID_at (T0 : IVec S160 32) (X : FVec Ideal S81920x8x128 .f32) (G : FVec Ideal S4x32x1024x512 .f32) (b : Fin 160) (t : Fin 512) (f : Fin 512) :
    HID T0 X G (ix3 b t f) = ∑ d : Fin 1024, X (ix3 (⟨b.val * 512 + t.val, by omega⟩ : Fin 81920) (⟨d.val / 128, by omega⟩ : Fin 8) (⟨d.val % 128, by omega⟩ : Fin 128))
      * WIN T0 G (ix3 b d f) := by
  pointwise [HID]

theorem SILU_at (x : FVec Ideal S160x512x512 .f32) (b : Fin 160) (t f : Fin 512) :
    SILU x (ix3 b t f) = x (ix3 b t f) * Ideal.div 1 (1 + Ideal.exp (-x (ix3 b t f))) := by
  pointwise [SILU]

theorem OUT_at (T0 : IVec S160 32) (h : FVec Ideal S160x512x512 .f32) (D : FVec Ideal S4x32x512x1024 .f32) (b : Fin 160) (t : Fin 512) (d : Fin 1024) :
    OUT T0 h D (ix3 b t d) = ∑ f : Fin 512, h (ix3 b t f) * WOUT T0 D (ix3 b f d) := by
  pointwise [OUT]

theorem USED_at (T1 : IVec S1 32) (b : Fin 160) : USED T1 (ix3 b (0 : Fin 1) (0 : Fin 1)) = BitVec.ofBool ((BitVec.ofNat 32 b.val).slt (T1 (ix1 (0 : Fin 1)))) := by
  pointwise [USED]
  rfl

theorem REF_at (T0 : IVec S160 32) (T1 : IVec S1 32) (X : FVec Ideal S81920x8x128 .f32) (G U : FVec Ideal S4x32x1024x512 .f32) (D : FVec Ideal S4x32x512x1024 .f32)
    (b : Fin 160) (t : Fin 512) (s : Fin 8) (l : Fin 128) :
    REF T0 T1 X G U D (ix3 (⟨b.val * 512 + t.val, by omega⟩ : Fin 81920) s l)
      = if (BitVec.ofNat 32 b.val).slt (T1 (ix1 (0 : Fin 1))) = true then
          OUT T0 (mulf (SILU (HID T0 X G)) (HID T0 X U)) D (ix3 b t (⟨s.val * 128 + l.val, by omega⟩ : Fin 1024)) else 0 := by
  have e : (b.val * 512 + t.val) / 512 = b.val := by omega
  have e' : (b.val * 512 + t.val) % 512 = t.val := by omega
  pointwise [REF]
  rw [USED_at]
  generalize (BitVec.ofNat 32 b.val).slt (T1 (ix1 (0 : Fin 1))) = q
  cases q <;> rfl

end Cert.Experts.Ref
end
-- ==== Proof.ExpPre.lean ====
module

public import proofs.«01_k».proof.Defs
public import proofs.«01_k».proof.Proof.Gen.Pre_experts_and_blocks_in_range
public import Idealize.ShloMosaic.Lib.Pointwise
public import Idealize.ShloMosaic.Lib.ReduceAll

@[expose] public section

set_option maxRecDepth 100000

noncomputable section

namespace Cert.Experts.Pre
open Cert.Pre_experts_and_blocks_in_range Cert.Pre_experts_and_blocks_in_range.Gen
open Idealize.ShloMosaic Idealize.SL.Sem

theorem ofBool_one {b : Bool} (h : BitVec.ofBool b = 1#1) : b = true := by
  cases b
  · exact absurd h (by decide)
  · rfl

theorem expert_lt (x : BitVec 32) (h0 : BitVec.ofBool ((0#32).sle x) = 1#1) (h1 : BitVec.ofBool (x.slt 32#32) = 1#1) : x.toNat < 32 := by
  have a := of_decide_eq_true (ofBool_one h0)
  have b := of_decide_eq_true (ofBool_one h1)
  have e32 : (32#32 : BitVec 32).toInt = 32 := by decide
  have e0 : (0#32 : BitVec 32).toInt = 0 := by decide
  rw [e0] at a
  rw [e32] at b
  rw [BitVec.toInt_eq_toNat_cond] at a b
  have := x.isLt
  split at a <;> omega

theorem blocks_pos (x : BitVec 32) (h0 : BitVec.ofBool ((1#32).sle x) = 1#1) : 1 ≤ x.toNat ∧ x.toNat < 2147483648 := by
  have a := of_decide_eq_true (ofBool_one h0)
  have e1 : (1#32 : BitVec 32).toInt = 1 := by decide
  rw [e1] at a
  rw [BitVec.toInt_eq_toNat_cond] at a
  have := x.isLt
  split at a <;> omega

variable {F : FTy → Type} [FloatOps F]

/-- The precondition: every block's expert is one of the 32, and at least one block is in use. -/
theorem parts (T0 : IVec S160 32) (T1 : IVec S1 32) (X : FVec F S81920x8x128 .f32) (G U : FVec F S4x32x1024x512 .f32) (D : FVec F S4x32x512x1024 .f32)
    (hp : fn (F := F) T0 T1 X G U D = fun _ => 1#1) : (∀ i : S160.Idx, (T0 i).toNat < 32) ∧ ∀ i : S1.Idx, 1 ≤ (T1 i).toNat ∧ (T1 i).toNat < 2147483648 := by
  have e := congrFun hp ix0
  unfold fn at e
  dsimp only at e
  obtain ⟨e1, e2⟩ := IntOp.andi_eq_one.1 e
  haveI : Subsingleton S_.Idx := ⟨fun a b => funext fun i => i.elim0⟩
  refine ⟨fun i => ?_, fun i => ?_⟩
  · obtain ⟨a, b⟩ := IntOp.andi_eq_one.1 (Host.reduce_andi_all _ _ _ _ _ e1 i)
    exact expert_lt _ a b
  · exact blocks_pos _ (Host.reduce_andi_all _ _ _ _ _ e2 i)

end Cert.Experts.Pre
end
-- ==== Proof.ExpValue.lean ====
module

public import proofs.«01_k».proof.Proof.ExpTab
public import proofs.«01_k».proof.Proof.ExpRef
public import proofs.«01_k».proof.Proof.ExpPre
public import Idealize.ShloMosaic.Lib.Pipeline.ValueKit
public import Idealize.ShloMosaic.Lib.Pointwise

@[expose] public section

set_option maxRecDepth 100000

noncomputable section

namespace Cert.Experts.KI
open Cert.Kernel2Ideal Cert.Kernel2Ideal.Gen
open Idealize.ShloMosaic Idealize.ShloMosaic.TcCoe Idealize.SL.Sem
open Idealize.ShloMosaic.Pipeline (Dat)

/-! ## The body's arithmetic at an index -/

theorem pay1_at (x : S1x1x1024x512.Idx → Elt Ideal .f32) (d : Fin 1024) (f : Fin 512) : k0_pay1 (F := Ideal) x (ix2 d f) = x (ix4 (0 : Fin 1) (0 : Fin 1) d f) := by
  pointwise [k0_pay1]
theorem pay2_at (x : S1x1x1024x512.Idx → Elt Ideal .f32) (d : Fin 1024) (f : Fin 512) : k0_pay2 (F := Ideal) x (ix2 d f) = x (ix4 (0 : Fin 1) (0 : Fin 1) d f) := by
  pointwise [k0_pay2]
theorem pay3_at (x : S1x1x512x1024.Idx → Elt Ideal .f32) (f : Fin 512) (d : Fin 1024) : k0_pay3 (F := Ideal) x (ix2 f d) = x (ix4 (0 : Fin 1) (0 : Fin 1) f d) := by
  pointwise [k0_pay3]
theorem pay5_at (y : S512x8x128.Idx) : k0_pay5 (F := Ideal) y = 0 := by
  pointwise [k0_pay5]

/-- A block's rows by weights held in a scratch buffer. -/
def hid (X : S512x8x128.Idx → Elt Ideal .f32) (g : S1024x512.Idx → Elt Ideal .bf16) (t f : Fin 512) : EReal :=
  ∑ d : Fin 1024, X (ix3 t (⟨d.val / 128, by omega⟩ : Fin 8) (⟨d.val % 128, by omega⟩ : Fin 128)) * g (ix2 d f)

theorem pay4_at (X : S512x8x128.Idx → Elt Ideal .f32) (g u : S1024x512.Idx → Elt Ideal .bf16) (w : S512x1024.Idx → Elt Ideal .bf16) (t : Fin 512) (s : Fin 8) (l : Fin 128) :
    k0_pay4 (F := Ideal) X g u w (ix3 t s l)
      = ∑ f : Fin 512, hid X g t f * Ideal.div 1 (1 + Ideal.exp (-hid X g t f)) * hid X u t f * w (ix2 f (⟨s.val * 128 + l.val, by omega⟩ : Fin 1024)) := by
  pointwise [k0_pay4, hid]
  simp only [sub_eq_add_neg, zero_add]

/-! ## The blocks at a point -/

theorem index4 : ∀ t : Fin grid0.N, cc0_transform_4 (grid0.coords t) = ![t.val, 0, 0] := by decide +kernel
theorem flush4 : ∀ t : Fin grid0.N, Pipeline.Window.flushOf grid0 true cc0_transform_4 t = true := by decide +kernel

section Blocks
variable (a : (pcfg0 (F := Ideal)).Adm) (m : (ℓ : Loc nD τ sig) → Buf (Elt Ideal) ℓ) (c : Dev nD) (t : Fin (cfgA a).N)
variable (hr : InRange (F := Ideal) (tab0 a) (tab1 a))

theorem lt160 : t.val < 160 := t.isLt
/-- The expert of a point's block. -/
abbrev ex : ℕ := (show BitVec 32 from tab0 a (ix1 (⟨t.val, t.isLt⟩ : Fin 160))).toNat
/-- The number of blocks in use. -/
abbrev nu : BitVec 32 := tab1 a (ix1 (0 : Fin 1))

theorem wd_eq : (wd (tab0 a) ((crd a t) 0).val ((crd a t) 0).isLt).toNat = ex a t :=
  congrArg (fun r => (show BitVec 32 from tab0 a r).toNat) (idx_eq ((crd a t) 0).isLt (ix1 (⟨t.val, t.isLt⟩ : Fin 160)) (coords_val t).symm).symm

theorem idx1 : ((cfgA a).win (1 : Fin 5)).index t = ![0, ex a t, 0, 0] := (trans1 a.1 (crd a t)).trans (by rw [← wd_eq])
theorem idx2 : ((cfgA a).win (2 : Fin 5)).index t = ![0, ex a t, 0, 0] := (trans2 a.1 (crd a t)).trans (by rw [← wd_eq])
theorem idx3 : ((cfgA a).win (3 : Fin 5)).index t = ![0, ex a t, 0, 0] := (trans3 a.1 (crd a t)).trans (by rw [← wd_eq])
theorem idx4 : ((cfgA a).win (4 : Fin 5)).index t = ![t.val, 0, 0] := index4 t
include hr in
theorem idx0 (hu : t.val < (nu a).toNat) : ((cfgA a).win (0 : Fin 5)).index t = ![t.val, 0, 0] :=
  (trans0 a.1 (crd a t) (ix1 (0 : Fin 1)) hr).trans (by
    have e : ((crd a t) 0).val = t.val := coords_val t
    rw [e, show min t.val ((nu a).toNat - 1) = t.val by omega])

include hr in
theorem ex_lt : ex a t < 32 := hr.1 _

theorem blk1 (d : Fin 1024) (f : Fin 512) : gblk a m c t (ix4 (0 : Fin 1) (0 : Fin 1) d f)
    = (m ((c.tc : Thread nD τ).loc main_arg3) : FVec Ideal S4x32x1024x512 .f32) (ix4 (0 : Fin 4) (⟨ex a t, ex_lt a t hr⟩ : Fin 32) d f) := by
  blk_ext [iblk, idx1 a t]
theorem blk2 (d : Fin 1024) (f : Fin 512) : ublk a m c t (ix4 (0 : Fin 1) (0 : Fin 1) d f)
    = (m ((c.tc : Thread nD τ).loc main_arg4) : FVec Ideal S4x32x1024x512 .f32) (ix4 (0 : Fin 4) (⟨ex a t, ex_lt a t hr⟩ : Fin 32) d f) := by
  blk_ext [iblk, idx2 a t]
theorem blk3 (f : Fin 512) (d : Fin 1024) : dblk a m c t (ix4 (0 : Fin 1) (0 : Fin 1) f d)
    = (m ((c.tc : Thread nD τ).loc main_arg5) : FVec Ideal S4x32x512x1024 .f32) (ix4 (0 : Fin 4) (⟨ex a t, ex_lt a t hr⟩ : Fin 32) f d) := by
  blk_ext [iblk, idx3 a t]
include hr in
theorem blk0 (hu : t.val < (nu a).toNat) (q : Fin 512) (s : Fin 8) (l : Fin 128) : xblk a m c t (ix3 q s l)
    = (m ((c.tc : Thread nD τ).loc main_arg2) : FVec Ideal S81920x8x128 .f32) (ix3 (⟨t.val * 512 + q.val, by have := lt160 a t; omega⟩ : Fin 81920) s l) := by
  blk_ext [iblk, idx0 a t hr hu]
theorem blk4 (q : Fin 512) (s : Fin 8) (l : Fin 128) : ((((cfgA a).win (4 : Fin 5)).blk t).view.emb (ix3 q s l) : S81920x8x128.Idx)
    = ix3 (⟨t.val * 512 + q.val, by have := lt160 a t; omega⟩ : Fin 81920) s l := by
  blk_ext [idx4 a t]

theorem covers4 : ((cfgA a).win (4 : Fin 5)).Covers := by
  refine ⟨fun d => ?_, fun β => ⟨(⟨(β (0 : Fin 3)).val, lt_of_lt_of_eq (β (0 : Fin 3)).isLt (show (81920 + 512 - 1) / 512 = 160 by decide)⟩ : Fin 160), flush4 _, fun d => ⟨?_, .inl ?_⟩⟩⟩
  · match d with
    | ⟨0, _⟩ => exact (by decide : 0 < 512)
    | ⟨1, _⟩ => exact (by decide : 0 < 8)
    | ⟨2, _⟩ => exact (by decide : 0 < 128)
  · refine (congrFun (idx4 a _) d).trans ?_
    match d with
    | ⟨0, _⟩ => rfl
    | ⟨1, _⟩ =>
      have h : (β (1 : Fin 3)).val < 1 := lt_of_lt_of_eq (β (1 : Fin 3)).isLt (show (8 + 8 - 1) / 8 = 1 by decide)
      exact (Nat.lt_one_iff.1 h).symm
    | ⟨2, _⟩ =>
      have h : (β (2 : Fin 3)).val < 1 := lt_of_lt_of_eq (β (2 : Fin 3)).isLt (show (128 + 128 - 1) / 128 = 1 by decide)
      exact (Nat.lt_one_iff.1 h).symm
  · rfl

theorem cond2_iff (i : grid0.Coords) (w : BitVec 32) : k0_cond2 i w = 1#1 ↔ (BitVec.ofNat 32 (i 0).val).slt w = true := by
  unfold k0_cond2
  dsimp only
  simp only [Scalar.cmpi, Scalar.extui, IntOp.cmpi]
  cases (BitVec.ofNat 32 (i 0).val).slt w <;> decide

theorem used_eq : used (tab1 a) = nu a := by
  unfold used nu
  rw [View.readAt_apply]
  simp only [Memref.view_whole, View.read_whole]
  haveI : Subsingleton S1.Idx := ⟨fun a b => funext fun j => match j with | ⟨0, _⟩ => Subsingleton.elim (α := Fin 1) _ _⟩
  exact congrArg (tab1 a) (Subsingleton.elim (α := S1.Idx) _ _)

include hr in
theorem slt_iff : (BitVec.ofNat 32 t.val).slt (nu a) = true ↔ t.val < (nu a).toNat := by
  have ht := lt160 a t
  have hn : (nu a).toNat < 2147483648 := (hr.2 (ix1 (0 : Fin 1))).2
  generalize nu a = v at hn
  have ek : (BitVec.ofNat 32 t.val).toNat = t.val := by rw [BitVec.toNat_ofNat]; omega
  have eik : (BitVec.ofNat 32 t.val).toInt = (t.val : Int) := by rw [BitVec.toInt_eq_toNat_cond, ek]; split <;> omega
  have eiv : v.toInt = (v.toNat : Int) := by rw [BitVec.toInt_eq_toNat_cond]; split <;> omega
  rw [show ((BitVec.ofNat 32 t.val).slt v = true) = ((BitVec.ofNat 32 t.val).toInt < v.toInt) from decide_eq_true_eq, eik, eiv]
  omega

include hr in
/-- What the body stores at a place of its block is the reference's result where the block puts that place. -/
theorem point (h0 : tab0 a = m ((c.tc : Thread nD τ).loc main_arg0)) (h1 : tab1 a = m ((c.tc : Thread nD τ).loc main_arg1)) (y : S512x8x128.Idx) :
    oblk a m c t y = Cert.Experts.Ref.REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (((cfgA a).win (4 : Fin 5)).blk t |>.view.emb y) := by
  obtain ⟨q, s, l, rfl⟩ : ∃ (q : Fin 512) (s : Fin 8) (l : Fin 128), y = ix3 q s l := ⟨y 0, y 1, y 2, by
    funext d; fin_cases d <;> rfl⟩
  refine Eq.trans ?_ (congrArg _ (blk4 a t q s l).symm)
  rw [← h0, ← h1]
  refine Eq.trans ?_ (Cert.Experts.Ref.REF_at (tab0 a) (tab1 a) _ _ _ _ (⟨t.val, lt160 a t⟩ : Fin 160) q s l).symm
  have hc : ((crd a t) 0).val = t.val := coords_val t
  have e2 := cond2_iff (crd a t) (nu a)
  rw [hc] at e2
  unfold oblk block
  rw [used_eq]
  by_cases hu : (BitVec.ofNat 32 t.val).slt (nu a) = true
  · rw [if_pos (e2.2 hu), if_pos hu, pay4_at, Cert.Experts.Ref.OUT_at]
    have hlt := (slt_iff a t hr).1 hu
    have hG : ∀ f : Fin 512, hid (xblk a m c t) (k0_pay1 (gblk a m c t)) q f
        = Cert.Experts.Ref.HID (tab0 a) (m ((c.tc : Thread nD τ).loc main_arg2)) (m ((c.tc : Thread nD τ).loc main_arg3)) (ix3 (⟨t.val, lt160 a t⟩ : Fin 160) q f) := fun f => by
      rw [Cert.Experts.Ref.HID_at]
      refine Finset.sum_congr rfl fun d _ => congrArg₂ (· * ·) (blk0 a m c t hr hlt q _ _) ?_
      exact (pay1_at _ d f).trans ((blk1 a m c t hr d f).trans (Cert.Experts.Ref.WIN_at (tab0 a) _ (⟨t.val, lt160 a t⟩ : Fin 160) (ex_lt a t hr) d f).symm)
    have hU : ∀ f : Fin 512, hid (xblk a m c t) (k0_pay2 (ublk a m c t)) q f
        = Cert.Experts.Ref.HID (tab0 a) (m ((c.tc : Thread nD τ).loc main_arg2)) (m ((c.tc : Thread nD τ).loc main_arg4)) (ix3 (⟨t.val, lt160 a t⟩ : Fin 160) q f) := fun f => by
      rw [Cert.Experts.Ref.HID_at]
      refine Finset.sum_congr rfl fun d _ => congrArg₂ (· * ·) (blk0 a m c t hr hlt q _ _) ?_
      exact (pay2_at _ d f).trans ((blk2 a m c t hr d f).trans (Cert.Experts.Ref.WIN_at (tab0 a) _ (⟨t.val, lt160 a t⟩ : Fin 160) (ex_lt a t hr) d f).symm)
    refine Finset.sum_congr rfl fun f _ => congrArg₂ (· * ·) ?_ ?_
    · rw [hG f, hU f]
      refine Eq.trans ?_ (congrArg₂ (fun x y : EReal => x * y) (Cert.Experts.Ref.SILU_at _ _ _ _).symm rfl)
      rfl
    · exact (pay3_at _ f _).trans ((blk3 a m c t hr f _).trans (Cert.Experts.Ref.WOUT_at (tab0 a) _ (⟨t.val, lt160 a t⟩ : Fin 160) (ex_lt a t hr) f _).symm)
  · rw [if_neg (fun k => hu (e2.1 k)), if_neg hu, pay5_at]

include hr in
theorem final (h0 : tab0 a = m ((c.tc : Thread nD τ).loc main_arg0)) (h1 : tab1 a = m ((c.tc : Thread nD τ).loc main_arg1)) :
    (dats a m 0 c).arrAt (4 : Fin 5) (cfgA a).N
      = Cert.Experts.Ref.REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  refine (dats a m 0 c).arrAt_eq_of_covers (4 : Fin 5) _ (covers4 a) (fun t _ y => ?_) (Memref.isWhole_whole _)
  exact point a m c t hr h0 h1 y

end Blocks

end Cert.Experts.KI
end
-- ==== Proof.ExpRun.lean ====
module

public import proofs.«01_k».proof.Proof.ExpRef
public import Idealize.ShloMosaic.Lib.Claim

@[expose] public section

set_option maxRecDepth 100000

noncomputable section

namespace Cert.Experts.Ref
open Cert.Reference2Ideal Cert.Reference2Ideal.Gen
open Idealize.ShloMosaic Idealize.SL.Sem

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v39) = REF (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  rfl

end Cert.Experts.Ref
end
-- ==== Proof.GdnUnit.lean ====
module

public import proofs.«01_k».proof.Proof.Gen.Kernel3Ideal.Frame
public import Idealize.ShloMosaic.Lib.Pipeline.ValueKit
public import Idealize.ShloMosaic.Lib.Pipeline.ReadBack
public import Idealize.ShloMosaic.Lib.Pointwise

@[expose] public section

set_option maxRecDepth 100000

noncomputable section

namespace Cert.Gdn
open Idealize.ShloMosaic

/-- `x` times the logistic function of `x`. -/
def slu (x : EReal) : EReal := x * Ideal.div 1 (1 + Ideal.exp (-x))
/-- The reciprocal of the length of the head that holds feature `f`. -/
def nrm (s : Fin 3072 → EReal) (f : Fin 3072) : EReal :=
  Ideal.rsqrt (∑ d : Fin 128, s (⟨f.val / 128 * 128 + d.val, by omega⟩ : Fin 3072) * s (⟨f.val / 128 * 128 + d.val, by omega⟩ : Fin 3072) + (Scalar.ofBits .f32 0x358637BD#32 : Ideal .f32))
/-- A token's queries, keys and values from its activations. -/
def head (s : Fin 3072 → EReal) (f : Fin 3072) : EReal :=
  if f.val < 1024 then s f * nrm s f * (Scalar.ofBits .f32 0x3DB504F3#32 : Ideal .f32) else if f.val < 2048 then s f * nrm s f else s f

end Cert.Gdn

namespace Cert.Gdn.KI
open Cert.Kernel3Ideal Cert.Kernel3Ideal.Gen
open Idealize.ShloMosaic Idealize.ShloMosaic.TcCoe Idealize.SL.Sem

/-! ## The arithmetic of one unit of 128 features -/

def CV (v3 : Vec Ideal S512x128 .f32) (c3 : Vec Ideal S1x128 .f32) (v2 : Vec Ideal S512x128 .f32) (c2 : Vec Ideal S1x128 .f32)
    (v1 : Vec Ideal S512x128 .f32) (c1 : Vec Ideal S1x128 .f32) (v0 : Vec Ideal S512x128 .f32) (c0 : Vec Ideal S1x128 .f32) : FVec Ideal S512x128 .f32 :=
  addf (addf (addf (mulf v3 (broadcastTo S512x128 c3 broadcasts_S1x128_S512x128)) (mulf v2 (broadcastTo S512x128 c2 broadcasts_S1x128_S512x128)))
    (mulf v1 (broadcastTo S512x128 c1 broadcasts_S1x128_S512x128))) (mulf v0 (broadcastTo S512x128 c0 broadcasts_S1x128_S512x128))
def SL (x : FVec Ideal S512x128 .f32) : FVec Ideal S512x128 .f32 :=
  mulf x (divf (broadcast S512x128 (Scalar.ofBits .f32 0x3F800000#32)) (addf (broadcast S512x128 (Scalar.ofBits .f32 0x3F800000#32)) (exp (subf (broadcast S512x128 (Scalar.ofBits .f32 0x00000000#32)) x))))
def NM (x : FVec Ideal S512x128 .f32) : FVec Ideal S512x128 .f32 :=
  mulf x (broadcastTo S512x128 (rsqrt (addf (shapeCast S512x1 (multiReduction .add [1] S512 (mulf x x) 0x00000000#32 reduces_S512x128_S512 (.inl rfl) rfl) shapeCasts_S512_S512x1)
    (broadcast S512x1 (Scalar.ofBits .f32 0x358637BD#32)))) broadcasts_S512x1_S512x128)
def OUTB (x : FVec Ideal S512x128 .f32) : FVec Ideal S1x512x128 .bf16 := shapeCast S1x512x128 (truncf .bf16 x bitsLt_bf16_f32) shapeCasts_S512x128_S1x512x128
def SCB (x : FVec Ideal S512x128 .f32) : FVec Ideal S512x128 .f32 := mulf x (broadcast S512x128 (Scalar.ofBits .f32 0x3DB504F3#32))

theorem CV_at (v3 : Vec Ideal S512x128 .f32) (c3 : Vec Ideal S1x128 .f32) (v2 : Vec Ideal S512x128 .f32) (c2 : Vec Ideal S1x128 .f32)
    (v1 : Vec Ideal S512x128 .f32) (c1 : Vec Ideal S1x128 .f32) (v0 : Vec Ideal S512x128 .f32) (c0 : Vec Ideal S1x128 .f32) (r : Fin 512) (l : Fin 128) :
    CV v3 c3 v2 c2 v1 c1 v0 c0 (ix2 r l) = v3 (ix2 r l) * c3 (ix2 (0 : Fin 1) l) + v2 (ix2 r l) * c2 (ix2 (0 : Fin 1) l) + v1 (ix2 r l) * c1 (ix2 (0 : Fin 1) l) + v0 (ix2 r l) * c0 (ix2 (0 : Fin 1) l) := by
  pointwise [CV]
theorem SL_at (x : FVec Ideal S512x128 .f32) (r : Fin 512) (l : Fin 128) : SL x (ix2 r l) = slu (x (ix2 r l)) := by
  pointwise [SL, slu]
  simp only [sub_eq_add_neg, zero_add]
theorem NM_at (x : FVec Ideal S512x128 .f32) (r : Fin 512) (l : Fin 128) : NM x (ix2 r l)
    = x (ix2 r l) * Ideal.rsqrt (∑ d : Fin 128, x (ix2 r d) * x (ix2 r d) + (Scalar.ofBits .f32 0x358637BD#32 : Ideal .f32)) := by
  pointwise [NM]
theorem OUTB_at (x : FVec Ideal S512x128 .f32) (r : Fin 512) (l : Fin 128) : OUTB x (ix3 (0 : Fin 1) r l) = x (ix2 r l) := by
  pointwise [OUTB]
theorem SCB_at (x : FVec Ideal S512x128 .f32) (r : Fin 512) (l : Fin 128) : SCB x (ix2 r l) = x (ix2 r l) * (Scalar.ofBits .f32 0x3DB504F3#32 : Ideal .f32) := by
  pointwise [SCB]

/-! ## The rows held and the block stored -/

/-- The rows held: the point's projection from row 8, the earlier rows before it. -/
def W (base : S520x3072.Idx → EReal) (p : S512x3072.Idx → EReal) (y : S520x3072.Idx) : EReal :=
  if h : 8 ≤ (y 0).val then p (ix2 (⟨(y 0).val - 8, by have : (y 0).val < 520 := (y 0).isLt; omega⟩ : Fin 512) (⟨(y 1).val, (y 1).isLt⟩ : Fin 3072)) else base y

/-- The causal convolution at a row and a feature. -/
def conv (w : S520x3072.Idx → EReal) (k : S4x3072.Idx → EReal) (r : Fin 512) (f : Fin 3072) : EReal :=
  w (ix2 (⟨r.val + 8, by omega⟩ : Fin 520) f) * k (ix2 (3 : Fin 4) f) + w (ix2 (⟨r.val + 7, by omega⟩ : Fin 520) f) * k (ix2 (2 : Fin 4) f)
    + w (ix2 (⟨r.val + 6, by omega⟩ : Fin 520) f) * k (ix2 (1 : Fin 4) f) + w (ix2 (⟨r.val + 5, by omega⟩ : Fin 520) f) * k (ix2 (0 : Fin 4) f)

/-- The block stored. -/
def G (w : S520x3072.Idx → EReal) (k : S4x3072.Idx → EReal) (y : S1x512x3072.Idx) : EReal :=
  head (fun g => slu (conv w k (⟨(y 1).val, (y 1).isLt⟩ : Fin 512) g)) (⟨(y 2).val, (y 2).isLt⟩ : Fin 3072)

section Unit
variable (w : S520x3072.Idx → EReal) (k : S4x3072.Idx → EReal) (o : ℕ) (ho : o + 128 ≤ 3072)
variable {v3 v2 v1 v0 : Vec Ideal S512x128 .f32} {c3 c2 c1 c0 : Vec Ideal S1x128 .f32}

/-- A unit's loads: four shifts of the rows held, at the unit's features. -/
def Row (N : ℕ) (v : Vec Ideal S512x128 .f32) : Prop :=
  ∀ (r : Fin 512) (l : Fin 128) (hN : r.val + N < 520), v (ix2 r l) = w (ix2 (⟨r.val + N, hN⟩ : Fin 520) (⟨o + l.val, by omega⟩ : Fin 3072))
def Tap (s : Fin 4) (c : Vec Ideal S1x128 .f32) : Prop :=
  ∀ (l : Fin 128), c (ix2 (0 : Fin 1) l) = k (ix2 s (⟨o + l.val, by omega⟩ : Fin 3072))

variable (h3 : Row w o ho 8 v3) (h2 : Row w o ho 7 v2) (h1 : Row w o ho 6 v1) (h0 : Row w o ho 5 v0)
variable (k3 : Tap k o ho 3 c3) (k2 : Tap k o ho 2 c2) (k1 : Tap k o ho 1 c1) (k0 : Tap k o ho 0 c0)

include h3 h2 h1 h0 k3 k2 k1 k0 in
theorem SC_at (r : Fin 512) (l : Fin 128) : SL (CV v3 c3 v2 c2 v1 c1 v0 c0) (ix2 r l) = slu (conv w k r (⟨o + l.val, by omega⟩ : Fin 3072)) := by
  rw [SL_at, CV_at, h3 r l (by omega), h2 r l (by omega), h1 r l (by omega), h0 r l (by omega), k3, k2, k1, k0]
  rfl

include h3 h2 h1 h0 k3 k2 k1 k0 in
theorem NC_at (hd : o % 128 = 0) (r : Fin 512) (l : Fin 128) : NM (SL (CV v3 c3 v2 c2 v1 c1 v0 c0)) (ix2 r l)
    = slu (conv w k r (⟨o + l.val, by omega⟩ : Fin 3072)) * nrm (fun g => slu (conv w k r g)) (⟨o + l.val, by omega⟩ : Fin 3072) := by
  rw [NM_at, SC_at w k o ho h3 h2 h1 h0 k3 k2 k1 k0]
  refine congrArg (fun z => _ * Ideal.rsqrt (z + _)) (Finset.sum_congr rfl fun d _ => ?_)
  rw [SC_at w k o ho h3 h2 h1 h0 k3 k2 k1 k0]
  have e : (⟨o + d.val, by omega⟩ : Fin 3072) = ⟨(o + l.val) / 128 * 128 + d.val, by omega⟩ := Fin.ext (show o + d.val = (o + l.val) / 128 * 128 + d.val by omega)
  rw [e]

theorem G_at (inb : ∀ a, (![0, 0, o] : Fin 3 → ℕ) a + S1x512x128.size a ≤ S1x512x3072.size a) (r : Fin 512) (l : Fin 128) :
    G w k ((Rect.unit (s := S1x512x3072) ![0, 0, o] S1x512x128.size inb).emb (ix3 (0 : Fin 1) r l)) = head (fun g => slu (conv w k r g)) (⟨o + l.val, by omega⟩ : Fin 3072) := by
  have e1 : (((Rect.unit (s := S1x512x3072) ![0, 0, o] S1x512x128.size inb).emb (ix3 (0 : Fin 1) r l)) 1).val = r.val := by
    rw [Rect.emb_apply]; show 0 + 1 * r.val = r.val; omega
  have e2 : (((Rect.unit (s := S1x512x3072) ![0, 0, o] S1x512x128.size inb).emb (ix3 (0 : Fin 1) r l)) 2).val = o + l.val := by
    rw [Rect.emb_apply]; show o + 1 * l.val = _; omega
  unfold G
  simp only [e1, e2]

theorem idx3 (x : S1x512x128.Idx) : ∃ (r : Fin 512) (l : Fin 128), x = ix3 (0 : Fin 1) r l :=
  ⟨x 1, x 2, by funext d; fin_cases d; · exact Subsingleton.elim (α := Fin 1) _ _
                · rfl
                · rfl⟩

include h3 h2 h1 h0 k3 k2 k1 k0 in
theorem unitQ (hd : o % 128 = 0) (hl : o + 128 ≤ 1024) (inb : ∀ a, (![0, 0, o] : Fin 3 → ℕ) a + S1x512x128.size a ≤ S1x512x3072.size a) (x : S1x512x128.Idx) :
    OUTB (SCB (NM (SL (CV v3 c3 v2 c2 v1 c1 v0 c0)))) x = G w k ((Rect.unit (s := S1x512x3072) ![0, 0, o] S1x512x128.size inb).emb x) := by
  obtain ⟨r, l, rfl⟩ := idx3 x
  rw [G_at w k o ho, OUTB_at, SCB_at, NC_at w k o ho h3 h2 h1 h0 k3 k2 k1 k0 hd]
  unfold head
  rw [if_pos (show o + l.val < 1024 by omega)]

include h3 h2 h1 h0 k3 k2 k1 k0 in
theorem unitK (hd : o % 128 = 0) (hg : 1024 ≤ o) (hl : o + 128 ≤ 2048) (inb : ∀ a, (![0, 0, o] : Fin 3 → ℕ) a + S1x512x128.size a ≤ S1x512x3072.size a) (x : S1x512x128.Idx) :
    OUTB (NM (SL (CV v3 c3 v2 c2 v1 c1 v0 c0))) x = G w k ((Rect.unit (s := S1x512x3072) ![0, 0, o] S1x512x128.size inb).emb x) := by
  obtain ⟨r, l, rfl⟩ := idx3 x
  rw [G_at w k o ho, OUTB_at, NC_at w k o ho h3 h2 h1 h0 k3 k2 k1 k0 hd]
  unfold head
  rw [if_neg (show ¬ o + l.val < 1024 by omega), if_pos (show o + l.val < 2048 by omega)]

include h3 h2 h1 h0 k3 k2 k1 k0 in
theorem unitV (hg : 2048 ≤ o) (inb : ∀ a, (![0, 0, o] : Fin 3 → ℕ) a + S1x512x128.size a ≤ S1x512x3072.size a) (x : S1x512x128.Idx) :
    OUTB (SL (CV v3 c3 v2 c2 v1 c1 v0 c0)) x = G w k ((Rect.unit (s := S1x512x3072) ![0, 0, o] S1x512x128.size inb).emb x) := by
  obtain ⟨r, l, rfl⟩ := idx3 x
  rw [G_at w k o ho, OUTB_at, SC_at w k o ho h3 h2 h1 h0 k3 k2 k1 k0]
  unfold head
  rw [if_neg (show ¬ o + l.val < 1024 by omega), if_neg (show ¬ o + l.val < 2048 by omega)]

end Unit

/-! ## The loads -/

section Loads
variable (a7 : Memref sig .tc .vmem S4x3072 .f32) (h7 : a7.IsWhole) (a11 : Memref sig .tc .vmem S520x3072 .f32) (h11 : a11.IsWhole)

theorem tap (x5 : Vec Ideal S4x3072 .f32) (s : Fin 4) (n : ℕ) (hn : n = s.val) (o : ℕ) (ho : o + 128 ≤ 3072) (inb : ∀ a, (![n, o] : Fin 2 → ℕ) a + S1x128.size a ≤ S4x3072.size a) :
    Tap x5 o ho s (View.readAt (Elt Ideal) a7.view (Rect.unit (s := S4x3072) ![n, o] S1x128.size inb).toLoadRect (h7.unread x5)) := by
  intro l
  subst hn
  refine (congrFun (View.readAt_eq_ld _ _ _) _).trans ?_
  rw [h7.read_unread]
  refine View.ld_unit_apply_of _ _ _ _ _ _ fun a => ?_
  match a with
  | ⟨0, _⟩ => rfl
  | ⟨1, _⟩ => rfl

theorem row_ld (X : S520x3072.Idx → Elt Ideal .f32) (N : ℕ) (o : ℕ) (ho : o + 128 ≤ 3072) (inb : ∀ a, (![N, o] : Fin 2 → ℕ) a + S512x128.size a ≤ S520x3072.size a)
    (r : Fin 512) (l : Fin 128) (hr : r.val + N < 520) : View.ld X (Rect.unit (s := S520x3072) ![N, o] S512x128.size inb) (ix2 r l) = X (ix2 (⟨r.val + N, hr⟩ : Fin 520) (⟨o + l.val, by omega⟩ : Fin 3072)) := by
  refine View.ld_unit_apply_of _ _ _ _ _ _ fun a => ?_
  match a with
  | ⟨0, _⟩ => exact Nat.add_comm _ _
  | ⟨1, _⟩ => rfl

variable {p P : Vec Ideal S512x3072 .f32} (hp : p = P) (inb8 : ∀ a, (![8, 0] : Fin 2 → ℕ) a + S512x3072.size a ≤ S520x3072.size a)

theorem emb8 (y : S520x3072.Idx) (h : 8 ≤ (y 0).val) : y = (Rect.unit (s := S520x3072) ![8, 0] S512x3072.size inb8).emb
    (ix2 (⟨(y 0).val - 8, by have : (y 0).val < 520 := (y 0).isLt; omega⟩ : Fin 512) (⟨(y 1).val, (y 1).isLt⟩ : Fin 3072)) := by
  funext d
  refine Fin.ext ?_
  rw [Rect.emb_apply]
  match d with
  | ⟨0, _⟩ => show (y 0).val = 8 + 1 * ((y 0).val - 8); omega
  | ⟨1, _⟩ => show (y 1).val = 0 + 1 * (y 1).val; omega

theorem not_mem8 (y : S520x3072.Idx) (h : ¬ 8 ≤ (y 0).val) : y ∉ (Rect.unit (s := S520x3072) ![8, 0] S512x3072.size inb8).set := fun hm => by
  have := (Rect.mem_set_unit.mp hm 0).1
  exact h this

theorem canon8 (base : S520x3072.Idx → EReal) (L : List (View.Piece (Elt Ideal) S520x3072 .f32)) (y : S520x3072.Idx) (h : 8 ≤ (y 0).val) :
    View.canon (⟨Rect.unit (s := S520x3072) ![8, 0] S512x3072.size inb8, p⟩ :: L) y = W base p y := by
  unfold W
  rw [dif_pos h]
  conv_lhs => rw [emb8 inb8 y h]
  exact View.canon_cons_emb _ _ _ _

theorem canonA (inb0 : ∀ a, (![0, 0] : Fin 2 → ℕ) a + S8x3072.size a ≤ S520x3072.size a) (y : S520x3072.Idx) :
    View.canon [⟨Rect.unit (s := S520x3072) ![8, 0] S512x3072.size inb8, p⟩, ⟨Rect.unit (s := S520x3072) ![0, 0] S8x3072.size inb0, (k0_pay3 : FVec Ideal S8x3072 .f32)⟩] y = W (fun _ => 0) p y := by
  by_cases h : 8 ≤ (y 0).val
  · exact canon8 (p := p) inb8 (fun _ => 0) [_] y h
  · unfold W
    rw [dif_neg h]
    refine (View.canon_cons_of_not_mem (⟨Rect.unit (s := S520x3072) ![8, 0] S512x3072.size inb8, p⟩ : View.Piece (Elt Ideal) S520x3072 .f32) _ (not_mem8 inb8 y h)).trans ?_
    have e : y = (Rect.unit (s := S520x3072) ![0, 0] S8x3072.size inb0).emb (ix2 (⟨(y 0).val, by omega⟩ : Fin 8) (⟨(y 1).val, (y 1).isLt⟩ : Fin 3072)) := by
      funext d
      refine Fin.ext ?_
      rw [Rect.emb_apply]
      match d with
      | ⟨0, _⟩ => show (y 0).val = 0 + 1 * (y 0).val; omega
      | ⟨1, _⟩ => show (y 1).val = 0 + 1 * (y 1).val; omega
    rw [e]
    refine (View.canon_cons_emb _ _ _ _).trans ?_
    pointwise [k0_pay3]

theorem rowA (inb0 : ∀ a, (![0, 0] : Fin 2 → ℕ) a + S8x3072.size a ≤ S520x3072.size a) (N : ℕ) (o : ℕ) (ho : o + 128 ≤ 3072)
    (inb : ∀ a, (![N, o] : Fin 2 → ℕ) a + S512x128.size a ≤ S520x3072.size a) :
    Row (W (fun _ => 0) p) o ho N (a11.view.readCov [⟨Rect.unit (s := S520x3072) ![8, 0] S512x3072.size inb8, p⟩, ⟨Rect.unit (s := S520x3072) ![0, 0] S8x3072.size inb0, (k0_pay3 : FVec Ideal S8x3072 .f32)⟩]
      (Rect.unit (s := S520x3072) ![N, o] S512x128.size inb).toLoadRect) := by
  intro r l hr
  rw [View.readCov_eq_canon']
  refine (row_ld _ N o ho inb r l hr).trans ?_
  exact canonA inb8 inb0 _

theorem rowB8 (xs : Vec Ideal S520x3072 .f32) (o : ℕ) (ho : o + 128 ≤ 3072)
    (inb : ∀ a, (![8, o] : Fin 2 → ℕ) a + S512x128.size a ≤ S520x3072.size a) :
    Row (W xs p) o ho 8 (a11.view.readCov [⟨Rect.unit (s := S520x3072) ![8, 0] S512x3072.size inb8, p⟩] (Rect.unit (s := S520x3072) ![8, o] S512x128.size inb).toLoadRect) := by
  intro r l hr
  rw [View.readCov_eq_canon']
  refine (row_ld _ 8 o ho inb r l hr).trans ?_
  exact canon8 inb8 _ _ _ (show 8 ≤ r.val + 8 by omega)

theorem readB (xs : Vec Ideal S520x3072 .f32) (y : S520x3072.Idx) :
    a11.view.read (Elt Ideal) (a11.view.writes (Elt Ideal) (h11.unread xs) [⟨Rect.unit (s := S520x3072) ![8, 0] S512x3072.size inb8, p⟩]) y = W xs p y := by
  unfold W
  by_cases h : 8 ≤ (y 0).val
  · rw [dif_pos h]
    conv_lhs => rw [emb8 inb8 y h]
    exact View.read_writes_cons_emb _ _ _ _ _ _
  · rw [dif_neg h, View.writes_cons, View.read_slice_write_of_not_mem]
    · show a11.view.read (Elt Ideal) (h11.unread xs) y = _
      rw [h11.read_unread]
    · rw [Rect.map_emb_univ]
      exact not_mem8 inb8 y h

theorem rowB (xs : Vec Ideal S520x3072 .f32) (N : ℕ) (o : ℕ) (ho : o + 128 ≤ 3072)
    (inb : ∀ a, (![N, o] : Fin 2 → ℕ) a + S512x128.size a ≤ S520x3072.size a) :
    Row (W xs p) o ho N (View.readAt (Elt Ideal) a11.view (Rect.unit (s := S520x3072) ![N, o] S512x128.size inb).toLoadRect
      (a11.view.writes (Elt Ideal) (h11.unread xs) [⟨Rect.unit (s := S520x3072) ![8, 0] S512x3072.size inb8, p⟩])) := by
  intro r l hr
  refine (congrFun (View.readAt_eq_ld _ _ _) _).trans ?_
  refine (row_ld _ N o ho inb r l hr).trans ?_
  exact readB a11 h11 inb8 xs _

end Loads

end Cert.Gdn.KI
end
-- ==== Proof.GdnBody.lean ====
module

public import proofs.«01_k».proof.Proof.GdnUnit

@[expose] public section

set_option maxRecDepth 100000

noncomputable section

namespace Cert.Gdn.KI
open Cert.Kernel3Ideal Cert.Kernel3Ideal.Gen
open Idealize.ShloMosaic Idealize.ShloMosaic.TcCoe Idealize.SL.Sem

/-! ## The parts of the inputs that the body loads, and what it computes of them -/

def SCA (x1 : Vec Ideal S1x1x6144 .f32) : Vec Ideal S1x1x1024 .f32 := View.ld x1 (Rect.unit (s := S1x1x6144) ![0, 0, 1024] S1x1x1024.size inb_S1x1x6144_S1x1x1024_0_0_1024)
def SHI (x1 : Vec Ideal S1x1x6144 .f32) : Vec Ideal S1x1x1024 .f32 := View.ld x1 (Rect.unit (s := S1x1x6144) ![0, 0, 0] S1x1x1024.size inb_S1x1x6144_S1x1x1024_0_0_0)
def WQK (x3 : Vec Ideal S1024x4096 .bf16) : Vec Ideal S1024x3072 .bf16 := View.ld x3 (Rect.unit (s := S1024x4096) ![0, 0] S1024x3072.size inb_S1024x4096_S1024x3072_0_0)
def WGT (x3 : Vec Ideal S1024x4096 .bf16) : Vec Ideal S1024x1024 .bf16 := View.ld x3 (Rect.unit (s := S1024x4096) ![0, 3072] S1024x1024.size inb_S1024x4096_S1024x1024_0_3072)
/-- The modulated rows. -/
def HH (x0 : Vec Ideal S1x512x1024 .f32) (x1 : Vec Ideal S1x1x6144 .f32) (x2 : Vec Ideal S1x1024 .f32) : FVec Ideal S512x1024 .bf16 := k0_pay4 x0 x2 (SCA x1) (SHI x1)
/-- Their projection. -/
def PP (x0 : Vec Ideal S1x512x1024 .f32) (x1 : Vec Ideal S1x1x6144 .f32) (x2 : Vec Ideal S1x1024 .f32) (x3 : Vec Ideal S1024x4096 .bf16) : FVec Ideal S512x3072 .f32 := k0_pay7 (HH x0 x1 x2) (WQK x3)

section Reads
variable {s : Shape} {e : EltTy} (a : Memref sig .tc .vmem s e) (h : a.IsWhole) (x : Vec Ideal s e)

theorem rdWhole {off : Fin s.rank → ℕ} (ho : off = fun _ => 0) (inb : ∀ k, off k + s.size k ≤ s.size k) :
    View.readAt (Elt Ideal) a.view (Rect.unit off s.size inb).toLoadRect (h.unread x) = x := by
  refine (View.readAt_eq_ld _ _ _).trans ?_
  rw [h.read_unread]
  exact View.ld_unit_zero ho inb x
theorem rdPart {off size : Fin s.rank → ℕ} (inb : ∀ k, off k + size k ≤ s.size k) :
    View.readAt (Elt Ideal) a.view (Rect.unit off size inb).toLoadRect (h.unread x) = View.ld x (Rect.unit off size inb) := by
  refine (View.readAt_eq_ld _ _ _).trans ?_
  rw [h.read_unread]
end Reads

theorem z2 : (![0, 0] : Fin 2 → ℕ) = fun _ => 0 := by funext a; fin_cases a <;> rfl
theorem z3 : (![0, 0, 0] : Fin 3 → ℕ) = fun _ => 0 := by funext a; fin_cases a <;> rfl

theorem pay4_congr {a a' : Vec Ideal S1x512x1024 .f32} {b b' : Vec Ideal S1x1024 .f32} {c c' d d' : Vec Ideal S1x1x1024 .f32} (ha : a = a') (hb : b = b') (hc : c = c') (hd : d = d') :
    k0_pay4 a b c d = k0_pay4 a' b' c' d' := by subst ha hb hc hd; rfl
theorem pay7_congr {a a' : FVec Ideal S512x1024 .bf16} {b b' : Vec Ideal S1024x3072 .bf16} (ha : a = a') (hb : b = b') : k0_pay7 a b = k0_pay7 a' b' := by subst ha hb; rfl

theorem pay5_congr {a a' : Vec Ideal S1x512x1024 .f32} {b b' : Vec Ideal S1x1024 .f32} {c c' d d' : Vec Ideal S1x1x1024 .f32} {e e' : Vec Ideal S1024x16 .bf16} (ha : a = a') (hb : b = b') (hc : c = c') (hd : d = d')
    (he : e = e') : k0_pay5 a b c d e = k0_pay5 a' b' c' d' e' := by subst ha hb hc hd he; rfl

section Loaded
variable (a2 : Memref sig .tc .vmem S1x512x1024 .f32) (h2 : a2.IsWhole) (a3 : Memref sig .tc .vmem S1x1x6144 .f32) (h3 : a3.IsWhole)
    (a4 : Memref sig .tc .vmem S1x1024 .f32) (h4 : a4.IsWhole) (a5 : Memref sig .tc .vmem S1024x4096 .bf16) (h5 : a5.IsWhole)
    (x0 : Vec Ideal S1x512x1024 .f32) (x1 : Vec Ideal S1x1x6144 .f32) (x2 : Vec Ideal S1x1024 .f32) (x3 : Vec Ideal S1024x4096 .bf16)
/-- The modulated rows, as the body loads their inputs. -/
abbrev HL : FVec Ideal S512x1024 .bf16 := k0_pay4 (View.readAt (Elt Ideal) a2.view (Rect.unit (s := S1x512x1024) ![0, 0, 0] S1x512x1024.size inb_S1x512x1024_S1x512x1024_0_0_0).toLoadRect (h2.unread x0))
  (View.readAt (Elt Ideal) a4.view (Rect.unit (s := S1x1024) ![0, 0] S1x1024.size inb_S1x1024_S1x1024_0_0).toLoadRect (h4.unread x2))
  (View.readAt (Elt Ideal) a3.view (Rect.unit (s := S1x1x6144) ![0, 0, 1024] S1x1x1024.size inb_S1x1x6144_S1x1x1024_0_0_1024).toLoadRect (h3.unread x1))
  (View.readAt (Elt Ideal) a3.view (Rect.unit (s := S1x1x6144) ![0, 0, 0] S1x1x1024.size inb_S1x1x6144_S1x1x1024_0_0_0).toLoadRect (h3.unread x1))
abbrev PL : FVec Ideal S512x3072 .f32 := k0_pay7 (HL a2 h2 a3 h3 a4 h4 x0 x1 x2) (View.readAt (Elt Ideal) a5.view (Rect.unit (s := S1024x4096) ![0, 0] S1024x3072.size inb_S1024x4096_S1024x3072_0_0).toLoadRect (h5.unread x3))
theorem HL_eq : HL a2 h2 a3 h3 a4 h4 x0 x1 x2 = HH x0 x1 x2 :=
  pay4_congr (rdWhole a2 h2 x0 z3 _) (rdWhole a4 h4 x2 z2 _) (rdPart a3 h3 x1 _) (rdPart a3 h3 x1 _)
theorem PL_eq : PL a2 h2 a3 h3 a4 h4 a5 h5 x0 x1 x2 x3 = PP x0 x1 x2 x3 :=
  pay7_congr (HL_eq a2 h2 a3 h3 a4 h4 x0 x1 x2) (rdPart a5 h5 x3 _)
end Loaded

/-! ## A stored unit, by the loads of each case -/

section Pieces
variable (a7 : Memref sig .tc .vmem S4x3072 .f32) (h7 : a7.IsWhole) (a11 : Memref sig .tc .vmem S520x3072 .f32) (h11 : a11.IsWhole) (x5 : Vec Ideal S4x3072 .f32) (xs : Vec Ideal S520x3072 .f32)
variable {p : Vec Ideal S512x3072 .f32} {inb8 : ∀ a, (![8, 0] : Fin 2 → ℕ) a + S512x3072.size a ≤ S520x3072.size a} {inb0 : ∀ a, (![0, 0] : Fin 2 → ℕ) a + S8x3072.size a ≤ S520x3072.size a}
variable (o : ℕ)
variable {i3 : ∀ a, (![8, o] : Fin 2 → ℕ) a + S512x128.size a ≤ S520x3072.size a} {i2 : ∀ a, (![7, o] : Fin 2 → ℕ) a + S512x128.size a ≤ S520x3072.size a}
  {i1 : ∀ a, (![6, o] : Fin 2 → ℕ) a + S512x128.size a ≤ S520x3072.size a} {i0 : ∀ a, (![5, o] : Fin 2 → ℕ) a + S512x128.size a ≤ S520x3072.size a}
  {j3 : ∀ a, (![3, o] : Fin 2 → ℕ) a + S1x128.size a ≤ S4x3072.size a} {j2 : ∀ a, (![2, o] : Fin 2 → ℕ) a + S1x128.size a ≤ S4x3072.size a}
  {j1 : ∀ a, (![1, o] : Fin 2 → ℕ) a + S1x128.size a ≤ S4x3072.size a} {j0 : ∀ a, (![0, o] : Fin 2 → ℕ) a + S1x128.size a ≤ S4x3072.size a}
  {inb : ∀ a, (![0, 0, o] : Fin 3 → ℕ) a + S1x512x128.size a ≤ S1x512x3072.size a}

/-- A sequence's first block: the rows before the projection are the zeros stored. -/
abbrev CA (o : ℕ) (p : Vec Ideal S512x3072 .f32) (inb8 : ∀ a, (![8, 0] : Fin 2 → ℕ) a + S512x3072.size a ≤ S520x3072.size a) (inb0 : ∀ a, (![0, 0] : Fin 2 → ℕ) a + S8x3072.size a ≤ S520x3072.size a)
    (i3 : ∀ a, (![8, o] : Fin 2 → ℕ) a + S512x128.size a ≤ S520x3072.size a) (i2 : ∀ a, (![7, o] : Fin 2 → ℕ) a + S512x128.size a ≤ S520x3072.size a)
    (i1 : ∀ a, (![6, o] : Fin 2 → ℕ) a + S512x128.size a ≤ S520x3072.size a) (i0 : ∀ a, (![5, o] : Fin 2 → ℕ) a + S512x128.size a ≤ S520x3072.size a)
    (j3 : ∀ a, (![3, o] : Fin 2 → ℕ) a + S1x128.size a ≤ S4x3072.size a) (j2 : ∀ a, (![2, o] : Fin 2 → ℕ) a + S1x128.size a ≤ S4x3072.size a)
    (j1 : ∀ a, (![1, o] : Fin 2 → ℕ) a + S1x128.size a ≤ S4x3072.size a) (j0 : ∀ a, (![0, o] : Fin 2 → ℕ) a + S1x128.size a ≤ S4x3072.size a) : FVec Ideal S512x128 .f32 :=
  CV (a11.view.readCov [⟨Rect.unit (s := S520x3072) ![8, 0] S512x3072.size inb8, p⟩, ⟨Rect.unit (s := S520x3072) ![0, 0] S8x3072.size inb0, (k0_pay3 : FVec Ideal S8x3072 .f32)⟩] (Rect.unit (s := S520x3072) ![8, o] S512x128.size i3).toLoadRect)
    (View.readAt (Elt Ideal) a7.view (Rect.unit (s := S4x3072) ![3, o] S1x128.size j3).toLoadRect (h7.unread x5))
    (a11.view.readCov [⟨Rect.unit (s := S520x3072) ![8, 0] S512x3072.size inb8, p⟩, ⟨Rect.unit (s := S520x3072) ![0, 0] S8x3072.size inb0, (k0_pay3 : FVec Ideal S8x3072 .f32)⟩] (Rect.unit (s := S520x3072) ![7, o] S512x128.size i2).toLoadRect)
    (View.readAt (Elt Ideal) a7.view (Rect.unit (s := S4x3072) ![2, o] S1x128.size j2).toLoadRect (h7.unread x5))
    (a11.view.readCov [⟨Rect.unit (s := S520x3072) ![8, 0] S512x3072.size inb8, p⟩, ⟨Rect.unit (s := S520x3072) ![0, 0] S8x3072.size inb0, (k0_pay3 : FVec Ideal S8x3072 .f32)⟩] (Rect.unit (s := S520x3072) ![6, o] S512x128.size i1).toLoadRect)
    (View.readAt (Elt Ideal) a7.view (Rect.unit (s := S4x3072) ![1, o] S1x128.size j1).toLoadRect (h7.unread x5))
    (a11.view.readCov [⟨Rect.unit (s := S520x3072) ![8, 0] S512x3072.size inb8, p⟩, ⟨Rect.unit (s := S520x3072) ![0, 0] S8x3072.size inb0, (k0_pay3 : FVec Ideal S8x3072 .f32)⟩] (Rect.unit (s := S520x3072) ![5, o] S512x128.size i0).toLoadRect)
    (View.readAt (Elt Ideal) a7.view (Rect.unit (s := S4x3072) ![0, o] S1x128.size j0).toLoadRect (h7.unread x5))

/-- A later block: the rows before the projection are those that the block before left. -/
abbrev CB (o : ℕ) (p : Vec Ideal S512x3072 .f32) (inb8 : ∀ a, (![8, 0] : Fin 2 → ℕ) a + S512x3072.size a ≤ S520x3072.size a)
    (i3 : ∀ a, (![8, o] : Fin 2 → ℕ) a + S512x128.size a ≤ S520x3072.size a) (i2 : ∀ a, (![7, o] : Fin 2 → ℕ) a + S512x128.size a ≤ S520x3072.size a)
    (i1 : ∀ a, (![6, o] : Fin 2 → ℕ) a + S512x128.size a ≤ S520x3072.size a) (i0 : ∀ a, (![5, o] : Fin 2 → ℕ) a + S512x128.size a ≤ S520x3072.size a)
    (j3 : ∀ a, (![3, o] : Fin 2 → ℕ) a + S1x128.size a ≤ S4x3072.size a) (j2 : ∀ a, (![2, o] : Fin 2 → ℕ) a + S1x128.size a ≤ S4x3072.size a)
    (j1 : ∀ a, (![1, o] : Fin 2 → ℕ) a + S1x128.size a ≤ S4x3072.size a) (j0 : ∀ a, (![0, o] : Fin 2 → ℕ) a + S1x128.size a ≤ S4x3072.size a) : FVec Ideal S512x128 .f32 :=
  CV (a11.view.readCov [⟨Rect.unit (s := S520x3072) ![8, 0] S512x3072.size inb8, p⟩] (Rect.unit (s := S520x3072) ![8, o] S512x128.size i3).toLoadRect)
    (View.readAt (Elt Ideal) a7.view (Rect.unit (s := S4x3072) ![3, o] S1x128.size j3).toLoadRect (h7.unread x5))
    (View.readAt (Elt Ideal) a11.view (Rect.unit (s := S520x3072) ![7, o] S512x128.size i2).toLoadRect (a11.view.writes (Elt Ideal) (h11.unread xs) [⟨Rect.unit (s := S520x3072) ![8, 0] S512x3072.size inb8, p⟩]))
    (View.readAt (Elt Ideal) a7.view (Rect.unit (s := S4x3072) ![2, o] S1x128.size j2).toLoadRect (h7.unread x5))
    (View.readAt (Elt Ideal) a11.view (Rect.unit (s := S520x3072) ![6, o] S512x128.size i1).toLoadRect (a11.view.writes (Elt Ideal) (h11.unread xs) [⟨Rect.unit (s := S520x3072) ![8, 0] S512x3072.size inb8, p⟩]))
    (View.readAt (Elt Ideal) a7.view (Rect.unit (s := S4x3072) ![1, o] S1x128.size j1).toLoadRect (h7.unread x5))
    (View.readAt (Elt Ideal) a11.view (Rect.unit (s := S520x3072) ![5, o] S512x128.size i0).toLoadRect (a11.view.writes (Elt Ideal) (h11.unread xs) [⟨Rect.unit (s := S520x3072) ![8, 0] S512x3072.size inb8, p⟩]))
    (View.readAt (Elt Ideal) a7.view (Rect.unit (s := S4x3072) ![0, o] S1x128.size j0).toLoadRect (h7.unread x5))

theorem qA (hl : o + 128 ≤ 1024 := by decide) (hd : o % 128 = 0 := by decide) (x : S1x512x128.Idx) :
    OUTB (SCB (NM (SL (CA a7 h7 a11 x5 o p inb8 inb0 i3 i2 i1 i0 j3 j2 j1 j0)))) x = G (W (fun _ => 0) p) x5 ((Rect.unit (s := S1x512x3072) ![0, 0, o] S1x512x128.size inb).emb x) := by
  have ho : o + 128 ≤ 3072 := by omega
  exact unitQ (W (fun _ => 0) p) x5 o ho (rowA a11 inb8 inb0 8 o ho i3) (rowA a11 inb8 inb0 7 o ho i2) (rowA a11 inb8 inb0 6 o ho i1) (rowA a11 inb8 inb0 5 o ho i0)
    (tap a7 h7 x5 3 3 rfl o ho j3) (tap a7 h7 x5 2 2 rfl o ho j2) (tap a7 h7 x5 1 1 rfl o ho j1) (tap a7 h7 x5 0 0 rfl o ho j0) hd hl inb x

theorem kA (hg : 1024 ≤ o := by decide) (hl : o + 128 ≤ 2048 := by decide) (hd : o % 128 = 0 := by decide) (x : S1x512x128.Idx) :
    OUTB (NM (SL (CA a7 h7 a11 x5 o p inb8 inb0 i3 i2 i1 i0 j3 j2 j1 j0))) x = G (W (fun _ => 0) p) x5 ((Rect.unit (s := S1x512x3072) ![0, 0, o] S1x512x128.size inb).emb x) := by
  have ho : o + 128 ≤ 3072 := by omega
  exact unitK (W (fun _ => 0) p) x5 o ho (rowA a11 inb8 inb0 8 o ho i3) (rowA a11 inb8 inb0 7 o ho i2) (rowA a11 inb8 inb0 6 o ho i1) (rowA a11 inb8 inb0 5 o ho i0)
    (tap a7 h7 x5 3 3 rfl o ho j3) (tap a7 h7 x5 2 2 rfl o ho j2) (tap a7 h7 x5 1 1 rfl o ho j1) (tap a7 h7 x5 0 0 rfl o ho j0) hd hg hl inb x

theorem vA (hg : 2048 ≤ o := by decide) (ho : o + 128 ≤ 3072 := by decide) (x : S1x512x128.Idx) :
    OUTB (SL (CA a7 h7 a11 x5 o p inb8 inb0 i3 i2 i1 i0 j3 j2 j1 j0)) x = G (W (fun _ => 0) p) x5 ((Rect.unit (s := S1x512x3072) ![0, 0, o] S1x512x128.size inb).emb x) := by
  exact unitV (W (fun _ => 0) p) x5 o ho (rowA a11 inb8 inb0 8 o ho i3) (rowA a11 inb8 inb0 7 o ho i2) (rowA a11 inb8 inb0 6 o ho i1) (rowA a11 inb8 inb0 5 o ho i0)
    (tap a7 h7 x5 3 3 rfl o ho j3) (tap a7 h7 x5 2 2 rfl o ho j2) (tap a7 h7 x5 1 1 rfl o ho j1) (tap a7 h7 x5 0 0 rfl o ho j0) hg inb x

theorem qB (hl : o + 128 ≤ 1024 := by decide) (hd : o % 128 = 0 := by decide) (x : S1x512x128.Idx) :
    OUTB (SCB (NM (SL (CB a7 h7 a11 h11 x5 xs o p inb8 i3 i2 i1 i0 j3 j2 j1 j0)))) x = G (W xs p) x5 ((Rect.unit (s := S1x512x3072) ![0, 0, o] S1x512x128.size inb).emb x) := by
  have ho : o + 128 ≤ 3072 := by omega
  exact unitQ (W xs p) x5 o ho (rowB8 a11 inb8 xs o ho i3) (rowB a11 h11 inb8 xs 7 o ho i2) (rowB a11 h11 inb8 xs 6 o ho i1) (rowB a11 h11 inb8 xs 5 o ho i0)
    (tap a7 h7 x5 3 3 rfl o ho j3) (tap a7 h7 x5 2 2 rfl o ho j2) (tap a7 h7 x5 1 1 rfl o ho j1) (tap a7 h7 x5 0 0 rfl o ho j0) hd hl inb x

theorem kB (hg : 1024 ≤ o := by decide) (hl : o + 128 ≤ 2048 := by decide) (hd : o % 128 = 0 := by decide) (x : S1x512x128.Idx) :
    OUTB (NM (SL (CB a7 h7 a11 h11 x5 xs o p inb8 i3 i2 i1 i0 j3 j2 j1 j0))) x = G (W xs p) x5 ((Rect.unit (s := S1x512x3072) ![0, 0, o] S1x512x128.size inb).emb x) := by
  have ho : o + 128 ≤ 3072 := by omega
  exact unitK (W xs p) x5 o ho (rowB8 a11 inb8 xs o ho i3) (rowB a11 h11 inb8 xs 7 o ho i2) (rowB a11 h11 inb8 xs 6 o ho i1) (rowB a11 h11 inb8 xs 5 o ho i0)
    (tap a7 h7 x5 3 3 rfl o ho j3) (tap a7 h7 x5 2 2 rfl o ho j2) (tap a7 h7 x5 1 1 rfl o ho j1) (tap a7 h7 x5 0 0 rfl o ho j0) hd hg hl inb x

theorem vB (hg : 2048 ≤ o := by decide) (ho : o + 128 ≤ 3072 := by decide) (x : S1x512x128.Idx) :
    OUTB (SL (CB a7 h7 a11 h11 x5 xs o p inb8 i3 i2 i1 i0 j3 j2 j1 j0)) x = G (W xs p) x5 ((Rect.unit (s := S1x512x3072) ![0, 0, o] S1x512x128.size inb).emb x) := by
  exact unitV (W xs p) x5 o ho (rowB8 a11 inb8 xs o ho i3) (rowB a11 h11 inb8 xs 7 o ho i2) (rowB a11 h11 inb8 xs 6 o ho i1) (rowB a11 h11 inb8 xs 5 o ho i0)
    (tap a7 h7 x5 3 3 rfl o ho j3) (tap a7 h7 x5 2 2 rfl o ho j2) (tap a7 h7 x5 1 1 rfl o ho j1) (tap a7 h7 x5 0 0 rfl o ho j0) hg inb x

end Pieces

theorem pcons {G : S1x512x3072.Idx → Elt Ideal .bf16} {o : ℕ} {inb : ∀ a, (![0, 0, o] : Fin 3 → ℕ) a + S1x512x128.size a ≤ S1x512x3072.size a} {pay : S1x512x128.Idx → Elt Ideal .bf16}
    {L : List (View.Piece (Elt Ideal) S1x512x3072 .bf16)} (h : ∀ x, pay x = G ((Rect.unit (s := S1x512x3072) ![0, 0, o] S1x512x128.size inb).emb x)) (hL : View.PiecesOf G L) :
    View.PiecesOf G (⟨Rect.unit (s := S1x512x3072) ![0, 0, o] S1x512x128.size inb, pay⟩ :: L) := ⟨h, hL⟩

/-- The last eight rows of the scratch, as the body reads them back. -/
theorem tail_ld (a11 : Memref sig .tc .vmem S520x3072 .f32) (p : Vec Ideal S512x3072 .f32) (inb8 : ∀ a, (![8, 0] : Fin 2 → ℕ) a + S512x3072.size a ≤ S520x3072.size a)
    (L : List (View.Piece (Elt Ideal) S520x3072 .f32)) (inb : ∀ a, (![512, 0] : Fin 2 → ℕ) a + S8x3072.size a ≤ S520x3072.size a) (a : Fin 8) (f : Fin 3072) :
    a11.view.readCov (⟨Rect.unit (s := S520x3072) ![8, 0] S512x3072.size inb8, p⟩ :: L) (Rect.unit (s := S520x3072) ![512, 0] S8x3072.size inb).toLoadRect (ix2 a f)
      = p (ix2 (⟨504 + a.val, by omega⟩ : Fin 512) f) := by
  rw [View.readCov_eq_canon']
  refine (View.ld_unit_apply_of _ _ _ _ _ (ix2 (⟨512 + a.val, by omega⟩ : Fin 520) f) fun d => ?_).trans ?_
  · match d with
    | ⟨0, _⟩ => rfl
    | ⟨1, _⟩ => exact (Nat.zero_add _).symm
  · refine (canon8 inb8 (fun _ => 0) L _ (show 8 ≤ 512 + a.val by omega)).trans ?_
    unfold W
    refine (dif_pos (show 8 ≤ 512 + a.val by omega)).trans ?_
    exact congrArg p (funext fun d => match d with | ⟨0, _⟩ => Fin.ext (show 512 + a.val - 8 = 504 + a.val by omega) | ⟨1, _⟩ => rfl)

theorem head_st (v : Vec Ideal S8x3072 .f32) (inb : ∀ a, (![0, 0] : Fin 2 → ℕ) a + S8x3072.size a ≤ S520x3072.size a) (L : List (View.Piece (Elt Ideal) S520x3072 .f32))
    (a : Fin 8) (f : Fin 3072) : View.canon (⟨Rect.unit (s := S520x3072) ![0, 0] S8x3072.size inb, k0_pay2 v⟩ :: L) (ix2 (⟨a.val, by omega⟩ : Fin 520) f) = v (ix2 a f) := by
  have e : (ix2 (⟨a.val, by omega⟩ : Fin 520) f : S520x3072.Idx) = (Rect.unit (s := S520x3072) ![0, 0] S8x3072.size inb).emb (ix2 a f) := by
    funext d
    refine Fin.ext ?_
    rw [Rect.emb_apply]
    match d with
    | ⟨0, _⟩ => exact (show a.val = 0 + 1 * a.val by omega)
    | ⟨1, _⟩ => exact (show f.val = 0 + 1 * f.val by omega)
  rw [e]
  refine (View.canon_cons_emb _ _ _ _).trans ?_
  exact congrFun (shapeCast_self v _) _

theorem outA6 (c : Dev nD) (i : grid0.Coords) (a2 : Memref sig .tc .vmem S1x512x1024 .f32) (h2 : a2.IsWhole) (a3 : Memref sig .tc .vmem S1x1x6144 .f32) (h3 : a3.IsWhole)
    (a4 : Memref sig .tc .vmem S1x1024 .f32) (h4 : a4.IsWhole) (a5 : Memref sig .tc .vmem S1024x4096 .bf16) (h5 : a5.IsWhole) (a6 : Memref sig .tc .vmem S1024x16 .bf16) (h6 : a6.IsWhole)
    (a7 : Memref sig .tc .vmem S4x3072 .f32) (h7 : a7.IsWhole) (a8 : Memref sig .tc .vmem S1x512x3072 .bf16) (h8 : a8.IsWhole) (a9 : Memref sig .tc .vmem S1x512x1024 .bf16) (h9 : a9.IsWhole)
    (a10 : Memref sig .tc .vmem S1x512x16 .f32) (h10 : a10.IsWhole) (a11 : Memref sig .tc .vmem S520x3072 .f32) (h11 : a11.IsWhole) (hc : cond0_0 i)
    (x0 : Vec Ideal S1x512x1024 .f32) (x1 : Vec Ideal S1x1x6144 .f32) (x2 : Vec Ideal S1x1024 .f32) (x3 : Vec Ideal S1024x4096 .bf16) (x4 : Vec Ideal S1024x16 .bf16) (x5 : Vec Ideal S4x3072 .f32) (xs : Vec Ideal S520x3072 .f32) :
    out0_A_6 c i a2 h2 a3 h3 a4 h4 a5 h5 a6 h6 a7 h7 a8 h8 a9 h9 a10 h10 a11 h11 hc x0 x1 x2 x3 x4 x5 = G (W (fun _ => 0) (PP x0 x1 x2 x3)) x5 := by
  rw [← PL_eq a2 h2 a3 h3 a4 h4 a5 h5 x0 x1 x2 x3]
  unfold out0_A_6
  rw [View.read_writes_eq_canon _ _ _ (cover0_A_6 c i a2 h2 a3 h3 a4 h4 a5 h5 a6 h6 a7 h7 a8 h8 a9 h9 a10 h10 a11 h11 hc x0 x1 x2 x3 x4 x5)]
  funext y
  refine View.canon_apply_of_pieces _ _ (View.PiecesOf.mem ?_) y (cover0_A_6 c i a2 h2 a3 h3 a4 h4 a5 h5 a6 h6 a7 h7 a8 h8 a9 h9 a10 h10 a11 h11 hc x0 x1 x2 x3 x4 x5 y)
  unfold kernelRun0_A
  dsimp only
  sl_unfold_words
  refine pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| trivial
  · exact vA a7 h7 a11 x5 2944 (by decide) (by decide)
  · exact vA a7 h7 a11 x5 2816 (by decide) (by decide)
  · exact vA a7 h7 a11 x5 2688 (by decide) (by decide)
  · exact vA a7 h7 a11 x5 2560 (by decide) (by decide)
  · exact vA a7 h7 a11 x5 2432 (by decide) (by decide)
  · exact vA a7 h7 a11 x5 2304 (by decide) (by decide)
  · exact vA a7 h7 a11 x5 2176 (by decide) (by decide)
  · exact vA a7 h7 a11 x5 2048 (by decide) (by decide)
  · exact kA a7 h7 a11 x5 1920
  · exact kA a7 h7 a11 x5 1792
  · exact kA a7 h7 a11 x5 1664
  · exact kA a7 h7 a11 x5 1536
  · exact kA a7 h7 a11 x5 1408
  · exact kA a7 h7 a11 x5 1280
  · exact kA a7 h7 a11 x5 1152
  · exact kA a7 h7 a11 x5 1024
  · exact qA a7 h7 a11 x5 896
  · exact qA a7 h7 a11 x5 768
  · exact qA a7 h7 a11 x5 640
  · exact qA a7 h7 a11 x5 512
  · exact qA a7 h7 a11 x5 384
  · exact qA a7 h7 a11 x5 256
  · exact qA a7 h7 a11 x5 128
  · exact qA a7 h7 a11 x5 0

theorem outA7 (c : Dev nD) (i : grid0.Coords) (a2 : Memref sig .tc .vmem S1x512x1024 .f32) (h2 : a2.IsWhole) (a3 : Memref sig .tc .vmem S1x1x6144 .f32) (h3 : a3.IsWhole)
    (a4 : Memref sig .tc .vmem S1x1024 .f32) (h4 : a4.IsWhole) (a5 : Memref sig .tc .vmem S1024x4096 .bf16) (h5 : a5.IsWhole) (a6 : Memref sig .tc .vmem S1024x16 .bf16) (h6 : a6.IsWhole)
    (a7 : Memref sig .tc .vmem S4x3072 .f32) (h7 : a7.IsWhole) (a8 : Memref sig .tc .vmem S1x512x3072 .bf16) (h8 : a8.IsWhole) (a9 : Memref sig .tc .vmem S1x512x1024 .bf16) (h9 : a9.IsWhole)
    (a10 : Memref sig .tc .vmem S1x512x16 .f32) (h10 : a10.IsWhole) (a11 : Memref sig .tc .vmem S520x3072 .f32) (h11 : a11.IsWhole) (hc : cond0_0 i)
    (x0 : Vec Ideal S1x512x1024 .f32) (x1 : Vec Ideal S1x1x6144 .f32) (x2 : Vec Ideal S1x1024 .f32) (x3 : Vec Ideal S1024x4096 .bf16) (x4 : Vec Ideal S1024x16 .bf16) (x5 : Vec Ideal S4x3072 .f32) (xs : Vec Ideal S520x3072 .f32) :
    out0_A_7 c i a2 h2 a3 h3 a4 h4 a5 h5 a6 h6 a7 h7 a8 h8 a9 h9 a10 h10 a11 h11 hc x0 x1 x2 x3 x4 x5 = k0_pay6 (HH x0 x1 x2) (WGT x3) := by
  rw [← HL_eq a2 h2 a3 h3 a4 h4 x0 x1 x2, WGT, ← rdPart a5 h5 x3 _]
  unfold out0_A_7
  rw [View.read_writes_eq_canon _ _ _ (cover0_A_7 c i a2 h2 a3 h3 a4 h4 a5 h5 a6 h6 a7 h7 a8 h8 a9 h9 a10 h10 a11 h11 hc x0 x1 x2 x3 x4 x5)]
  unfold kernelRun0_A
  dsimp only
  sl_unfold_words
  exact View.canon_cons_unit_zero z3 _ _ _

theorem outA8 (c : Dev nD) (i : grid0.Coords) (a2 : Memref sig .tc .vmem S1x512x1024 .f32) (h2 : a2.IsWhole) (a3 : Memref sig .tc .vmem S1x1x6144 .f32) (h3 : a3.IsWhole)
    (a4 : Memref sig .tc .vmem S1x1024 .f32) (h4 : a4.IsWhole) (a5 : Memref sig .tc .vmem S1024x4096 .bf16) (h5 : a5.IsWhole) (a6 : Memref sig .tc .vmem S1024x16 .bf16) (h6 : a6.IsWhole)
    (a7 : Memref sig .tc .vmem S4x3072 .f32) (h7 : a7.IsWhole) (a8 : Memref sig .tc .vmem S1x512x3072 .bf16) (h8 : a8.IsWhole) (a9 : Memref sig .tc .vmem S1x512x1024 .bf16) (h9 : a9.IsWhole)
    (a10 : Memref sig .tc .vmem S1x512x16 .f32) (h10 : a10.IsWhole) (a11 : Memref sig .tc .vmem S520x3072 .f32) (h11 : a11.IsWhole) (hc : cond0_0 i)
    (x0 : Vec Ideal S1x512x1024 .f32) (x1 : Vec Ideal S1x1x6144 .f32) (x2 : Vec Ideal S1x1024 .f32) (x3 : Vec Ideal S1024x4096 .bf16) (x4 : Vec Ideal S1024x16 .bf16) (x5 : Vec Ideal S4x3072 .f32) (xs : Vec Ideal S520x3072 .f32) :
    out0_A_8 c i a2 h2 a3 h3 a4 h4 a5 h5 a6 h6 a7 h7 a8 h8 a9 h9 a10 h10 a11 h11 hc x0 x1 x2 x3 x4 x5 = k0_pay5 x0 x2 (SCA x1) (SHI x1) x4 := by
  unfold out0_A_8
  rw [View.read_writes_eq_canon _ _ _ (cover0_A_8 c i a2 h2 a3 h3 a4 h4 a5 h5 a6 h6 a7 h7 a8 h8 a9 h9 a10 h10 a11 h11 hc x0 x1 x2 x3 x4 x5)]
  unfold kernelRun0_A
  dsimp only
  sl_unfold_words
  refine (View.canon_cons_unit_zero z3 _ _ _).trans ?_
  exact pay5_congr (rdWhole a2 h2 x0 z3 _) (rdWhole a4 h4 x2 z2 _) (rdPart a3 h3 x1 _) (rdPart a3 h3 x1 _) (rdWhole a6 h6 x4 z2 _)

theorem soutA (c : Dev nD) (i : grid0.Coords) (a2 : Memref sig .tc .vmem S1x512x1024 .f32) (h2 : a2.IsWhole) (a3 : Memref sig .tc .vmem S1x1x6144 .f32) (h3 : a3.IsWhole)
    (a4 : Memref sig .tc .vmem S1x1024 .f32) (h4 : a4.IsWhole) (a5 : Memref sig .tc .vmem S1024x4096 .bf16) (h5 : a5.IsWhole) (a6 : Memref sig .tc .vmem S1024x16 .bf16) (h6 : a6.IsWhole)
    (a7 : Memref sig .tc .vmem S4x3072 .f32) (h7 : a7.IsWhole) (a8 : Memref sig .tc .vmem S1x512x3072 .bf16) (h8 : a8.IsWhole) (a9 : Memref sig .tc .vmem S1x512x1024 .bf16) (h9 : a9.IsWhole)
    (a10 : Memref sig .tc .vmem S1x512x16 .f32) (h10 : a10.IsWhole) (a11 : Memref sig .tc .vmem S520x3072 .f32) (h11 : a11.IsWhole) (hc : cond0_0 i)
    (x0 : Vec Ideal S1x512x1024 .f32) (x1 : Vec Ideal S1x1x6144 .f32) (x2 : Vec Ideal S1x1024 .f32) (x3 : Vec Ideal S1024x4096 .bf16) (x4 : Vec Ideal S1024x16 .bf16) (x5 : Vec Ideal S4x3072 .f32) (xs : Vec Ideal S520x3072 .f32) (a : Fin 8) (f : Fin 3072) :
    sout0_A_0 c i a2 h2 a3 h3 a4 h4 a5 h5 a6 h6 a7 h7 a8 h8 a9 h9 a10 h10 a11 h11 hc x0 x1 x2 x3 x4 x5 (ix2 (⟨a.val, by omega⟩ : Fin 520) f) = PP x0 x1 x2 x3 (ix2 (⟨504 + a.val, by omega⟩ : Fin 512) f) := by
  rw [← PL_eq a2 h2 a3 h3 a4 h4 a5 h5 x0 x1 x2 x3]
  unfold sout0_A_0
  rw [View.read_writes_eq_canon _ _ _ (scover0_A_0 c i a2 h2 a3 h3 a4 h4 a5 h5 a6 h6 a7 h7 a8 h8 a9 h9 a10 h10 a11 h11 hc x0 x1 x2 x3 x4 x5)]
  unfold kernelRun0_A
  dsimp only
  sl_unfold_words
  refine (head_st _ _ _ a f).trans ?_
  exact tail_ld a11 _ _ _ _ a f

theorem outB6 (c : Dev nD) (i : grid0.Coords) (a2 : Memref sig .tc .vmem S1x512x1024 .f32) (h2 : a2.IsWhole) (a3 : Memref sig .tc .vmem S1x1x6144 .f32) (h3 : a3.IsWhole)
    (a4 : Memref sig .tc .vmem S1x1024 .f32) (h4 : a4.IsWhole) (a5 : Memref sig .tc .vmem S1024x4096 .bf16) (h5 : a5.IsWhole) (a6 : Memref sig .tc .vmem S1024x16 .bf16) (h6 : a6.IsWhole)
    (a7 : Memref sig .tc .vmem S4x3072 .f32) (h7 : a7.IsWhole) (a8 : Memref sig .tc .vmem S1x512x3072 .bf16) (h8 : a8.IsWhole) (a9 : Memref sig .tc .vmem S1x512x1024 .bf16) (h9 : a9.IsWhole)
    (a10 : Memref sig .tc .vmem S1x512x16 .f32) (h10 : a10.IsWhole) (a11 : Memref sig .tc .vmem S520x3072 .f32) (h11 : a11.IsWhole) (hc : ¬ cond0_0 i)
    (x0 : Vec Ideal S1x512x1024 .f32) (x1 : Vec Ideal S1x1x6144 .f32) (x2 : Vec Ideal S1x1024 .f32) (x3 : Vec Ideal S1024x4096 .bf16) (x4 : Vec Ideal S1024x16 .bf16) (x5 : Vec Ideal S4x3072 .f32) (xs : Vec Ideal S520x3072 .f32) :
    out0_B_6 c i a2 h2 a3 h3 a4 h4 a5 h5 a6 h6 a7 h7 a8 h8 a9 h9 a10 h10 a11 h11 hc x0 x1 x2 x3 x4 x5 xs = G (W xs (PP x0 x1 x2 x3)) x5 := by
  rw [← PL_eq a2 h2 a3 h3 a4 h4 a5 h5 x0 x1 x2 x3]
  unfold out0_B_6
  rw [View.read_writes_eq_canon _ _ _ (cover0_B_6 c i a2 h2 a3 h3 a4 h4 a5 h5 a6 h6 a7 h7 a8 h8 a9 h9 a10 h10 a11 h11 hc x0 x1 x2 x3 x4 x5 xs)]
  funext y
  refine View.canon_apply_of_pieces _ _ (View.PiecesOf.mem ?_) y (cover0_B_6 c i a2 h2 a3 h3 a4 h4 a5 h5 a6 h6 a7 h7 a8 h8 a9 h9 a10 h10 a11 h11 hc x0 x1 x2 x3 x4 x5 xs y)
  unfold kernelRun0_B
  dsimp only
  sl_unfold_words
  refine pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| pcons ?_ <| trivial
  · exact vB a7 h7 a11 h11 x5 xs 2944 (by decide) (by decide)
  · exact vB a7 h7 a11 h11 x5 xs 2816 (by decide) (by decide)
  · exact vB a7 h7 a11 h11 x5 xs 2688 (by decide) (by decide)
  · exact vB a7 h7 a11 h11 x5 xs 2560 (by decide) (by decide)
  · exact vB a7 h7 a11 h11 x5 xs 2432 (by decide) (by decide)
  · exact vB a7 h7 a11 h11 x5 xs 2304 (by decide) (by decide)
  · exact vB a7 h7 a11 h11 x5 xs 2176 (by decide) (by decide)
  · exact vB a7 h7 a11 h11 x5 xs 2048 (by decide) (by decide)
  · exact kB a7 h7 a11 h11 x5 xs 1920
  · exact kB a7 h7 a11 h11 x5 xs 1792
  · exact kB a7 h7 a11 h11 x5 xs 1664
  · exact kB a7 h7 a11 h11 x5 xs 1536
  · exact kB a7 h7 a11 h11 x5 xs 1408
  · exact kB a7 h7 a11 h11 x5 xs 1280
  · exact kB a7 h7 a11 h11 x5 xs 1152
  · exact kB a7 h7 a11 h11 x5 xs 1024
  · exact qB a7 h7 a11 h11 x5 xs 896
  · exact qB a7 h7 a11 h11 x5 xs 768
  · exact qB a7 h7 a11 h11 x5 xs 640
  · exact qB a7 h7 a11 h11 x5 xs 512
  · exact qB a7 h7 a11 h11 x5 xs 384
  · exact qB a7 h7 a11 h11 x5 xs 256
  · exact qB a7 h7 a11 h11 x5 xs 128
  · exact qB a7 h7 a11 h11 x5 xs 0

theorem outB7 (c : Dev nD) (i : grid0.Coords) (a2 : Memref sig .tc .vmem S1x512x1024 .f32) (h2 : a2.IsWhole) (a3 : Memref sig .tc .vmem S1x1x6144 .f32) (h3 : a3.IsWhole)
    (a4 : Memref sig .tc .vmem S1x1024 .f32) (h4 : a4.IsWhole) (a5 : Memref sig .tc .vmem S1024x4096 .bf16) (h5 : a5.IsWhole) (a6 : Memref sig .tc .vmem S1024x16 .bf16) (h6 : a6.IsWhole)
    (a7 : Memref sig .tc .vmem S4x3072 .f32) (h7 : a7.IsWhole) (a8 : Memref sig .tc .vmem S1x512x3072 .bf16) (h8 : a8.IsWhole) (a9 : Memref sig .tc .vmem S1x512x1024 .bf16) (h9 : a9.IsWhole)
    (a10 : Memref sig .tc .vmem S1x512x16 .f32) (h10 : a10.IsWhole) (a11 : Memref sig .tc .vmem S520x3072 .f32) (h11 : a11.IsWhole) (hc : ¬ cond0_0 i)
    (x0 : Vec Ideal S1x512x1024 .f32) (x1 : Vec Ideal S1x1x6144 .f32) (x2 : Vec Ideal S1x1024 .f32) (x3 : Vec Ideal S1024x4096 .bf16) (x4 : Vec Ideal S1024x16 .bf16) (x5 : Vec Ideal S4x3072 .f32) (xs : Vec Ideal S520x3072 .f32) :
    out0_B_7 c i a2 h2 a3 h3 a4 h4 a5 h5 a6 h6 a7 h7 a8 h8 a9 h9 a10 h10 a11 h11 hc x0 x1 x2 x3 x4 x5 xs = k0_pay6 (HH x0 x1 x2) (WGT x3) := by
  rw [← HL_eq a2 h2 a3 h3 a4 h4 x0 x1 x2, WGT, ← rdPart a5 h5 x3 _]
  unfold out0_B_7
  rw [View.read_writes_eq_canon _ _ _ (cover0_B_7 c i a2 h2 a3 h3 a4 h4 a5 h5 a6 h6 a7 h7 a8 h8 a9 h9 a10 h10 a11 h11 hc x0 x1 x2 x3 x4 x5 xs)]
  unfold kernelRun0_B
  dsimp only
  sl_unfold_words
  exact View.canon_cons_unit_zero z3 _ _ _

theorem outB8 (c : Dev nD) (i : grid0.Coords) (a2 : Memref sig .tc .vmem S1x512x1024 .f32) (h2 : a2.IsWhole) (a3 : Memref sig .tc .vmem S1x1x6144 .f32) (h3 : a3.IsWhole)
    (a4 : Memref sig .tc .vmem S1x1024 .f32) (h4 : a4.IsWhole) (a5 : Memref sig .tc .vmem S1024x4096 .bf16) (h5 : a5.IsWhole) (a6 : Memref sig .tc .vmem S1024x16 .bf16) (h6 : a6.IsWhole)
    (a7 : Memref sig .tc .vmem S4x3072 .f32) (h7 : a7.IsWhole) (a8 : Memref sig .tc .vmem S1x512x3072 .bf16) (h8 : a8.IsWhole) (a9 : Memref sig .tc .vmem S1x512x1024 .bf16) (h9 : a9.IsWhole)
    (a10 : Memref sig .tc .vmem S1x512x16 .f32) (h10 : a10.IsWhole) (a11 : Memref sig .tc .vmem S520x3072 .f32) (h11 : a11.IsWhole) (hc : ¬ cond0_0 i)
    (x0 : Vec Ideal S1x512x1024 .f32) (x1 : Vec Ideal S1x1x6144 .f32) (x2 : Vec Ideal S1x1024 .f32) (x3 : Vec Ideal S1024x4096 .bf16) (x4 : Vec Ideal S1024x16 .bf16) (x5 : Vec Ideal S4x3072 .f32) (xs : Vec Ideal S520x3072 .f32) :
    out0_B_8 c i a2 h2 a3 h3 a4 h4 a5 h5 a6 h6 a7 h7 a8 h8 a9 h9 a10 h10 a11 h11 hc x0 x1 x2 x3 x4 x5 xs = k0_pay5 x0 x2 (SCA x1) (SHI x1) x4 := by
  unfold out0_B_8
  rw [View.read_writes_eq_canon _ _ _ (cover0_B_8 c i a2 h2 a3 h3 a4 h4 a5 h5 a6 h6 a7 h7 a8 h8 a9 h9 a10 h10 a11 h11 hc x0 x1 x2 x3 x4 x5 xs)]
  unfold kernelRun0_B
  dsimp only
  sl_unfold_words
  refine (View.canon_cons_unit_zero z3 _ _ _).trans ?_
  exact pay5_congr (rdWhole a2 h2 x0 z3 _) (rdWhole a4 h4 x2 z2 _) (rdPart a3 h3 x1 _) (rdPart a3 h3 x1 _) (rdWhole a6 h6 x4 z2 _)

theorem soutB (c : Dev nD) (i : grid0.Coords) (a2 : Memref sig .tc .vmem S1x512x1024 .f32) (h2 : a2.IsWhole) (a3 : Memref sig .tc .vmem S1x1x6144 .f32) (h3 : a3.IsWhole)
    (a4 : Memref sig .tc .vmem S1x1024 .f32) (h4 : a4.IsWhole) (a5 : Memref sig .tc .vmem S1024x4096 .bf16) (h5 : a5.IsWhole) (a6 : Memref sig .tc .vmem S1024x16 .bf16) (h6 : a6.IsWhole)
    (a7 : Memref sig .tc .vmem S4x3072 .f32) (h7 : a7.IsWhole) (a8 : Memref sig .tc .vmem S1x512x3072 .bf16) (h8 : a8.IsWhole) (a9 : Memref sig .tc .vmem S1x512x1024 .bf16) (h9 : a9.IsWhole)
    (a10 : Memref sig .tc .vmem S1x512x16 .f32) (h10 : a10.IsWhole) (a11 : Memref sig .tc .vmem S520x3072 .f32) (h11 : a11.IsWhole) (hc : ¬ cond0_0 i)
    (x0 : Vec Ideal S1x512x1024 .f32) (x1 : Vec Ideal S1x1x6144 .f32) (x2 : Vec Ideal S1x1024 .f32) (x3 : Vec Ideal S1024x4096 .bf16) (x4 : Vec Ideal S1024x16 .bf16) (x5 : Vec Ideal S4x3072 .f32) (xs : Vec Ideal S520x3072 .f32) (a : Fin 8) (f : Fin 3072) :
    sout0_B_0 c i a2 h2 a3 h3 a4 h4 a5 h5 a6 h6 a7 h7 a8 h8 a9 h9 a10 h10 a11 h11 hc x0 x1 x2 x3 x4 x5 xs (ix2 (⟨a.val, by omega⟩ : Fin 520) f) = PP x0 x1 x2 x3 (ix2 (⟨504 + a.val, by omega⟩ : Fin 512) f) := by
  rw [← PL_eq a2 h2 a3 h3 a4 h4 a5 h5 x0 x1 x2 x3]
  unfold sout0_B_0
  rw [View.read_writes_eq_canon _ _ _ (scover0_B_0 c i a2 h2 a3 h3 a4 h4 a5 h5 a6 h6 a7 h7 a8 h8 a9 h9 a10 h10 a11 h11 hc x0 x1 x2 x3 x4 x5 xs)]
  unfold kernelRun0_B
  dsimp only
  sl_unfold_words
  refine (head_st _ _ _ a f).trans ?_
  exact tail_ld a11 _ _ _ _ a f

end Cert.Gdn.KI
end
-- ==== Proof.GdnRef.lean ====
module

public import proofs.«01_k».proof.Defs
public import proofs.«01_k».proof.Proof.Gen.Reference3Ideal
public import Idealize.ShloMosaic.Lib.Pointwise

@[expose] public section

set_option maxRecDepth 100000

noncomputable section

namespace Cert.Gdn.Ref
open Cert.Reference3Ideal Cert.Reference3Ideal.Gen
open Idealize.ShloMosaic Idealize.SL.Sem

/-- The reciprocal of each token's root mean square. -/
def INV (X : FVec Ideal S8x4096x1024 .f32) : FVec Ideal S8x4096x1 .f32 :=
  Host.rsqrt (addf (Host.divf (broadcastInDim S8x4096x1 ![0, 1] bcast_S8x4096_S8x4096x1_0_1
      (Host.reduceAdd (mulf X X) (constant (F := Ideal) S_ .f32 0x00000000#32) reducesTo_S8x4096x1024_S8x4096_d2 h_S_))
    (broadcastInDim S8x4096x1 ![] bcast_S_S8x4096x1 (constant (F := Ideal) S_ .f32 0x44800000#32)))
    (broadcastInDim S8x4096x1 ![] bcast_S_S8x4096x1 (constant (F := Ideal) S_ .f32 0x358637BD#32)))

/-- The modulated, normalized tokens. -/
def MODU (X : FVec Ideal S8x4096x1024 .f32) (M : FVec Ideal S8x1x6144 .f32) (G : FVec Ideal S1x1024 .f32) : FVec Ideal S8x4096x1024 .f32 :=
  addf (mulf (mulf (mulf X (broadcastInDim S8x4096x1024 ![0, 1, 2] bcast_S8x4096x1_S8x4096x1024_0_1_2 (INV X)))
      (broadcastInDim S8x4096x1024 ![0, 1, 2] bcast_S1x1x1024_S8x4096x1024_0_1_2 (broadcastInDim S1x1x1024 ![1, 2] bcast_S1x1024_S1x1x1024_1_2 G)))
      (broadcastInDim S8x4096x1024 ![0, 1, 2] bcast_S8x1x1024_S8x4096x1024_0_1_2
        (addf (broadcastInDim S8x1x1024 ![] bcast_S_S8x1x1024 (constant (F := Ideal) S_ .f32 0x3F800000#32)) (extractStridedSlice S8x1x1024 ![0, 0, 1024] M slices_S8x1x6144_S8x1x1024_0_0_1024))))
    (broadcastInDim S8x4096x1024 ![0, 1, 2] bcast_S8x1x1024_S8x4096x1024_0_1_2 (extractStridedSlice S8x1x1024 ![0, 0, 0] M slices_S8x1x6144_S8x1x1024_0_0_0))

def PROJ (H : FVec Ideal S8x4096x1024 .f32) (W : FVec Ideal S1024x4096 .bf16) : FVec Ideal S8x4096x4096 .f32 :=
  Host.dotGeneral dot_S8x4096x1024_S1024x4096_S8x4096x4096_2_0_01_1_n_n none H (extf .f32 W bitsLt_bf16_f32)

def OAB (H : FVec Ideal S8x4096x1024 .f32) (W : FVec Ideal S1024x16 .bf16) : FVec Ideal S8x4096x16 .f32 :=
  Host.dotGeneral dot_S8x4096x1024_S1024x16_S8x4096x16_2_0_01_1_n_n none H (extf .f32 W bitsLt_bf16_f32)

/-- The projection with three rows of zeros before each sequence. -/
def PAST (P : FVec Ideal S8x4096x4096 .f32) : FVec Ideal S8x4099x3072 .f32 :=
  pad S8x4099x3072 ![0, 3, 0] ![0, 0, 0] ![0, 0, 0] (extractStridedSlice S8x4096x3072 ![0, 0, 0] P slices_S8x4096x4096_S8x4096x3072_0_0_0)
    (sitofp (F := Ideal) .f32 (constantI S_ 32 0#32)) pads_S8x4096x3072_S8x4099x3072_000_300_000 h_S_

/-- One tap's weights, at every token. -/
def TAP (t : S1x3072.Idx → Elt Ideal .f32) : FVec Ideal S8x4096x3072 .f32 :=
  broadcastInDim S8x4096x3072 ![0, 1, 2] bcast_S1x1x3072_S8x4096x3072_0_1_2 (broadcastInDim S1x1x3072 ![2] bcast_S3072_S1x1x3072_2 (shapeCast S3072 t shapeCasts_S1x3072_S3072))

/-- The causal convolution of four taps. -/
def CONV (Q : FVec Ideal S8x4099x3072 .f32) (C : FVec Ideal S4x3072 .f32) : FVec Ideal S8x4096x3072 .f32 :=
  addf (addf (addf (addf (broadcastInDim S8x4096x3072 ![] bcast_S_S8x4096x3072 (constant (F := Ideal) S_ .f32 0x00000000#32))
      (mulf (extractStridedSlice S8x4096x3072 ![0, 0, 0] Q slices_S8x4099x3072_S8x4096x3072_0_0_0) (TAP (extractStridedSlice S1x3072 ![0, 0] C slices_S4x3072_S1x3072_0_0))))
      (mulf (extractStridedSlice S8x4096x3072 ![0, 1, 0] Q slices_S8x4099x3072_S8x4096x3072_0_1_0) (TAP (extractStridedSlice S1x3072 ![1, 0] C slices_S4x3072_S1x3072_1_0))))
      (mulf (extractStridedSlice S8x4096x3072 ![0, 2, 0] Q slices_S8x4099x3072_S8x4096x3072_0_2_0) (TAP (extractStridedSlice S1x3072 ![2, 0] C slices_S4x3072_S1x3072_2_0))))
      (mulf (extractStridedSlice S8x4096x3072 ![0, 3, 0] Q slices_S8x4099x3072_S8x4096x3072_0_3_0) (TAP (extractStridedSlice S1x3072 ![3, 0] C slices_S4x3072_S1x3072_3_0)))

def SILU (x : FVec Ideal S8x4096x3072 .f32) : FVec Ideal S8x4096x3072 .f32 :=
  mulf x (Host.divf (broadcastInDim S8x4096x3072 ![] bcast_S_S8x4096x3072 (constant (F := Ideal) S_ .f32 0x3F800000#32))
    (addf (broadcastInDim S8x4096x3072 ![] bcast_S_S8x4096x3072 (constant (F := Ideal) S_ .f32 0x3F800000#32)) (Host.exp (Host.negf x))))

def SILUZ (x : FVec Ideal S8x4096x1024 .f32) : FVec Ideal S8x4096x1024 .f32 :=
  mulf x (Host.divf (broadcastInDim S8x4096x1024 ![] bcast_S_S8x4096x1024 (constant (F := Ideal) S_ .f32 0x3F800000#32))
    (addf (broadcastInDim S8x4096x1024 ![] bcast_S_S8x4096x1024 (constant (F := Ideal) S_ .f32 0x3F800000#32)) (Host.exp (Host.negf x))))

/-- Each head's vector over its length. -/
def NORM (x : FVec Ideal S8x4096x8x128 .f32) : FVec Ideal S8x4096x8x128 .f32 :=
  mulf x (broadcastInDim S8x4096x8x128 ![0, 1, 2, 3] bcast_S8x4096x8x1_S8x4096x8x128_0_1_2_3
    (Host.rsqrt (addf (broadcastInDim S8x4096x8x1 ![0, 1, 2] bcast_S8x4096x8_S8x4096x8x1_0_1_2
        (Host.reduceAdd (mulf x x) (constant (F := Ideal) S_ .f32 0x00000000#32) reducesTo_S8x4096x8x128_S8x4096x8_d3 h_S_))
      (broadcastInDim S8x4096x8x1 ![] bcast_S_S8x4096x8x1 (constant (F := Ideal) S_ .f32 0x358637BD#32)))))

def QUERY (s : FVec Ideal S8x4096x3072 .f32) : FVec Ideal S8x4096x1024 .f32 :=
  shapeCast S8x4096x1024 (mulf (NORM (shapeCast S8x4096x8x128 (extractStridedSlice S8x4096x1024 ![0, 0, 0] s slices_S8x4096x3072_S8x4096x1024_0_0_0) shapeCasts_S8x4096x1024_S8x4096x8x128))
    (broadcastInDim S8x4096x8x128 ![] bcast_S_S8x4096x8x128 (constant (F := Ideal) S_ .f32 0x3DB504F3#32))) shapeCasts_S8x4096x8x128_S8x4096x1024

def KEY (s : FVec Ideal S8x4096x3072 .f32) : FVec Ideal S8x4096x1024 .f32 :=
  shapeCast S8x4096x1024 (NORM (shapeCast S8x4096x8x128 (extractStridedSlice S8x4096x1024 ![0, 0, 1024] s slices_S8x4096x3072_S8x4096x1024_0_0_1024) shapeCasts_S8x4096x1024_S8x4096x8x128))
    shapeCasts_S8x4096x8x128_S8x4096x1024

def QKV (s : FVec Ideal S8x4096x3072 .f32) : FVec Ideal S8x4096x3072 .bf16 :=
  truncf .bf16 (concatenate S8x4096x3072 2 [⟨S8x4096x1024, QUERY s⟩, ⟨S8x4096x1024, KEY s⟩,
    ⟨S8x4096x1024, extractStridedSlice S8x4096x1024 ![0, 0, 2048] s slices_S8x4096x3072_S8x4096x1024_0_0_2048⟩]
    concatenates_S8x4096x1024_S8x4096x1024_S8x4096x1024_S8x4096x3072_d2) bitsLt_bf16_f32

def GATE (P : FVec Ideal S8x4096x4096 .f32) : FVec Ideal S8x4096x1024 .bf16 :=
  truncf .bf16 (SILUZ (extractStridedSlice S8x4096x1024 ![0, 0, 3072] P slices_S8x4096x4096_S8x4096x1024_0_0_3072)) bitsLt_bf16_f32

end Cert.Gdn.Ref
end
-- ==== Proof.GdnAt.lean ====
module

public import proofs.«01_k».proof.Proof.GdnRef
public import proofs.«01_k».proof.Proof.GdnUnit

@[expose] public section

set_option maxRecDepth 100000

noncomputable section

namespace Cert.Gdn
open Idealize.ShloMosaic Idealize.SL.Sem

/-- A token's modulated features. -/
def modu (x g sc sh : Fin 1024 → EReal) (d : Fin 1024) : EReal :=
  x d * Ideal.rsqrt (Ideal.div (∑ k : Fin 1024, x k * x k) (Scalar.ofBits .f32 0x44800000#32 : Ideal .f32) + (Scalar.ofBits .f32 0x358637BD#32 : Ideal .f32)) * g d * (1 + sc d) + sh d

namespace Ref
open Cert.Reference3Ideal Cert.Reference3Ideal.Gen

theorem MODU_at (X : FVec Ideal S8x4096x1024 .f32) (M : FVec Ideal S8x1x6144 .f32) (G : FVec Ideal S1x1024 .f32) (b : Fin 8) (n : Fin 4096) (d : Fin 1024) :
    MODU X M G (ix3 b n d) = modu (fun k => X (ix3 b n k)) (fun k => G (ix2 (0 : Fin 1) k)) (fun k => M (ix3 b (0 : Fin 1) (⟨1024 + k.val, by omega⟩ : Fin 6144)))
      (fun k => M (ix3 b (0 : Fin 1) (⟨k.val, by omega⟩ : Fin 6144))) d := by
  pointwise [INV, MODU, modu]

theorem PROJ_at (H : FVec Ideal S8x4096x1024 .f32) (W : FVec Ideal S1024x4096 .bf16) (b : Fin 8) (n : Fin 4096) (f : Fin 4096) :
    PROJ H W (ix3 b n f) = ∑ d : Fin 1024, H (ix3 b n d) * W (ix2 d f) := by
  pointwise [PROJ]
theorem OAB_at (H : FVec Ideal S8x4096x1024 .f32) (W : FVec Ideal S1024x16 .bf16) (b : Fin 8) (n : Fin 4096) (f : Fin 16) :
    OAB H W (ix3 b n f) = ∑ d : Fin 1024, H (ix3 b n d) * W (ix2 d f) := by
  pointwise [OAB]
theorem PAST_at (P : FVec Ideal S8x4096x4096 .f32) (b : Fin 8) (n : Fin 4099) (f : Fin 3072) :
    PAST P (ix3 b n f) = if h : 3 ≤ n.val then P (ix3 b (⟨n.val - 3, by omega⟩ : Fin 4096) (⟨f.val, by omega⟩ : Fin 4096)) else 0 := by
  have e : (FloatOps.sitofp .f32 (0#32 : BitVec 32) : Ideal .f32) = 0 := by
    show (((0#32 : BitVec 32).toInt : ℝ) : EReal) = 0
    simp
  pointwise [PAST]
  rw [e]
  by_cases h : 3 ≤ n.val
  · rw [dif_pos h, dif_pos ⟨h, by omega⟩]
  · rw [dif_neg h, dif_neg (fun k => h k.1)]
theorem TAP_at (t : S1x3072.Idx → Elt Ideal .f32) (b : Fin 8) (n : Fin 4096) (f : Fin 3072) : TAP t (ix3 b n f) = t (ix2 (0 : Fin 1) f) := by
  pointwise [TAP]
theorem CONV_at (Q : FVec Ideal S8x4099x3072 .f32) (C : FVec Ideal S4x3072 .f32) (b : Fin 8) (n : Fin 4096) (f : Fin 3072) :
    CONV Q C (ix3 b n f) = Q (ix3 b (⟨n.val, by omega⟩ : Fin 4099) f) * C (ix2 (0 : Fin 4) f) + Q (ix3 b (⟨n.val + 1, by omega⟩ : Fin 4099) f) * C (ix2 (1 : Fin 4) f)
      + Q (ix3 b (⟨n.val + 2, by omega⟩ : Fin 4099) f) * C (ix2 (2 : Fin 4) f) + Q (ix3 b (⟨n.val + 3, by omega⟩ : Fin 4099) f) * C (ix2 (3 : Fin 4) f) := by
  pointwise [CONV, TAP]
  simp only [Nat.add_comm]
theorem SILU_at (x : FVec Ideal S8x4096x3072 .f32) (b : Fin 8) (n : Fin 4096) (f : Fin 3072) : SILU x (ix3 b n f) = slu (x (ix3 b n f)) := by
  pointwise [SILU, slu]
theorem SILUZ_at (x : FVec Ideal S8x4096x1024 .f32) (b : Fin 8) (n : Fin 4096) (f : Fin 1024) : SILUZ x (ix3 b n f) = slu (x (ix3 b n f)) := by
  pointwise [SILUZ, slu]
theorem GATE_at (P : FVec Ideal S8x4096x4096 .f32) (b : Fin 8) (n : Fin 4096) (f : Fin 1024) :
    GATE P (ix3 b n f) = slu (P (ix3 b n (⟨3072 + f.val, by omega⟩ : Fin 4096))) := by
  pointwise [GATE, SILUZ, slu]
theorem NORM_at (x : FVec Ideal S8x4096x8x128 .f32) (b : Fin 8) (n : Fin 4096) (h : Fin 8) (l : Fin 128) :
    NORM x (ix4 b n h l) = x (ix4 b n h l) * Ideal.rsqrt (∑ d : Fin 128, x (ix4 b n h d) * x (ix4 b n h d) + (Scalar.ofBits .f32 0x358637BD#32 : Ideal .f32)) := by
  pointwise [NORM]
theorem QUERY_at (s : FVec Ideal S8x4096x3072 .f32) (b : Fin 8) (n : Fin 4096) (f : Fin 1024) :
    QUERY s (ix3 b n f) = s (ix3 b n (⟨f.val, by omega⟩ : Fin 3072)) * nrm (fun g => s (ix3 b n g)) (⟨f.val, by omega⟩ : Fin 3072) * (Scalar.ofBits .f32 0x3DB504F3#32 : Ideal .f32) := by
  pointwise [QUERY, NORM, nrm]
theorem KEY_at (s : FVec Ideal S8x4096x3072 .f32) (b : Fin 8) (n : Fin 4096) (f : Fin 1024) :
    KEY s (ix3 b n f) = s (ix3 b n (⟨1024 + f.val, by omega⟩ : Fin 3072)) * nrm (fun g => s (ix3 b n g)) (⟨1024 + f.val, by omega⟩ : Fin 3072) := by
  have e : ∀ x : Fin 128, 1024 + (f.val / 128 * 128 + x.val) = (1024 + f.val) / 128 * 128 + x.val := fun x => by omega
  pointwise [KEY, NORM, nrm]
  simp only [e]
theorem QKV_at (s : FVec Ideal S8x4096x3072 .f32) (b : Fin 8) (n : Fin 4096) (f : Fin 3072) : QKV s (ix3 b n f) = head (fun g => s (ix3 b n g)) f := by
  by_cases h1 : f.val < 1024
  · have e : QKV s (ix3 b n f) = QUERY s (ix3 b n (⟨f.val, h1⟩ : Fin 1024)) := by
      pointwise [QKV]
      rw [dif_pos h1]
    rw [e, QUERY_at]
    exact (if_pos h1).symm
  by_cases h2 : f.val < 2048
  · have e : QKV s (ix3 b n f) = KEY s (ix3 b n (⟨f.val - 1024, by omega⟩ : Fin 1024)) := by
      pointwise [QKV]
      rw [dif_neg h1, dif_pos (by omega)]
    rw [e, KEY_at]
    have e' : (⟨1024 + (f.val - 1024), by omega⟩ : Fin 3072) = f := Fin.ext (by show 1024 + (f.val - 1024) = f.val; omega)
    rw [e']
    exact ((if_neg h1).trans (if_pos h2)).symm
  · refine Eq.trans ?_ ((if_neg h1).trans (if_neg h2)).symm
    pointwise [QKV]
    rw [dif_neg h1, dif_neg (by omega)]
    exact congrArg s (congrArg (ix3 b n) (Fin.ext (by show 2048 + (f.val - 1024 - 1024) = f.val; omega)))

end Ref
end Cert.Gdn
end
-- ==== Proof.GdnValue.lean ====
module

public import proofs.«01_k».proof.Proof.GdnBody
public import proofs.«01_k».proof.Proof.GdnAt
public import proofs.«01_k».proof.Proof.Gen.Kernel3Ideal.Value
public import Idealize.ShloMosaic.Lib.Pipeline.ValueKit

@[expose] public section

set_option maxRecDepth 100000

noncomputable section

namespace Cert.Gdn.KI
open Cert.Kernel3Ideal Cert.Kernel3Ideal.Gen
open Idealize.ShloMosaic Idealize.ShloMosaic.TcCoe Idealize.SL.Sem
open Idealize.ShloMosaic.Pipeline (Dat)

theorem add_rev (a b c d : EReal) : a + b + c + d = d + c + b + a := by
  rw [add_comm (a + b + c) d, add_comm (a + b) c, add_comm a b, ← add_assoc, ← add_assoc]

/-! ## The body's arithmetic at an index -/

section Arith
variable (x0 : Vec Ideal S1x512x1024 .f32) (x1 : Vec Ideal S1x1x6144 .f32) (x2 : Vec Ideal S1x1024 .f32) (x3 : Vec Ideal S1024x4096 .bf16) (x4 : Vec Ideal S1024x16 .bf16)

theorem SCA_at (k : Fin 1024) : SCA x1 (ix3 (0 : Fin 1) (0 : Fin 1) k) = x1 (ix3 (0 : Fin 1) (0 : Fin 1) (⟨1024 + k.val, by omega⟩ : Fin 6144)) := by
  refine View.ld_unit_apply_of _ _ _ _ _ _ fun a => ?_
  match a with
  | ⟨0, _⟩ => rfl
  | ⟨1, _⟩ => rfl
  | ⟨2, _⟩ => rfl
theorem SHI_at (k : Fin 1024) : SHI x1 (ix3 (0 : Fin 1) (0 : Fin 1) k) = x1 (ix3 (0 : Fin 1) (0 : Fin 1) (⟨k.val, by omega⟩ : Fin 6144)) := by
  refine View.ld_unit_apply_of _ _ _ _ _ _ fun a => ?_
  match a with
  | ⟨0, _⟩ => rfl
  | ⟨1, _⟩ => rfl
  | ⟨2, _⟩ => exact (Nat.zero_add _).symm
theorem WQK_at (d : Fin 1024) (f : Fin 3072) : WQK x3 (ix2 d f) = x3 (ix2 d (⟨f.val, by omega⟩ : Fin 4096)) := by
  refine View.ld_unit_apply_of _ _ _ _ _ _ fun a => ?_
  match a with
  | ⟨0, _⟩ => exact (Nat.zero_add _).symm
  | ⟨1, _⟩ => exact (Nat.zero_add _).symm
theorem WGT_at (d : Fin 1024) (f : Fin 1024) : WGT x3 (ix2 d f) = x3 (ix2 d (⟨3072 + f.val, by omega⟩ : Fin 4096)) := by
  refine View.ld_unit_apply_of _ _ _ _ _ _ fun a => ?_
  match a with
  | ⟨0, _⟩ => exact (Nat.zero_add _).symm
  | ⟨1, _⟩ => rfl

theorem pay4_at (v6 v8 : Vec Ideal S1x1x1024 .f32) (r : Fin 512) (d : Fin 1024) : k0_pay4 (F := Ideal) x0 x2 v6 v8 (ix2 r d)
    = modu (fun k => x0 (ix3 (0 : Fin 1) r k)) (fun k => x2 (ix2 (0 : Fin 1) k)) (fun k => v6 (ix3 (0 : Fin 1) (0 : Fin 1) k)) (fun k => v8 (ix3 (0 : Fin 1) (0 : Fin 1) k)) d := by
  pointwise [k0_pay4, modu]
theorem pay7_at (h : FVec Ideal S512x1024 .bf16) (w : Vec Ideal S1024x3072 .bf16) (r : Fin 512) (f : Fin 3072) : k0_pay7 (F := Ideal) h w (ix2 r f) = ∑ d : Fin 1024, h (ix2 r d) * w (ix2 d f) := by
  pointwise [k0_pay7]
theorem pay6_at (h : FVec Ideal S512x1024 .bf16) (w : Vec Ideal S1024x1024 .bf16) (r : Fin 512) (f : Fin 1024) : k0_pay6 (F := Ideal) h w (ix3 (0 : Fin 1) r f)
    = slu (∑ d : Fin 1024, h (ix2 r d) * w (ix2 d f)) := by
  pointwise [k0_pay6, slu]
  simp only [sub_eq_add_neg, zero_add]
theorem pay5_at (v6 v8 : Vec Ideal S1x1x1024 .f32) (r : Fin 512) (f : Fin 16) : k0_pay5 (F := Ideal) x0 x2 v6 v8 x4 (ix3 (0 : Fin 1) r f)
    = ∑ d : Fin 1024, k0_pay4 x0 x2 v6 v8 (ix2 r d) * x4 (ix2 d f) := by
  pointwise [k0_pay5]
end Arith

/-! ## The blocks at a point -/

variable (m : (ℓ : Loc nD τ sig) → Buf (Elt Ideal) ℓ)

theorem idx : ∀ t : Fin cfg0.N, win0_0.index t = ![t.val / 8, t.val % 8, 0] ∧ win0_1.index t = ![t.val / 8, 0, 0] ∧ win0_2.index t = ![0, 0] ∧ win0_3.index t = ![0, 0]
    ∧ win0_4.index t = ![0, 0] ∧ win0_5.index t = ![0, 0] ∧ win0_6.index t = ![t.val / 8, t.val % 8, 0] ∧ win0_7.index t = ![t.val / 8, t.val % 8, 0] ∧ win0_8.index t = ![t.val / 8, t.val % 8, 0] :=
  (by decide +kernel : ∀ t : Fin grid0.N, _)
theorem flush : ∀ t : Fin cfg0.N, (cfg0.win 6).flush t = true ∧ (cfg0.win 7).flush t = true ∧ (cfg0.win 8).flush t = true :=
  (by decide +kernel : ∀ t : Fin grid0.N, win0_6.flush t = true ∧ win0_7.flush t = true ∧ win0_8.flush t = true)
theorem lt64 (t : Fin cfg0.N) : t.val < 64 := lt_of_lt_of_eq t.isLt N_0

section Blocks
variable (c : Dev nD) (t : Fin cfg0.N)

/-- A point's sequence. -/
abbrev sq : Fin 8 := ⟨t.val / 8, by have := lt64 t; omega⟩
/-- A row of a point's block, in its sequence. -/
abbrev tok (r : Fin 512) : Fin 4096 := ⟨512 * (t.val % 8) + r.val, by omega⟩

theorem blk0 (r : Fin 512) (d : Fin 1024) : (iblk m c 0 t : S1x512x1024.Idx → Elt Ideal .f32) (ix3 (0 : Fin 1) r d)
    = (m ((c.tc : Thread nD τ).loc main_arg0) : FVec Ideal S8x4096x1024 .f32) (ix3 (sq t) (tok t r) d) := by
  blk_ext [iblk, V, idx t]
theorem blk1 (k : Fin 6144) : (iblk m c 1 t : S1x1x6144.Idx → Elt Ideal .f32) (ix3 (0 : Fin 1) (0 : Fin 1) k)
    = (m ((c.tc : Thread nD τ).loc main_arg1) : FVec Ideal S8x1x6144 .f32) (ix3 (sq t) (0 : Fin 1) k) := by
  blk_ext [iblk, V, idx t]
theorem blk2 (k : Fin 1024) : (iblk m c 2 t : S1x1024.Idx → Elt Ideal .f32) (ix2 (0 : Fin 1) k)
    = (m ((c.tc : Thread nD τ).loc main_arg2) : FVec Ideal S1x1024 .f32) (ix2 (0 : Fin 1) k) := by
  blk_ext [iblk, V, idx t]
theorem blk3 (d : Fin 1024) (f : Fin 4096) : (iblk m c 3 t : S1024x4096.Idx → Elt Ideal .bf16) (ix2 d f)
    = (m ((c.tc : Thread nD τ).loc main_arg3) : FVec Ideal S1024x4096 .bf16) (ix2 d f) := by
  blk_ext [iblk, V, idx t]
theorem blk4 (d : Fin 1024) (f : Fin 16) : (iblk m c 4 t : S1024x16.Idx → Elt Ideal .bf16) (ix2 d f)
    = (m ((c.tc : Thread nD τ).loc main_arg4) : FVec Ideal S1024x16 .bf16) (ix2 d f) := by
  blk_ext [iblk, V, idx t]
theorem blk5 (s : Fin 4) (f : Fin 3072) : (iblk m c 5 t : S4x3072.Idx → Elt Ideal .f32) (ix2 s f)
    = (m ((c.tc : Thread nD τ).loc main_arg5) : FVec Ideal S4x3072 .f32) (ix2 s f) := by
  blk_ext [iblk, V, idx t]
theorem blk6 (r : Fin 512) (f : Fin 3072) : (((cfg0.win 6).blk t).view.emb (ix3 (0 : Fin 1) r f) : S8x4096x3072.Idx) = ix3 (sq t) (tok t r) f := by
  blk_ext [iblk, V, idx t]
theorem blk7 (r : Fin 512) (f : Fin 1024) : (((cfg0.win 7).blk t).view.emb (ix3 (0 : Fin 1) r f) : S8x4096x1024.Idx) = ix3 (sq t) (tok t r) f := by
  blk_ext [iblk, V, idx t]
theorem blk8 (r : Fin 512) (f : Fin 16) : (((cfg0.win 8).blk t).view.emb (ix3 (0 : Fin 1) r f) : S8x4096x16.Idx) = ix3 (sq t) (tok t r) f := by
  blk_ext [iblk, V, idx t]

/-! ## What a point computes, by the reference's stages -/

/-- The reference's modulated tokens and projection, of the arguments. -/
abbrev RH : FVec Ideal S8x4096x1024 .f32 := Cert.Gdn.Ref.MODU (m ((c.tc : Thread nD τ).loc main_arg0)) (m ((c.tc : Thread nD τ).loc main_arg1)) (m ((c.tc : Thread nD τ).loc main_arg2))
abbrev RP : FVec Ideal Cert.Reference3Ideal.S8x4096x4096 .f32 := Cert.Gdn.Ref.PROJ (RH m c) (m ((c.tc : Thread nD τ).loc main_arg3))
/-- A point's projection. -/
abbrev PB : FVec Ideal S512x3072 .f32 := PP (iblk m c 0 t) (iblk m c 1 t) (iblk m c 2 t) (iblk m c 3 t)

theorem HH_eq (r : Fin 512) (d : Fin 1024) : HH (iblk m c 0 t) (iblk m c 1 t) (iblk m c 2 t) (ix2 r d) = RH m c (ix3 (sq t) (tok t r) d) := by
  refine (pay4_at _ _ _ _ r d).trans (Eq.trans ?_ (Cert.Gdn.Ref.MODU_at _ _ _ (sq t) (tok t r) d).symm)
  have e0 := funext fun k => blk0 m c t r k
  have e1 := funext fun k => blk2 m c t k
  have e2 := funext fun k => (SCA_at (iblk m c 1 t) k).trans (blk1 m c t _)
  have e3 := funext fun k => (SHI_at (iblk m c 1 t) k).trans (blk1 m c t _)
  exact congrFun (congr (congr (congr (congrArg modu e0) e1) e2) e3) d

theorem PB_eq (r : Fin 512) (f : Fin 3072) : PB m c t (ix2 r f) = RP m c (ix3 (sq t) (tok t r) (⟨f.val, by omega⟩ : Fin 4096)) := by
  refine (pay7_at _ _ r f).trans (Eq.trans ?_ (Cert.Gdn.Ref.PROJ_at _ _ (sq t) (tok t r) _).symm)
  exact Finset.sum_congr rfl fun d _ => congrArg₂ (fun x y : EReal => x * y) (HH_eq m c t r d) ((WQK_at _ d f).trans (blk3 m c t d _))

/-- The rows before a point's projection: zeros, or the last rows of the point before. -/
def Before (base : S520x3072.Idx → EReal) : Prop :=
  ∀ (a : Fin 8) (f : Fin 3072), 5 ≤ a.val → base (ix2 (⟨a.val, by omega⟩ : Fin 520) f)
    = if h : t.val % 8 = 0 then 0 else RP m c (ix3 (sq t) (⟨512 * (t.val % 8) + a.val - 8, by omega⟩ : Fin 4096) (⟨f.val, by omega⟩ : Fin 4096))

theorem W_eq (base : S520x3072.Idx → EReal) (hb : Before m c t base) (r : Fin 512) (f : Fin 3072) (s : ℕ) (hs : s < 4) (N : ℕ) (hN : N = s + 5) (hr : r.val + N < 520) (hq : (tok t r).val + s < 4099) :
    W base (PB m c t) (ix2 (⟨r.val + N, hr⟩ : Fin 520) f) = Cert.Gdn.Ref.PAST (RP m c) (ix3 (sq t) (⟨(tok t r).val + s, hq⟩ : Fin 4099) f) := by
  subst hN
  refine Eq.trans ?_ (Cert.Gdn.Ref.PAST_at _ (sq t) _ f).symm
  unfold W
  by_cases h : 8 ≤ r.val + (s + 5)
  · refine (dif_pos h).trans ?_
    refine Eq.trans ?_ (dif_pos (show 3 ≤ 512 * (t.val % 8) + r.val + s by omega)).symm
    refine (PB_eq m c t (⟨r.val + (s + 5) - 8, by omega⟩ : Fin 512) f).trans ?_
    exact congrArg (fun n => RP m c (ix3 (sq t) n _)) (Fin.ext (show 512 * (t.val % 8) + (r.val + (s + 5) - 8) = 512 * (t.val % 8) + r.val + s - 3 by omega))
  · refine (dif_neg h).trans ?_
    refine (hb (⟨r.val + (s + 5), by omega⟩ : Fin 8) f (show 5 ≤ r.val + (s + 5) by omega)).trans ?_
    by_cases h0 : t.val % 8 = 0
    · have hn : ¬ 3 ≤ ((⟨(tok t r).val + s, hq⟩ : Fin 4099)).val := show ¬ 3 ≤ 512 * (t.val % 8) + r.val + s by omega
      rw [dif_pos h0, dif_neg hn]
    · refine (dif_neg h0).trans (Eq.trans ?_ (dif_pos (show 3 ≤ 512 * (t.val % 8) + r.val + s by omega)).symm)
      exact congrArg (fun n => RP m c (ix3 (sq t) n _)) (Fin.ext (show 512 * (t.val % 8) + (r.val + (s + 5)) - 8 = 512 * (t.val % 8) + r.val + s - 3 by omega))

/-- What a point stores of queries, keys and values is the reference's block. -/
theorem G_eq (base : S520x3072.Idx → EReal) (hb : Before m c t base) (r : Fin 512) (f : Fin 3072) :
    G (W base (PB m c t)) (iblk m c 5 t) (ix3 (0 : Fin 1) r f)
      = Cert.Gdn.Ref.QKV (Cert.Gdn.Ref.SILU (Cert.Gdn.Ref.CONV (Cert.Gdn.Ref.PAST (RP m c)) (m ((c.tc : Thread nD τ).loc main_arg5)))) (ix3 (sq t) (tok t r) f) := by
  refine Eq.trans ?_ (Cert.Gdn.Ref.QKV_at _ (sq t) (tok t r) f).symm
  refine congrArg (fun s => head s f) (funext fun g => ?_)
  refine Eq.trans ?_ (Cert.Gdn.Ref.SILU_at _ (sq t) (tok t r) g).symm
  refine congrArg slu ?_
  refine Eq.trans ?_ (Cert.Gdn.Ref.CONV_at _ _ (sq t) (tok t r) g).symm
  have hw := fun (s N : ℕ) (hs : s < 4) (hN : N = s + 5) (hr : r.val + N < 520) (hq : (tok t r).val + s < 4099) => W_eq m c t base hb r g s hs N hN hr hq
  show conv (W base (PB m c t)) (iblk m c 5 t) r g = _
  unfold conv
  rw [hw 3 8 (by omega) rfl _ (by omega), hw 2 7 (by omega) rfl _ (by omega), hw 1 6 (by omega) rfl _ (by omega), hw 0 5 (by omega) rfl _ (by omega)]
  have k := fun s => blk5 m c t s g
  rw [k 3, k 2, k 1, k 0]
  exact add_rev _ _ _ _

/-- The last rows a point leaves are the last of its projection. -/
theorem left_eq (a : Fin 8) (f : Fin 3072) : (outsAt0 m c t.val t.isLt).2.2.2 (ix2 (⟨a.val, by omega⟩ : Fin 520) f) = PB m c t (ix2 (⟨504 + a.val, by omega⟩ : Fin 512) f) := by
  by_cases h0 : t.val % 8 = 0
  · rw [outsAt0_A m c t h0]
    dsimp only
    rw [soutA (xs := fun _ => 0)]
  · rw [outsAt0_B m c t h0]
    dsimp only
    rw [soutB]

theorem before_A (h0 : t.val % 8 = 0) : Before m c t (fun _ => 0) := by
  intro a f ha
  rw [dif_pos h0]
theorem before_B (h0 : ¬ t.val % 8 = 0) : Before m c t ((outsAt0 m c (t.val - 1) (Nat.lt_of_le_of_lt (Nat.sub_le _ _) t.isLt)).2.2.2) := fun a f ha => by
  have ht := lt64 t
  refine (left_eq m c (⟨t.val - 1, Nat.lt_of_le_of_lt (Nat.sub_le _ _) t.isLt⟩ : Fin cfg0.N) a f).trans ?_
  refine (PB_eq m c _ _ f).trans (Eq.trans ?_ (dif_neg h0).symm)
  exact congrArg₂ (fun b n => RP m c (ix3 b n _)) (Fin.ext (show (t.val - 1) / 8 = t.val / 8 by omega))
    (Fin.ext (show 512 * ((t.val - 1) % 8) + (504 + a.val) = 512 * (t.val % 8) + a.val - 8 by omega))

theorem point6 (r : Fin 512) (f : Fin 3072) : (outsAt0 m c t.val t.isLt).1 (ix3 (0 : Fin 1) r f)
    = Cert.Gdn.Ref.QKV (Cert.Gdn.Ref.SILU (Cert.Gdn.Ref.CONV (Cert.Gdn.Ref.PAST (RP m c)) (m ((c.tc : Thread nD τ).loc main_arg5)))) (ix3 (sq t) (tok t r) f) := by
  by_cases h0 : t.val % 8 = 0
  · rw [outsAt0_A m c t h0]
    dsimp only
    rw [outA6 (xs := fun _ => 0)]
    exact G_eq m c t _ (before_A m c t h0) r f
  · rw [outsAt0_B m c t h0]
    dsimp only
    rw [outB6]
    exact G_eq m c t _ (before_B m c t h0) r f

theorem point7 (r : Fin 512) (f : Fin 1024) : (outsAt0 m c t.val t.isLt).2.1 (ix3 (0 : Fin 1) r f) = Cert.Gdn.Ref.GATE (RP m c) (ix3 (sq t) (tok t r) f) := by
  have e : k0_pay6 (HH (iblk m c 0 t) (iblk m c 1 t) (iblk m c 2 t)) (WGT (iblk m c 3 t)) (ix3 (0 : Fin 1) r f) = Cert.Gdn.Ref.GATE (RP m c) (ix3 (sq t) (tok t r) f) := by
    refine (pay6_at _ _ r f).trans (Eq.trans (congrArg slu ?_) (Cert.Gdn.Ref.GATE_at _ (sq t) (tok t r) f).symm)
    refine Eq.trans ?_ (Cert.Gdn.Ref.PROJ_at _ _ (sq t) (tok t r) _).symm
    exact Finset.sum_congr rfl fun d _ => congrArg₂ (fun x y : EReal => x * y) (HH_eq m c t r d) ((WGT_at _ d f).trans (blk3 m c t d _))
  by_cases h0 : t.val % 8 = 0
  · rw [outsAt0_A m c t h0]
    dsimp only
    rw [outA7 (xs := fun _ => 0)]
    exact e
  · rw [outsAt0_B m c t h0]
    dsimp only
    rw [outB7]
    exact e

theorem point8 (r : Fin 512) (f : Fin 16) : (outsAt0 m c t.val t.isLt).2.2.1 (ix3 (0 : Fin 1) r f)
    = Cert.Gdn.Ref.OAB (RH m c) (m ((c.tc : Thread nD τ).loc main_arg4)) (ix3 (sq t) (tok t r) f) := by
  have e : k0_pay5 (iblk m c 0 t) (iblk m c 2 t) (SCA (iblk m c 1 t)) (SHI (iblk m c 1 t)) (iblk m c 4 t) (ix3 (0 : Fin 1) r f)
      = Cert.Gdn.Ref.OAB (RH m c) (m ((c.tc : Thread nD τ).loc main_arg4)) (ix3 (sq t) (tok t r) f) := by
    refine (pay5_at _ _ _ _ _ r f).trans (Eq.trans ?_ (Cert.Gdn.Ref.OAB_at _ _ (sq t) (tok t r) f).symm)
    exact Finset.sum_congr rfl fun d _ => congrArg₂ (fun x y : EReal => x * y) (HH_eq m c t r d) (blk4 m c t d f)
  by_cases h0 : t.val % 8 = 0
  · rw [outsAt0_A m c t h0]
    dsimp only
    rw [outA8 (xs := fun _ => 0)]
    exact e
  · rw [outsAt0_B m c t h0]
    dsimp only
    rw [outB8]
    exact e
end Blocks

/-! ## The arrays after the run -/

theorem rows3072 (y : S1x512x3072.Idx) : ∃ (r : Fin 512) (f : Fin 3072), y = ix3 (0 : Fin 1) r f := ⟨y 1, y 2, by
  funext d
  match d with
  | ⟨0, _⟩ => exact Subsingleton.elim (α := Fin 1) _ _
  | ⟨1, _⟩ => rfl
  | ⟨2, _⟩ => rfl⟩
theorem rows1024 (y : S1x512x1024.Idx) : ∃ (r : Fin 512) (f : Fin 1024), y = ix3 (0 : Fin 1) r f := ⟨y 1, y 2, by
  funext d
  match d with
  | ⟨0, _⟩ => exact Subsingleton.elim (α := Fin 1) _ _
  | ⟨1, _⟩ => rfl
  | ⟨2, _⟩ => rfl⟩
theorem rows16 (y : S1x512x16.Idx) : ∃ (r : Fin 512) (f : Fin 16), y = ix3 (0 : Fin 1) r f := ⟨y 1, y 2, by
  funext d
  match d with
  | ⟨0, _⟩ => exact Subsingleton.elim (α := Fin 1) _ _
  | ⟨1, _⟩ => rfl
  | ⟨2, _⟩ => rfl⟩

theorem final6 (c : Dev nD) : (dats m 0 c).arrAt 6 cfg0.N = Cert.Gdn.Ref.QKV (Cert.Gdn.Ref.SILU (Cert.Gdn.Ref.CONV (Cert.Gdn.Ref.PAST (RP m c)) (m ((c.tc : Thread nD τ).loc main_arg5)))) := by
  refine (dats m 0 c).arrAt_eq_of_cover 6 _ (fun t hf => ?_) (fun i => (Cert.Kernel3Ideal.Value.covered_iff6 i).2 (by
    have h0 : (i 0).val < 8 := (i 0).isLt; have h1 : (i 1).val < 4096 := (i 1).isLt; have h2 : (i 2).val < 3072 := (i 2).isLt; omega))
  show (cfg0.win 6).cut (grid0.coords t) ((dats m 0 c).after 6 t) = _
  rw [after0_6]
  funext y
  obtain ⟨r, f, rfl⟩ := rows3072 y
  refine (point6 m c t r f).trans ?_
  exact congrArg (Cert.Gdn.Ref.QKV (Cert.Gdn.Ref.SILU (Cert.Gdn.Ref.CONV (Cert.Gdn.Ref.PAST (RP m c)) (m ((c.tc : Thread nD τ).loc main_arg5))))) (blk6 t r f).symm

theorem final7 (c : Dev nD) : (dats m 0 c).arrAt 7 cfg0.N = Cert.Gdn.Ref.GATE (RP m c) := by
  refine (dats m 0 c).arrAt_eq_of_cover 7 _ (fun t hf => ?_) (fun i => (Cert.Kernel3Ideal.Value.covered_iff7 i).2 (by
    have h0 : (i 0).val < 8 := (i 0).isLt; have h1 : (i 1).val < 4096 := (i 1).isLt; have h2 : (i 2).val < 1024 := (i 2).isLt; omega))
  show (cfg0.win 7).cut (grid0.coords t) ((dats m 0 c).after 7 t) = _
  rw [after0_7]
  funext y
  obtain ⟨r, f, rfl⟩ := rows1024 y
  refine (point7 m c t r f).trans ?_
  exact congrArg (Cert.Gdn.Ref.GATE (RP m c)) (blk7 t r f).symm

theorem final8 (c : Dev nD) : (dats m 0 c).arrAt 8 cfg0.N = Cert.Gdn.Ref.OAB (RH m c) (m ((c.tc : Thread nD τ).loc main_arg4)) := by
  refine (dats m 0 c).arrAt_eq_of_cover 8 _ (fun t hf => ?_) (fun i => (Cert.Kernel3Ideal.Value.covered_iff8 i).2 (by
    have h0 : (i 0).val < 8 := (i 0).isLt; have h1 : (i 1).val < 4096 := (i 1).isLt; have h2 : (i 2).val < 16 := (i 2).isLt; omega))
  show (cfg0.win 8).cut (grid0.coords t) ((dats m 0 c).after 8 t) = _
  rw [after0_8]
  funext y
  obtain ⟨r, f, rfl⟩ := rows16 y
  refine (point8 m c t r f).trans ?_
  exact congrArg (Cert.Gdn.Ref.OAB (RH m c) (m ((c.tc : Thread nD τ).loc main_arg4))) (blk8 t r f).symm

end Cert.Gdn.KI
end
-- ==== Proof.GdnList.lean ====
/- The reference's operations in order, and its run read back: each result at the operations' composed term of the
   arguments. It is the list form of the reference's run, with the time that the second window's equation takes. -/
module

public import proofs.«01_k».proof.Proof.Gen.Reference3Ideal
public import Idealize.ShloMosaic.Lib.StableHlo.Run
public import Idealize.ShloMosaic.Lib.Pipeline.Frame

@[expose] public section

set_option Elab.async false

noncomputable section

namespace Cert.Gdn.Ops

open Cert.Reference3Ideal Cert.Reference3Ideal.Gen Idealize.ShloMosaic Idealize.ShloMosaic.TcCoe Idealize.SL.Sem Idealize.ShloMosaic.StableHlo

variable {F : FTy → Type} [FloatOps F]

/-- The function of the operation that writes `main_v81`, named. It packs its operands into a list of dependent pairs
    whose shapes a later argument's type mentions, so `simp` cannot rewrite an operand where it stands; applied by
    name, the operands are plain arguments, which the window lemmas below rewrite before the name unfolds. -/
def fn_main_v81 : (main_v68 : Ref sig .tc).ty.Contents (Elt F) → (main_v79 : Ref sig .tc).ty.Contents (Elt F) → (main_v80 : Ref sig .tc).ty.Contents (Elt F) → (main_v81 : Ref sig .tc).ty.Contents (Elt F) :=
  (fun u0 u1 u2 => (concatenate S8x4096x3072 2 [⟨S8x4096x1024, (u0 : (⟨S8x4096x1024, .f32⟩ : BufTy).Contents (Elt F))⟩, ⟨S8x4096x1024, (u1 : (⟨S8x4096x1024, .f32⟩ : BufTy).Contents (Elt F))⟩, ⟨S8x4096x1024, (u2 : (⟨S8x4096x1024, .f32⟩ : BufTy).Contents (Elt F))⟩] concatenates_S8x4096x1024_S8x4096x1024_S8x4096x1024_S8x4096x3072_d2 : (⟨S8x4096x3072, .f32⟩ : BufTy).Contents (Elt F)))

/-- @main's operations 1 … 30 of 115 (window `main_part0`). -/
abbrev ops_part0_0 : List (HloOp τ sig (Elt F)) :=
  [ unary main_arg3 main_v0 ((extf .f32 · bitsLt_bf16_f32) : (⟨S1024x4096, .bf16⟩ : BufTy).Contents (Elt F) → (⟨S1024x4096, .f32⟩ : BufTy).Contents (Elt F)),
    unary main_arg4 main_v1 ((extf .f32 · bitsLt_bf16_f32) : (⟨S1024x16, .bf16⟩ : BufTy).Contents (Elt F) → (⟨S1024x16, .f32⟩ : BufTy).Contents (Elt F)),
    unary main_arg1 main_v2 ((extractStridedSlice S8x1x1024 ![0, 0, 0] · slices_S8x1x6144_S8x1x1024_0_0_0) : (⟨S8x1x6144, .f32⟩ : BufTy).Contents (Elt F) → (⟨S8x1x1024, .f32⟩ : BufTy).Contents (Elt F)),
    unary main_arg1 main_v3 ((extractStridedSlice S8x1x1024 ![0, 0, 1024] · slices_S8x1x6144_S8x1x1024_0_0_1024) : (⟨S8x1x6144, .f32⟩ : BufTy).Contents (Elt F) → (⟨S8x1x1024, .f32⟩ : BufTy).Contents (Elt F)),
    binary main_arg0 main_arg0 main_v4 (mulf : (⟨S8x4096x1024, .f32⟩ : BufTy).Contents (Elt F) → (⟨S8x4096x1024, .f32⟩ : BufTy).Contents (Elt F) → (⟨S8x4096x1024, .f32⟩ : BufTy).Contents (Elt F)),
    nullary main_cst (constant S_ .f32 0x00000000#32),
    binary main_v4 main_cst main_v5 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v5 main_v6 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_0 (constant S_ .f32 0x44800000#32),
    unary main_cst_0 main_v7 (broadcastInDim S8x4096x1 ![] bcast_S_S8x4096x1 : (⟨S_, .f32⟩ : BufTy).Contents (Elt F) → (⟨S8x4096x1, .f32⟩ : BufTy).Contents (Elt F)),
    binary main_v6 main_v7 main_v8 (Host.divf : (⟨S8x4096x1, .f32⟩ : BufTy).Contents (Elt F) → (⟨S8x4096x1, .f32⟩ : BufTy).Contents (Elt F) → (⟨S8x4096x1, .f32⟩ : BufTy).Contents (Elt F)),
    nullary main_cst_1 (constant S_ .f32 0x358637BD#32),
    unary main_cst_1 main_v9 (broadcastInDim S8x4096x1 ![] bcast_S_S8x4096x1 : (⟨S_, .f32⟩ : BufTy).Contents (Elt F) → (⟨S8x4096x1, .f32⟩ : BufTy).Contents (Elt F)),
    binary main_v8 main_v9 main_v10 (addf : (⟨S8x4096x1, .f32⟩ : BufTy).Contents (Elt F) → (⟨S8x4096x1, .f32⟩ : BufTy).Contents (Elt F) → (⟨S8x4096x1, .f32⟩ : BufTy).Contents (Elt F)),
    unary main_v10 main_v11 (Host.rsqrt : (⟨S8x4096x1, .f32⟩ : BufTy).Contents (Elt F) → (⟨S8x4096x1, .f32⟩ : BufTy).Contents (Elt F)),
    unary main_v11 main_v12 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    binary main_arg0 main_v12 main_v13 (mulf : (⟨S8x4096x1024, .f32⟩ : BufTy).Contents (Elt F) → (⟨S8x4096x1024, .f32⟩ : BufTy).Contents (Elt F) → (⟨S8x4096x1024, .f32⟩ : BufTy).Contents (Elt F)),
    unary main_arg2 main_v14 (broadcastInDim S1x1x1024 ![1, 2] bcast_S1x1024_S1x1x1024_1_2 : (⟨S1x1024, .f32⟩ : BufTy).Contents (Elt F) → (⟨S1x1x1024, .f32⟩ : BufTy).Contents (Elt F)),
    unary main_v14 main_v15 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v13 main_v15 main_v16 (mulf : (⟨S8x4096x1024, .f32⟩ : BufTy).Contents (Elt F) → (⟨S8x4096x1024, .f32⟩ : BufTy).Contents (Elt F) → (⟨S8x4096x1024, .f32⟩ : BufTy).Contents (Elt F)),
    nullary main_cst_2 (constant S_ .f32 0x3F800000#32),
    unary main_cst_2 main_v17 (broadcastInDim S8x1x1024 ![] bcast_S_S8x1x1024 : (⟨S_, .f32⟩ : BufTy).Contents (Elt F) → (⟨S8x1x1024, .f32⟩ : BufTy).Contents (Elt F)),
    binary main_v17 main_v3 main_v18 (addf : (⟨S8x1x1024, .f32⟩ : BufTy).Contents (Elt F) → (⟨S8x1x1024, .f32⟩ : BufTy).Contents (Elt F) → (⟨S8x1x1024, .f32⟩ : BufTy).Contents (Elt F)),
    unary main_v18 main_v19 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    binary main_v16 main_v19 main_v20 (mulf : (⟨S8x4096x1024, .f32⟩ : BufTy).Contents (Elt F) → (⟨S8x4096x1024, .f32⟩ : BufTy).Contents (Elt F) → (⟨S8x4096x1024, .f32⟩ : BufTy).Contents (Elt F)),
    unary main_v2 main_v21 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    binary main_v20 main_v21 main_v22 (addf : (⟨S8x4096x1024, .f32⟩ : BufTy).Contents (Elt F) → (⟨S8x4096x1024, .f32⟩ : BufTy).Contents (Elt F) → (⟨S8x4096x1024, .f32⟩ : BufTy).Contents (Elt F)),
    binary main_v22 main_v0 main_v23 ((fun l r => Host.dotGeneral dot_S8x4096x1024_S1024x4096_S8x4096x4096_2_0_01_1_n_n none l r) : (⟨S8x4096x1024, .f32⟩ : BufTy).Contents (Elt F) → (⟨S1024x4096, .f32⟩ : BufTy).Contents (Elt F) → (⟨S8x4096x4096, .f32⟩ : BufTy).Contents (Elt F)),
    unary main_v23 main_v24 ((extractStridedSlice S8x4096x3072 ![0, 0, 0] · slices_S8x4096x4096_S8x4096x3072_0_0_0) : (⟨S8x4096x4096, .f32⟩ : BufTy).Contents (Elt F) → (⟨S8x4096x3072, .f32⟩ : BufTy).Contents (Elt F)),
    nullary main_c (constantI S_ 32 0#32) ]

/-- @main's operations 31 … 60 of 115 (window `main_part0`). -/
abbrev ops_part0_1 : List (HloOp τ sig (Elt F)) :=
  [ TRef.unary (TRef.of (T := ⟨S_, .i32⟩) main_c) (TRef.of (T := ⟨S_, .f32⟩) main_call0_v0) (sitofp .f32),
    TRef.binary (TRef.of (T := ⟨S8x4096x3072, .f32⟩) main_v24) (TRef.of (T := ⟨S_, .f32⟩) main_call0_v0) (TRef.of (T := ⟨S8x4099x3072, .f32⟩) main_v25) (fun x v => pad S8x4099x3072 ![0, 3, 0] ![0, 0, 0] ![0, 0, 0] x v pads_S8x4096x3072_S8x4099x3072_000_300_000 h_S_),
    unary main_v25 main_v26 ((extractStridedSlice S8x4096x3072 ![0, 0, 0] · slices_S8x4099x3072_S8x4096x3072_0_0_0) : (⟨S8x4099x3072, .f32⟩ : BufTy).Contents (Elt F) → (⟨S8x4096x3072, .f32⟩ : BufTy).Contents (Elt F)),
    unary main_arg5 main_v27 ((extractStridedSlice S1x3072 ![0, 0] · slices_S4x3072_S1x3072_0_0) : (⟨S4x3072, .f32⟩ : BufTy).Contents (Elt F) → (⟨S1x3072, .f32⟩ : BufTy).Contents (Elt F)),
    reshape main_v27 main_v28 (rfl : (.f32 : EltTy) = .f32) shapeCasts_S1x3072_S3072,
    unary main_v28 main_v29 (broadcastInDim S1x1x3072 ![2] bcast_S3072_S1x1x3072_2 : (⟨S3072, .f32⟩ : BufTy).Contents (Elt F) → (⟨S1x1x3072, .f32⟩ : BufTy).Contents (Elt F)),
    unary main_v29 main_v30 (broadcastInDim S8x4096x3072 ![0, 1, 2] bcast_S1x1x3072_S8x4096x3072_0_1_2 : (⟨S1x1x3072, .f32⟩ : BufTy).Contents (Elt F) → (⟨S8x4096x3072, .f32⟩ : BufTy).Contents (Elt F)),
    binary main_v26 main_v30 main_v31 (mulf : (⟨S8x4096x3072, .f32⟩ : BufTy).Contents (Elt F) → (⟨S8x4096x3072, .f32⟩ : BufTy).Contents (Elt F) → (⟨S8x4096x3072, .f32⟩ : BufTy).Contents (Elt F)),
    nullary main_cst_3 (constant S_ .f32 0x00000000#32),
    unary main_cst_3 main_v32 (broadcastInDim S8x4096x3072 ![] bcast_S_S8x4096x3072 : (⟨S_, .f32⟩ : BufTy).Contents (Elt F) → (⟨S8x4096x3072, .f32⟩ : BufTy).Contents (Elt F)),
    binary main_v32 main_v31 main_v33 (addf : (⟨S8x4096x3072, .f32⟩ : BufTy).Contents (Elt F) → (⟨S8x4096x3072, .f32⟩ : BufTy).Contents (Elt F) → (⟨S8x4096x3072, .f32⟩ : BufTy).Contents (Elt F)),
    unary main_v25 main_v34 ((extractStridedSlice S8x4096x3072 ![0, 1, 0] · slices_S8x4099x3072_S8x4096x3072_0_1_0) : (⟨S8x4099x3072, .f32⟩ : BufTy).Contents (Elt F) → (⟨S8x4096x3072, .f32⟩ : BufTy).Contents (Elt F)),
    unary main_arg5 main_v35 ((extractStridedSlice S1x3072 ![1, 0] · slices_S4x3072_S1x3072_1_0) : (⟨S4x3072, .f32⟩ : BufTy).Contents (Elt F) → (⟨S1x3072, .f32⟩ : BufTy).Contents (Elt F)),
    reshape main_v35 main_v36 (rfl : (.f32 : EltTy) = .f32) shapeCasts_S1x3072_S3072,
    unary main_v36 main_v37 (broadcastInDim S1x1x3072 ![2] bcast_S3072_S1x1x3072_2 : (⟨S3072, .f32⟩ : BufTy).Contents (Elt F) → (⟨S1x1x3072, .f32⟩ : BufTy).Contents (Elt F)),
    unary main_v37 main_v38 (broadcastInDim S8x4096x3072 ![0, 1, 2] bcast_S1x1x3072_S8x4096x3072_0_1_2 : (⟨S1x1x3072, .f32⟩ : BufTy).Contents (Elt F) → (⟨S8x4096x3072, .f32⟩ : BufTy).Contents (Elt F)),
    binary main_v34 main_v38 main_v39 (mulf : (⟨S8x4096x3072, .f32⟩ : BufTy).Contents (Elt F) → (⟨S8x4096x3072, .f32⟩ : BufTy).Contents (Elt F) → (⟨S8x4096x3072, .f32⟩ : BufTy).Contents (Elt F)),
    binary main_v33 main_v39 main_v40 (addf : (⟨S8x4096x3072, .f32⟩ : BufTy).Contents (Elt F) → (⟨S8x4096x3072, .f32⟩ : BufTy).Contents (Elt F) → (⟨S8x4096x3072, .f32⟩ : BufTy).Contents (Elt F)),
    unary main_v25 main_v41 ((extractStridedSlice S8x4096x3072 ![0, 2, 0] · slices_S8x4099x3072_S8x4096x3072_0_2_0) : (⟨S8x4099x3072, .f32⟩ : BufTy).Contents (Elt F) → (⟨S8x4096x3072, .f32⟩ : BufTy).Contents (Elt F)),
    unary main_arg5 main_v42 ((extractStridedSlice S1x3072 ![2, 0] · slices_S4x3072_S1x3072_2_0) : (⟨S4x3072, .f32⟩ : BufTy).Contents (Elt F) → (⟨S1x3072, .f32⟩ : BufTy).Contents (Elt F)),
    reshape main_v42 main_v43 (rfl : (.f32 : EltTy) = .f32) shapeCasts_S1x3072_S3072,
    unary main_v43 main_v44 (broadcastInDim S1x1x3072 ![2] bcast_S3072_S1x1x3072_2 : (⟨S3072, .f32⟩ : BufTy).Contents (Elt F) → (⟨S1x1x3072, .f32⟩ : BufTy).Contents (Elt F)),
    unary main_v44 main_v45 (broadcastInDim S8x4096x3072 ![0, 1, 2] bcast_S1x1x3072_S8x4096x3072_0_1_2 : (⟨S1x1x3072, .f32⟩ : BufTy).Contents (Elt F) → (⟨S8x4096x3072, .f32⟩ : BufTy).Contents (Elt F)),
    binary main_v41 main_v45 main_v46 (mulf : (⟨S8x4096x3072, .f32⟩ : BufTy).Contents (Elt F) → (⟨S8x4096x3072, .f32⟩ : BufTy).Contents (Elt F) → (⟨S8x4096x3072, .f32⟩ : BufTy).Contents (Elt F)),
    binary main_v40 main_v46 main_v47 (addf : (⟨S8x4096x3072, .f32⟩ : BufTy).Contents (Elt F) → (⟨S8x4096x3072, .f32⟩ : BufTy).Contents (Elt F) → (⟨S8x4096x3072, .f32⟩ : BufTy).Contents (Elt F)),
    unary main_v25 main_v48 ((extractStridedSlice S8x4096x3072 ![0, 3, 0] · slices_S8x4099x3072_S8x4096x3072_0_3_0) : (⟨S8x4099x3072, .f32⟩ : BufTy).Contents (Elt F) → (⟨S8x4096x3072, .f32⟩ : BufTy).Contents (Elt F)),
    unary main_arg5 main_v49 ((extractStridedSlice S1x3072 ![3, 0] · slices_S4x3072_S1x3072_3_0) : (⟨S4x3072, .f32⟩ : BufTy).Contents (Elt F) → (⟨S1x3072, .f32⟩ : BufTy).Contents (Elt F)),
    reshape main_v49 main_v50 (rfl : (.f32 : EltTy) = .f32) shapeCasts_S1x3072_S3072,
    unary main_v50 main_v51 (broadcastInDim S1x1x3072 ![2] bcast_S3072_S1x1x3072_2 : (⟨S3072, .f32⟩ : BufTy).Contents (Elt F) → (⟨S1x1x3072, .f32⟩ : BufTy).Contents (Elt F)),
    unary main_v51 main_v52 (broadcastInDim S8x4096x3072 ![0, 1, 2] bcast_S1x1x3072_S8x4096x3072_0_1_2 : (⟨S1x1x3072, .f32⟩ : BufTy).Contents (Elt F) → (⟨S8x4096x3072, .f32⟩ : BufTy).Contents (Elt F)) ]

/-- @main's operations 61 … 61 of 115 (window `main_part0`). -/
abbrev ops_part0_2 : List (HloOp τ sig (Elt F)) :=
  [ binary main_v48 main_v52 main_v53 (mulf : (⟨S8x4096x3072, .f32⟩ : BufTy).Contents (Elt F) → (⟨S8x4096x3072, .f32⟩ : BufTy).Contents (Elt F) → (⟨S8x4096x3072, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 62 … 115 of 115 (window `main_part1`). -/
abbrev ops_part1 : List (HloOp τ sig (Elt F)) :=
  [ binary main_v47 main_v53 main_v54 (addf : (⟨S8x4096x3072, .f32⟩ : BufTy).Contents (Elt F) → (⟨S8x4096x3072, .f32⟩ : BufTy).Contents (Elt F) → (⟨S8x4096x3072, .f32⟩ : BufTy).Contents (Elt F)),
    TRef.unary (TRef.of (T := ⟨S8x4096x3072, .f32⟩) main_v54) (TRef.of (T := ⟨S8x4096x3072, .f32⟩) main_call1_v0) Host.negf,
    TRef.unary (TRef.of (T := ⟨S8x4096x3072, .f32⟩) main_call1_v0) (TRef.of (T := ⟨S8x4096x3072, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S8x4096x3072, .f32⟩) main_call1_v2) (broadcastInDim S8x4096x3072 ![] bcast_S_S8x4096x3072),
    TRef.binary (TRef.of (T := ⟨S8x4096x3072, .f32⟩) main_call1_v2) (TRef.of (T := ⟨S8x4096x3072, .f32⟩) main_call1_v1) (TRef.of (T := ⟨S8x4096x3072, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S8x4096x3072, .f32⟩) main_call1_v4) (broadcastInDim S8x4096x3072 ![] bcast_S_S8x4096x3072),
    TRef.binary (TRef.of (T := ⟨S8x4096x3072, .f32⟩) main_call1_v4) (TRef.of (T := ⟨S8x4096x3072, .f32⟩) main_call1_v3) (TRef.of (T := ⟨S8x4096x3072, .f32⟩) main_call1_v5) Host.divf,
    TRef.binary (TRef.of (T := ⟨S8x4096x3072, .f32⟩) main_v54) (TRef.of (T := ⟨S8x4096x3072, .f32⟩) main_call1_v5) (TRef.of (T := ⟨S8x4096x3072, .f32⟩) main_v55) mulf,
    unary main_v55 main_v56 ((extractStridedSlice S8x4096x1024 ![0, 0, 0] · slices_S8x4096x3072_S8x4096x1024_0_0_0) : (⟨S8x4096x3072, .f32⟩ : BufTy).Contents (Elt F) → (⟨S8x4096x1024, .f32⟩ : BufTy).Contents (Elt F)),
    reshape main_v56 main_v57 (rfl : (.f32 : EltTy) = .f32) shapeCasts_S8x4096x1024_S8x4096x8x128,
    binary main_v57 main_v57 main_v58 (mulf : (⟨S8x4096x8x128, .f32⟩ : BufTy).Contents (Elt F) → (⟨S8x4096x8x128, .f32⟩ : BufTy).Contents (Elt F) → (⟨S8x4096x8x128, .f32⟩ : BufTy).Contents (Elt F)),
    nullary main_cst_4 (constant S_ .f32 0x00000000#32),
    binary main_v58 main_cst_4 main_v59 ((fun x v => Host.reduceAdd x v reducesTo_S8x4096x8x128_S8x4096x8_d3 h_S_) : (⟨S8x4096x8x128, .f32⟩ : BufTy).Contents (Elt F) → (⟨S_, .f32⟩ : BufTy).Contents (Elt F) → (⟨S8x4096x8, .f32⟩ : BufTy).Contents (Elt F)),
    unary main_v59 main_v60 (broadcastInDim S8x4096x8x1 ![0, 1, 2] bcast_S8x4096x8_S8x4096x8x1_0_1_2 : (⟨S8x4096x8, .f32⟩ : BufTy).Contents (Elt F) → (⟨S8x4096x8x1, .f32⟩ : BufTy).Contents (Elt F)),
    nullary main_cst_5 (constant S_ .f32 0x358637BD#32),
    unary main_cst_5 main_v61 (broadcastInDim S8x4096x8x1 ![] bcast_S_S8x4096x8x1 : (⟨S_, .f32⟩ : BufTy).Contents (Elt F) → (⟨S8x4096x8x1, .f32⟩ : BufTy).Contents (Elt F)),
    binary main_v60 main_v61 main_v62 (addf : (⟨S8x4096x8x1, .f32⟩ : BufTy).Contents (Elt F) → (⟨S8x4096x8x1, .f32⟩ : BufTy).Contents (Elt F) → (⟨S8x4096x8x1, .f32⟩ : BufTy).Contents (Elt F)),
    unary main_v62 main_v63 (Host.rsqrt : (⟨S8x4096x8x1, .f32⟩ : BufTy).Contents (Elt F) → (⟨S8x4096x8x1, .f32⟩ : BufTy).Contents (Elt F)),
    unary main_v63 main_v64 (broadcastInDim S8x4096x8x128 ![0, 1, 2, 3] bcast_S8x4096x8x1_S8x4096x8x128_0_1_2_3 : (⟨S8x4096x8x1, .f32⟩ : BufTy).Contents (Elt F) → (⟨S8x4096x8x128, .f32⟩ : BufTy).Contents (Elt F)),
    binary main_v57 main_v64 main_v65 (mulf : (⟨S8x4096x8x128, .f32⟩ : BufTy).Contents (Elt F) → (⟨S8x4096x8x128, .f32⟩ : BufTy).Contents (Elt F) → (⟨S8x4096x8x128, .f32⟩ : BufTy).Contents (Elt F)),
    nullary main_cst_6 (constant S_ .f32 0x3DB504F3#32),
    unary main_cst_6 main_v66 (broadcastInDim S8x4096x8x128 ![] bcast_S_S8x4096x8x128 : (⟨S_, .f32⟩ : BufTy).Contents (Elt F) → (⟨S8x4096x8x128, .f32⟩ : BufTy).Contents (Elt F)),
    binary main_v65 main_v66 main_v67 (mulf : (⟨S8x4096x8x128, .f32⟩ : BufTy).Contents (Elt F) → (⟨S8x4096x8x128, .f32⟩ : BufTy).Contents (Elt F) → (⟨S8x4096x8x128, .f32⟩ : BufTy).Contents (Elt F)),
    reshape main_v67 main_v68 (rfl : (.f32 : EltTy) = .f32) shapeCasts_S8x4096x8x128_S8x4096x1024,
    unary main_v55 main_v69 ((extractStridedSlice S8x4096x1024 ![0, 0, 1024] · slices_S8x4096x3072_S8x4096x1024_0_0_1024) : (⟨S8x4096x3072, .f32⟩ : BufTy).Contents (Elt F) → (⟨S8x4096x1024, .f32⟩ : BufTy).Contents (Elt F)),
    reshape main_v69 main_v70 (rfl : (.f32 : EltTy) = .f32) shapeCasts_S8x4096x1024_S8x4096x8x128,
    binary main_v70 main_v70 main_v71 (mulf : (⟨S8x4096x8x128, .f32⟩ : BufTy).Contents (Elt F) → (⟨S8x4096x8x128, .f32⟩ : BufTy).Contents (Elt F) → (⟨S8x4096x8x128, .f32⟩ : BufTy).Contents (Elt F)),
    nullary main_cst_7 (constant S_ .f32 0x00000000#32),
    binary main_v71 main_cst_7 main_v72 ((fun x v => Host.reduceAdd x v reducesTo_S8x4096x8x128_S8x4096x8_d3 h_S_) : (⟨S8x4096x8x128, .f32⟩ : BufTy).Contents (Elt F) → (⟨S_, .f32⟩ : BufTy).Contents (Elt F) → (⟨S8x4096x8, .f32⟩ : BufTy).Contents (Elt F)),
    unary main_v72 main_v73 (broadcastInDim S8x4096x8x1 ![0, 1, 2] bcast_S8x4096x8_S8x4096x8x1_0_1_2 : (⟨S8x4096x8, .f32⟩ : BufTy).Contents (Elt F) → (⟨S8x4096x8x1, .f32⟩ : BufTy).Contents (Elt F)),
    nullary main_cst_8 (constant S_ .f32 0x358637BD#32),
    unary main_cst_8 main_v74 (broadcastInDim S8x4096x8x1 ![] bcast_S_S8x4096x8x1 : (⟨S_, .f32⟩ : BufTy).Contents (Elt F) → (⟨S8x4096x8x1, .f32⟩ : BufTy).Contents (Elt F)),
    binary main_v73 main_v74 main_v75 (addf : (⟨S8x4096x8x1, .f32⟩ : BufTy).Contents (Elt F) → (⟨S8x4096x8x1, .f32⟩ : BufTy).Contents (Elt F) → (⟨S8x4096x8x1, .f32⟩ : BufTy).Contents (Elt F)),
    unary main_v75 main_v76 (Host.rsqrt : (⟨S8x4096x8x1, .f32⟩ : BufTy).Contents (Elt F) → (⟨S8x4096x8x1, .f32⟩ : BufTy).Contents (Elt F)),
    unary main_v76 main_v77 (broadcastInDim S8x4096x8x128 ![0, 1, 2, 3] bcast_S8x4096x8x1_S8x4096x8x128_0_1_2_3 : (⟨S8x4096x8x1, .f32⟩ : BufTy).Contents (Elt F) → (⟨S8x4096x8x128, .f32⟩ : BufTy).Contents (Elt F)),
    binary main_v70 main_v77 main_v78 (mulf : (⟨S8x4096x8x128, .f32⟩ : BufTy).Contents (Elt F) → (⟨S8x4096x8x128, .f32⟩ : BufTy).Contents (Elt F) → (⟨S8x4096x8x128, .f32⟩ : BufTy).Contents (Elt F)),
    reshape main_v78 main_v79 (rfl : (.f32 : EltTy) = .f32) shapeCasts_S8x4096x8x128_S8x4096x1024,
    unary main_v55 main_v80 ((extractStridedSlice S8x4096x1024 ![0, 0, 2048] · slices_S8x4096x3072_S8x4096x1024_0_0_2048) : (⟨S8x4096x3072, .f32⟩ : BufTy).Contents (Elt F) → (⟨S8x4096x1024, .f32⟩ : BufTy).Contents (Elt F)),
    nary ![main_v68, main_v79, main_v80] main_v81 (fun u => fn_main_v81 (F := F) (u 0) (u 1) (u 2)),
    unary main_v81 main_v82 ((truncf .bf16 · bitsLt_bf16_f32) : (⟨S8x4096x3072, .f32⟩ : BufTy).Contents (Elt F) → (⟨S8x4096x3072, .bf16⟩ : BufTy).Contents (Elt F)),
    unary main_v23 main_v83 ((extractStridedSlice S8x4096x1024 ![0, 0, 3072] · slices_S8x4096x4096_S8x4096x1024_0_0_3072) : (⟨S8x4096x4096, .f32⟩ : BufTy).Contents (Elt F) → (⟨S8x4096x1024, .f32⟩ : BufTy).Contents (Elt F)),
    TRef.unary (TRef.of (T := ⟨S8x4096x1024, .f32⟩) main_v83) (TRef.of (T := ⟨S8x4096x1024, .f32⟩) main_call2_v0) Host.negf,
    TRef.unary (TRef.of (T := ⟨S8x4096x1024, .f32⟩) main_call2_v0) (TRef.of (T := ⟨S8x4096x1024, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S8x4096x1024, .f32⟩) main_call2_v2) (broadcastInDim S8x4096x1024 ![] bcast_S_S8x4096x1024),
    TRef.binary (TRef.of (T := ⟨S8x4096x1024, .f32⟩) main_call2_v2) (TRef.of (T := ⟨S8x4096x1024, .f32⟩) main_call2_v1) (TRef.of (T := ⟨S8x4096x1024, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S8x4096x1024, .f32⟩) main_call2_v4) (broadcastInDim S8x4096x1024 ![] bcast_S_S8x4096x1024),
    TRef.binary (TRef.of (T := ⟨S8x4096x1024, .f32⟩) main_call2_v4) (TRef.of (T := ⟨S8x4096x1024, .f32⟩) main_call2_v3) (TRef.of (T := ⟨S8x4096x1024, .f32⟩) main_call2_v5) Host.divf,
    TRef.binary (TRef.of (T := ⟨S8x4096x1024, .f32⟩) main_v83) (TRef.of (T := ⟨S8x4096x1024, .f32⟩) main_call2_v5) (TRef.of (T := ⟨S8x4096x1024, .f32⟩) main_v84) mulf,
    unary main_v84 main_v85 ((truncf .bf16 · bitsLt_bf16_f32) : (⟨S8x4096x1024, .f32⟩ : BufTy).Contents (Elt F) → (⟨S8x4096x1024, .bf16⟩ : BufTy).Contents (Elt F)),
    binary main_v22 main_v1 main_v86 ((fun l r => Host.dotGeneral dot_S8x4096x1024_S1024x16_S8x4096x16_2_0_01_1_n_n none l r) : (⟨S8x4096x1024, .f32⟩ : BufTy).Contents (Elt F) → (⟨S1024x16, .f32⟩ : BufTy).Contents (Elt F) → (⟨S8x4096x16, .f32⟩ : BufTy).Contents (Elt F)) ]

/-- @main's 115 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., unary_bufs_sub .., unary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., nullary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., binary_bufs_sub .., unary_bufs_sub .., unary_bufs_sub .., reshape_bufs_sub .., unary_bufs_sub .., unary_bufs_sub .., binary_bufs_sub .., nullary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  binary_bufs_sub ..
set_option maxRecDepth 8192 in
theorem ops_part0_2_fresh : (ops_part0_2 : List (HloOp τ sig (Elt F))).Forall fun op => op.fresh = ∅ :=
  rfl
set_option maxRecDepth 8192 in
theorem ops_part1_sub : (ops_part1 : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., unary_bufs_sub .., unary_bufs_sub .., binary_bufs_sub .., nullary_bufs_sub .., unary_bufs_sub .., binary_bufs_sub .., reshape_bufs_sub .., unary_bufs_sub .., reshape_bufs_sub .., binary_bufs_sub .., nullary_bufs_sub .., binary_bufs_sub .., unary_bufs_sub .., nullary_bufs_sub .., unary_bufs_sub .., binary_bufs_sub .., unary_bufs_sub .., unary_bufs_sub .., binary_bufs_sub .., reshape_bufs_sub .., unary_bufs_sub .., nary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h]

set_option maxRecDepth 8192 in
/-- `main_v22`'s composed term of the arguments (named: it is used 2 times). -/
def res_main_v22 (V0 : Valuation τ sig (Elt F)) : (Proc.devRef .tc main_v22 : DevRef τ sig).ty.Contents (Elt F) :=
  addf (mulf (mulf (mulf (V0 (Proc.devRef .tc main_arg0)) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (V0 (Proc.devRef .tc main_arg0)) (V0 (Proc.devRef .tc main_arg0))) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![1, 2] bcast_S1x1024_S1x1x1024_1_2 (V0 (Proc.devRef .tc main_arg2))))) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 1024] (V0 (Proc.devRef .tc main_arg1)) slices_S8x1x6144_S8x1x1024_0_0_1024)))) (broadcastInDim S8x4096x1024 ![0, 1, 2] bcast_S8x1x1024_S8x4096x1024_0_1_2 (extractStridedSlice S8x1x1024 ![0, 0, 0] (V0 (Proc.devRef .tc main_arg1)) slices_S8x1x6144_S8x1x1024_0_0_0))

set_option maxRecDepth 8192 in
/-- `main_v23`'s composed term of the arguments (named: it is used 2 times). -/
def res_main_v23 (V0 : Valuation τ sig (Elt F)) : (Proc.devRef .tc main_v23 : DevRef τ sig).ty.Contents (Elt F) :=
  Host.dotGeneral dot_S8x4096x1024_S1024x4096_S8x4096x4096_2_0_01_1_n_n none (res_main_v22 V0) (extf .f32 (V0 (Proc.devRef .tc main_arg3)) bitsLt_bf16_f32)

set_option maxRecDepth 8192 in
/-- `main_v25`'s composed term of the arguments (named: it is used 4 times). -/
def res_main_v25 (V0 : Valuation τ sig (Elt F)) : (Proc.devRef .tc main_v25 : DevRef τ sig).ty.Contents (Elt F) :=
  pad S8x4099x3072 ![0, 3, 0] ![0, 0, 0] ![0, 0, 0] (extractStridedSlice S8x4096x3072 ![0, 0, 0] (res_main_v23 V0) slices_S8x4096x4096_S8x4096x3072_0_0_0) (sitofp .f32 (constantI S_ 32 0#32)) pads_S8x4096x3072_S8x4099x3072_000_300_000 h_S_

set_option maxRecDepth 8192 in
/-- `main_v54`'s composed term of the arguments (named: it is used 2 times). -/
def res_main_v54 (V0 : Valuation τ sig (Elt F)) : (Proc.devRef .tc main_v54 : DevRef τ sig).ty.Contents (Elt F) :=
  addf (addf (addf (addf (broadcastInDim S8x4096x3072 ![] bcast_S_S8x4096x3072 (constant S_ .f32 0x00000000#32)) (mulf (extractStridedSlice S8x4096x3072 ![0, 0, 0] (res_main_v25 V0) slices_S8x4099x3072_S8x4096x3072_0_0_0) (broadcastInDim S8x4096x3072 ![0, 1, 2] bcast_S1x1x3072_S8x4096x3072_0_1_2 (broadcastInDim S1x1x3072 ![2] bcast_S3072_S1x1x3072_2 (shapeCast _ (extractStridedSlice S1x3072 ![0, 0] (V0 (Proc.devRef .tc main_arg5)) slices_S4x3072_S1x3072_0_0) shapeCasts_S1x3072_S3072))))) (mulf (extractStridedSlice S8x4096x3072 ![0, 1, 0] (res_main_v25 V0) slices_S8x4099x3072_S8x4096x3072_0_1_0) (broadcastInDim S8x4096x3072 ![0, 1, 2] bcast_S1x1x3072_S8x4096x3072_0_1_2 (broadcastInDim S1x1x3072 ![2] bcast_S3072_S1x1x3072_2 (shapeCast _ (extractStridedSlice S1x3072 ![1, 0] (V0 (Proc.devRef .tc main_arg5)) slices_S4x3072_S1x3072_1_0) shapeCasts_S1x3072_S3072))))) (mulf (extractStridedSlice S8x4096x3072 ![0, 2, 0] (res_main_v25 V0) slices_S8x4099x3072_S8x4096x3072_0_2_0) (broadcastInDim S8x4096x3072 ![0, 1, 2] bcast_S1x1x3072_S8x4096x3072_0_1_2 (broadcastInDim S1x1x3072 ![2] bcast_S3072_S1x1x3072_2 (shapeCast _ (extractStridedSlice S1x3072 ![2, 0] (V0 (Proc.devRef .tc main_arg5)) slices_S4x3072_S1x3072_2_0) shapeCasts_S1x3072_S3072))))) (mulf (extractStridedSlice S8x4096x3072 ![0, 3, 0] (res_main_v25 V0) slices_S8x4099x3072_S8x4096x3072_0_3_0) (broadcastInDim S8x4096x3072 ![0, 1, 2] bcast_S1x1x3072_S8x4096x3072_0_1_2 (broadcastInDim S1x1x3072 ![2] bcast_S3072_S1x1x3072_2 (shapeCast _ (extractStridedSlice S1x3072 ![3, 0] (V0 (Proc.devRef .tc main_arg5)) slices_S4x3072_S1x3072_3_0) shapeCasts_S1x3072_S3072))))

set_option maxRecDepth 8192 in
/-- `main_v55`'s composed term of the arguments (named: it is used 3 times). -/
def res_main_v55 (V0 : Valuation τ sig (Elt F)) : (Proc.devRef .tc main_v55 : DevRef τ sig).ty.Contents (Elt F) :=
  mulf (res_main_v54 V0) (Host.divf (broadcastInDim S8x4096x3072 ![] bcast_S_S8x4096x3072 (constant S_ .f32 0x3F800000#32)) (addf (broadcastInDim S8x4096x3072 ![] bcast_S_S8x4096x3072 (constant S_ .f32 0x3F800000#32)) (Host.exp (Host.negf (res_main_v54 V0)))))

set_option maxRecDepth 8192 in
/-- `main_v57`'s composed term of the arguments (named: it is used 3 times). -/
def res_main_v57 (V0 : Valuation τ sig (Elt F)) : (Proc.devRef .tc main_v57 : DevRef τ sig).ty.Contents (Elt F) :=
  shapeCast _ (extractStridedSlice S8x4096x1024 ![0, 0, 0] (res_main_v55 V0) slices_S8x4096x3072_S8x4096x1024_0_0_0) shapeCasts_S8x4096x1024_S8x4096x8x128

set_option maxRecDepth 8192 in
/-- `main_v70`'s composed term of the arguments (named: it is used 3 times). -/
def res_main_v70 (V0 : Valuation τ sig (Elt F)) : (Proc.devRef .tc main_v70 : DevRef τ sig).ty.Contents (Elt F) :=
  shapeCast _ (extractStridedSlice S8x4096x1024 ![0, 0, 1024] (res_main_v55 V0) slices_S8x4096x3072_S8x4096x1024_0_0_1024) shapeCasts_S8x4096x1024_S8x4096x8x128

set_option maxRecDepth 8192 in
/-- `main_v83`'s composed term of the arguments (named: it is used 2 times). -/
def res_main_v83 (V0 : Valuation τ sig (Elt F)) : (Proc.devRef .tc main_v83 : DevRef τ sig).ty.Contents (Elt F) :=
  extractStridedSlice S8x4096x1024 ![0, 0, 3072] (res_main_v23 V0) slices_S8x4096x4096_S8x4096x1024_0_0_3072

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_cst, main_v5, main_v6, main_cst_0, main_v7, main_v8, main_cst_1, main_v9, main_v10, main_v11, main_v12, main_v13, main_v14, main_v15, main_v16, main_cst_2, main_v17, main_v18, main_v19, main_v20, main_v21, main_v22, main_v23, main_v24, main_c]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
set_option maxRecDepth 8192 in
set_option maxHeartbeats 2000000 in
theorem val0_1_main_v1 (V0 : Valuation τ sig (Elt F)) : val0_1 V0 (no_index (Proc.devRef .tc main_v1)) = extf .f32 (V0 (Proc.devRef .tc main_arg4)) bitsLt_bf16_f32 := by
  unfold val0_1
  simp only [ops_part0_0]
  after_results_simp
  simp only [val0_main_arg4] <;> rfl
set_option maxRecDepth 8192 in
set_option maxHeartbeats 2000000 in
theorem val0_1_main_v22 (V0 : Valuation τ sig (Elt F)) : val0_1 V0 (no_index (Proc.devRef .tc main_v22)) = res_main_v22 V0 := by
  unfold val0_1
  simp only [ops_part0_0]
  after_results_simp
  simp only [val0_main_arg1, val0_main_arg2, val0_main_arg0] <;> rfl
set_option maxRecDepth 8192 in
set_option maxHeartbeats 2000000 in
theorem val0_1_main_v23 (V0 : Valuation τ sig (Elt F)) : val0_1 V0 (no_index (Proc.devRef .tc main_v23)) = res_main_v23 V0 := by
  unfold val0_1
  simp only [ops_part0_0]
  after_results_simp
  simp only [val0_main_arg3, val0_main_arg1, val0_main_arg2, val0_main_arg0] <;> rfl
set_option maxRecDepth 8192 in
set_option maxHeartbeats 2000000 in
theorem val0_1_main_v24 (V0 : Valuation τ sig (Elt F)) : val0_1 V0 (no_index (Proc.devRef .tc main_v24)) = extractStridedSlice S8x4096x3072 ![0, 0, 0] (res_main_v23 V0) slices_S8x4096x4096_S8x4096x3072_0_0_0 := by
  unfold val0_1
  simp only [ops_part0_0]
  after_results_simp
  simp only [val0_main_arg3, val0_main_arg1, val0_main_arg2, val0_main_arg0] <;> rfl
set_option maxRecDepth 8192 in
set_option maxHeartbeats 2000000 in
theorem val0_1_main_c (V0 : Valuation τ sig (Elt F)) : val0_1 V0 (no_index (Proc.devRef .tc main_c)) = constantI S_ 32 0#32 := by
  unfold val0_1
  simp only [ops_part0_0]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call0_v0, main_v25, main_v26, main_v27, main_v28, main_v29, main_v30, main_v31, main_cst_3, main_v32, main_v33, main_v34, main_v35, main_v36, main_v37, main_v38, main_v39, main_v40, main_v41, main_v42, main_v43, main_v44, main_v45, main_v46, main_v47, main_v48, main_v49, main_v50, main_v51, main_v52]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_v1 (V0 : Valuation τ sig (Elt F)) : val0_2 V0 (no_index (Proc.devRef .tc main_v1)) = extf .f32 (V0 (Proc.devRef .tc main_arg4)) bitsLt_bf16_f32 :=
  (val0_2_keep V0 main_v1 (by decide)).trans (val0_1_main_v1 V0)
theorem val0_2_main_v22 (V0 : Valuation τ sig (Elt F)) : val0_2 V0 (no_index (Proc.devRef .tc main_v22)) = res_main_v22 V0 :=
  (val0_2_keep V0 main_v22 (by decide)).trans (val0_1_main_v22 V0)
theorem val0_2_main_v23 (V0 : Valuation τ sig (Elt F)) : val0_2 V0 (no_index (Proc.devRef .tc main_v23)) = res_main_v23 V0 :=
  (val0_2_keep V0 main_v23 (by decide)).trans (val0_1_main_v23 V0)
set_option maxRecDepth 8192 in
set_option maxHeartbeats 2000000 in
theorem val0_2_main_v47 (V0 : Valuation τ sig (Elt F)) : val0_2 V0 (no_index (Proc.devRef .tc main_v47)) = addf (addf (addf (broadcastInDim S8x4096x3072 ![] bcast_S_S8x4096x3072 (constant S_ .f32 0x00000000#32)) (mulf (extractStridedSlice S8x4096x3072 ![0, 0, 0] (res_main_v25 V0) slices_S8x4099x3072_S8x4096x3072_0_0_0) (broadcastInDim S8x4096x3072 ![0, 1, 2] bcast_S1x1x3072_S8x4096x3072_0_1_2 (broadcastInDim S1x1x3072 ![2] bcast_S3072_S1x1x3072_2 (shapeCast _ (extractStridedSlice S1x3072 ![0, 0] (V0 (Proc.devRef .tc main_arg5)) slices_S4x3072_S1x3072_0_0) shapeCasts_S1x3072_S3072))))) (mulf (extractStridedSlice S8x4096x3072 ![0, 1, 0] (res_main_v25 V0) slices_S8x4099x3072_S8x4096x3072_0_1_0) (broadcastInDim S8x4096x3072 ![0, 1, 2] bcast_S1x1x3072_S8x4096x3072_0_1_2 (broadcastInDim S1x1x3072 ![2] bcast_S3072_S1x1x3072_2 (shapeCast _ (extractStridedSlice S1x3072 ![1, 0] (V0 (Proc.devRef .tc main_arg5)) slices_S4x3072_S1x3072_1_0) shapeCasts_S1x3072_S3072))))) (mulf (extractStridedSlice S8x4096x3072 ![0, 2, 0] (res_main_v25 V0) slices_S8x4099x3072_S8x4096x3072_0_2_0) (broadcastInDim S8x4096x3072 ![0, 1, 2] bcast_S1x1x3072_S8x4096x3072_0_1_2 (broadcastInDim S1x1x3072 ![2] bcast_S3072_S1x1x3072_2 (shapeCast _ (extractStridedSlice S1x3072 ![2, 0] (V0 (Proc.devRef .tc main_arg5)) slices_S4x3072_S1x3072_2_0) shapeCasts_S1x3072_S3072)))) := by
  unfold val0_2
  simp only [ops_part0_1, TRef.binary, TRef.unary, TRef.toBuf, TRef.ofBuf, cast_eq]
  after_results_simp
  simp only [val0_1_main_arg5, val0_1_main_c, val0_1_main_v24] <;> rfl
set_option maxRecDepth 8192 in
set_option maxHeartbeats 2000000 in
theorem val0_2_main_v48 (V0 : Valuation τ sig (Elt F)) : val0_2 V0 (no_index (Proc.devRef .tc main_v48)) = extractStridedSlice S8x4096x3072 ![0, 3, 0] (res_main_v25 V0) slices_S8x4099x3072_S8x4096x3072_0_3_0 := by
  unfold val0_2
  simp only [ops_part0_1, TRef.binary, TRef.unary, TRef.toBuf, TRef.ofBuf, cast_eq]
  after_results_simp
  simp only [val0_1_main_c, val0_1_main_v24] <;> rfl
set_option maxRecDepth 8192 in
set_option maxHeartbeats 2000000 in
theorem val0_2_main_v52 (V0 : Valuation τ sig (Elt F)) : val0_2 V0 (no_index (Proc.devRef .tc main_v52)) = broadcastInDim S8x4096x3072 ![0, 1, 2] bcast_S1x1x3072_S8x4096x3072_0_1_2 (broadcastInDim S1x1x3072 ![2] bcast_S3072_S1x1x3072_2 (shapeCast _ (extractStridedSlice S1x3072 ![3, 0] (V0 (Proc.devRef .tc main_arg5)) slices_S4x3072_S1x3072_3_0) shapeCasts_S1x3072_S3072)) := by
  unfold val0_2
  simp only [ops_part0_1, TRef.binary, TRef.unary, TRef.toBuf, TRef.ofBuf, cast_eq]
  after_results_simp
  simp only [val0_1_main_arg5] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v53]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
theorem val1_main_v1 (V0 : Valuation τ sig (Elt F)) : val1 V0 (no_index (Proc.devRef .tc main_v1)) = extf .f32 (V0 (Proc.devRef .tc main_arg4)) bitsLt_bf16_f32 :=
  (val1_keep V0 main_v1 (by decide)).trans (val0_2_main_v1 V0)
theorem val1_main_v22 (V0 : Valuation τ sig (Elt F)) : val1 V0 (no_index (Proc.devRef .tc main_v22)) = res_main_v22 V0 :=
  (val1_keep V0 main_v22 (by decide)).trans (val0_2_main_v22 V0)
theorem val1_main_v23 (V0 : Valuation τ sig (Elt F)) : val1 V0 (no_index (Proc.devRef .tc main_v23)) = res_main_v23 V0 :=
  (val1_keep V0 main_v23 (by decide)).trans (val0_2_main_v23 V0)
theorem val1_main_v47 (V0 : Valuation τ sig (Elt F)) : val1 V0 (no_index (Proc.devRef .tc main_v47)) = addf (addf (addf (broadcastInDim S8x4096x3072 ![] bcast_S_S8x4096x3072 (constant S_ .f32 0x00000000#32)) (mulf (extractStridedSlice S8x4096x3072 ![0, 0, 0] (res_main_v25 V0) slices_S8x4099x3072_S8x4096x3072_0_0_0) (broadcastInDim S8x4096x3072 ![0, 1, 2] bcast_S1x1x3072_S8x4096x3072_0_1_2 (broadcastInDim S1x1x3072 ![2] bcast_S3072_S1x1x3072_2 (shapeCast _ (extractStridedSlice S1x3072 ![0, 0] (V0 (Proc.devRef .tc main_arg5)) slices_S4x3072_S1x3072_0_0) shapeCasts_S1x3072_S3072))))) (mulf (extractStridedSlice S8x4096x3072 ![0, 1, 0] (res_main_v25 V0) slices_S8x4099x3072_S8x4096x3072_0_1_0) (broadcastInDim S8x4096x3072 ![0, 1, 2] bcast_S1x1x3072_S8x4096x3072_0_1_2 (broadcastInDim S1x1x3072 ![2] bcast_S3072_S1x1x3072_2 (shapeCast _ (extractStridedSlice S1x3072 ![1, 0] (V0 (Proc.devRef .tc main_arg5)) slices_S4x3072_S1x3072_1_0) shapeCasts_S1x3072_S3072))))) (mulf (extractStridedSlice S8x4096x3072 ![0, 2, 0] (res_main_v25 V0) slices_S8x4099x3072_S8x4096x3072_0_2_0) (broadcastInDim S8x4096x3072 ![0, 1, 2] bcast_S1x1x3072_S8x4096x3072_0_1_2 (broadcastInDim S1x1x3072 ![2] bcast_S3072_S1x1x3072_2 (shapeCast _ (extractStridedSlice S1x3072 ![2, 0] (V0 (Proc.devRef .tc main_arg5)) slices_S4x3072_S1x3072_2_0) shapeCasts_S1x3072_S3072)))) :=
  (val1_keep V0 main_v47 (by decide)).trans (val0_2_main_v47 V0)
set_option maxRecDepth 8192 in
theorem val1_main_v53 (V0 : Valuation τ sig (Elt F)) : val1 V0 (no_index (Proc.devRef .tc main_v53)) = mulf (extractStridedSlice S8x4096x3072 ![0, 3, 0] (res_main_v25 V0) slices_S8x4099x3072_S8x4096x3072_0_3_0) (broadcastInDim S8x4096x3072 ![0, 1, 2] bcast_S1x1x3072_S8x4096x3072_0_1_2 (broadcastInDim S1x1x3072 ![2] bcast_S3072_S1x1x3072_2 (shapeCast _ (extractStridedSlice S1x3072 ![3, 0] (V0 (Proc.devRef .tc main_arg5)) slices_S4x3072_S1x3072_3_0) shapeCasts_S1x3072_S3072))) := by
  unfold val1
  simp only [ops_part0_2]
  after_results_simp
  simp only [val0_2_main_v52, val0_2_main_v48] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v54, main_call1_v0, main_call1_v1, main_call1_cst, main_call1_v2, main_call1_v3, main_call1_cst_0, main_call1_v4, main_call1_v5, main_v55, main_v56, main_v57, main_v58, main_cst_4, main_v59, main_v60, main_cst_5, main_v61, main_v62, main_v63, main_v64, main_v65, main_cst_6, main_v66, main_v67, main_v68, main_v69, main_v70, main_v71, main_cst_7, main_v72, main_v73, main_cst_8, main_v74, main_v75, main_v76, main_v77, main_v78, main_v79, main_v80, main_v81, main_v82, main_v83, main_call2_v0, main_call2_v1, main_call2_cst, main_call2_v2, main_call2_v3, main_call2_cst_0, main_call2_v4, main_call2_v5, main_v84, main_v85, main_v86]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
set_option maxRecDepth 8192 in
set_option maxHeartbeats 2000000 in
theorem val2_main_v82 (V0 : Valuation τ sig (Elt F)) : val2 V0 (no_index (Proc.devRef .tc main_v82)) = truncf .bf16 ((concatenate S8x4096x3072 2 [⟨S8x4096x1024, ((shapeCast _ (mulf (mulf (res_main_v57 V0) (broadcastInDim S8x4096x8x128 ![0, 1, 2, 3] bcast_S8x4096x8x1_S8x4096x8x128_0_1_2_3 (Host.rsqrt (addf (broadcastInDim S8x4096x8x1 ![0, 1, 2] bcast_S8x4096x8_S8x4096x8x1_0_1_2 (Host.reduceAdd (mulf (res_main_v57 V0) (res_main_v57 V0)) (constant S_ .f32 0x00000000#32) reducesTo_S8x4096x8x128_S8x4096x8_d3 h_S_)) (broadcastInDim S8x4096x8x1 ![] bcast_S_S8x4096x8x1 (constant S_ .f32 0x358637BD#32)))))) (broadcastInDim S8x4096x8x128 ![] bcast_S_S8x4096x8x128 (constant S_ .f32 0x3DB504F3#32))) shapeCasts_S8x4096x8x128_S8x4096x1024) : (⟨S8x4096x1024, .f32⟩ : BufTy).Contents (Elt F))⟩, ⟨S8x4096x1024, ((shapeCast _ (mulf (res_main_v70 V0) (broadcastInDim S8x4096x8x128 ![0, 1, 2, 3] bcast_S8x4096x8x1_S8x4096x8x128_0_1_2_3 (Host.rsqrt (addf (broadcastInDim S8x4096x8x1 ![0, 1, 2] bcast_S8x4096x8_S8x4096x8x1_0_1_2 (Host.reduceAdd (mulf (res_main_v70 V0) (res_main_v70 V0)) (constant S_ .f32 0x00000000#32) reducesTo_S8x4096x8x128_S8x4096x8_d3 h_S_)) (broadcastInDim S8x4096x8x1 ![] bcast_S_S8x4096x8x1 (constant S_ .f32 0x358637BD#32)))))) shapeCasts_S8x4096x8x128_S8x4096x1024) : (⟨S8x4096x1024, .f32⟩ : BufTy).Contents (Elt F))⟩, ⟨S8x4096x1024, ((extractStridedSlice S8x4096x1024 ![0, 0, 2048] (res_main_v55 V0) slices_S8x4096x3072_S8x4096x1024_0_0_2048) : (⟨S8x4096x1024, .f32⟩ : BufTy).Contents (Elt F))⟩] concatenates_S8x4096x1024_S8x4096x1024_S8x4096x1024_S8x4096x3072_d2 : (⟨S8x4096x3072, .f32⟩ : BufTy).Contents (Elt F))) bitsLt_bf16_f32 := by
  unfold val2
  simp only [ops_part1, TRef.binary, TRef.nullary, TRef.unary, TRef.toBuf, TRef.ofBuf, cast_eq]
  after_results_simp
  try dsimp only [Matrix.cons_val]
  try after_results_simp
  simp only [val1_main_v53, val1_main_v47] <;> rfl
set_option maxRecDepth 8192 in
set_option maxHeartbeats 2000000 in
theorem val2_main_v85 (V0 : Valuation τ sig (Elt F)) : val2 V0 (no_index (Proc.devRef .tc main_v85)) = truncf .bf16 (mulf (res_main_v83 V0) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (res_main_v83 V0)))))) bitsLt_bf16_f32 := by
  unfold val2
  simp only [ops_part1, TRef.binary, TRef.nullary, TRef.unary, TRef.toBuf, TRef.ofBuf, cast_eq]
  after_results_simp
  try dsimp only [Matrix.cons_val]
  try after_results_simp
  simp only [val1_main_v23] <;> rfl
set_option maxRecDepth 8192 in
set_option maxHeartbeats 2000000 in
theorem val2_main_v86 (V0 : Valuation τ sig (Elt F)) : val2 V0 (no_index (Proc.devRef .tc main_v86)) = Host.dotGeneral dot_S8x4096x1024_S1024x16_S8x4096x16_2_0_01_1_n_n none (res_main_v22 V0) (extf .f32 (V0 (Proc.devRef .tc main_arg4)) bitsLt_bf16_f32) := by
  unfold val2
  simp only [ops_part1, TRef.binary, TRef.nullary, TRef.unary, TRef.toBuf, TRef.ofBuf, cast_eq]
  after_results_simp
  try dsimp only [Matrix.cons_val]
  try after_results_simp
  simp only [val1_main_v1, val1_main_v22] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82) = truncf .bf16 ((concatenate S8x4096x3072 2 [⟨S8x4096x1024, ((shapeCast _ (mulf (mulf (res_main_v57 (launchContents m c)) (broadcastInDim S8x4096x8x128 ![0, 1, 2, 3] bcast_S8x4096x8x1_S8x4096x8x128_0_1_2_3 (Host.rsqrt (addf (broadcastInDim S8x4096x8x1 ![0, 1, 2] bcast_S8x4096x8_S8x4096x8x1_0_1_2 (Host.reduceAdd (mulf (res_main_v57 (launchContents m c)) (res_main_v57 (launchContents m c))) (constant S_ .f32 0x00000000#32) reducesTo_S8x4096x8x128_S8x4096x8_d3 h_S_)) (broadcastInDim S8x4096x8x1 ![] bcast_S_S8x4096x8x1 (constant S_ .f32 0x358637BD#32)))))) (broadcastInDim S8x4096x8x128 ![] bcast_S_S8x4096x8x128 (constant S_ .f32 0x3DB504F3#32))) shapeCasts_S8x4096x8x128_S8x4096x1024) : (⟨S8x4096x1024, .f32⟩ : BufTy).Contents (Elt F))⟩, ⟨S8x4096x1024, ((shapeCast _ (mulf (res_main_v70 (launchContents m c)) (broadcastInDim S8x4096x8x128 ![0, 1, 2, 3] bcast_S8x4096x8x1_S8x4096x8x128_0_1_2_3 (Host.rsqrt (addf (broadcastInDim S8x4096x8x1 ![0, 1, 2] bcast_S8x4096x8_S8x4096x8x1_0_1_2 (Host.reduceAdd (mulf (res_main_v70 (launchContents m c)) (res_main_v70 (launchContents m c))) (constant S_ .f32 0x00000000#32) reducesTo_S8x4096x8x128_S8x4096x8_d3 h_S_)) (broadcastInDim S8x4096x8x1 ![] bcast_S_S8x4096x8x1 (constant S_ .f32 0x358637BD#32)))))) shapeCasts_S8x4096x8x128_S8x4096x1024) : (⟨S8x4096x1024, .f32⟩ : BufTy).Contents (Elt F))⟩, ⟨S8x4096x1024, ((extractStridedSlice S8x4096x1024 ![0, 0, 2048] (res_main_v55 (launchContents m c)) slices_S8x4096x3072_S8x4096x1024_0_0_2048) : (⟨S8x4096x1024, .f32⟩ : BufTy).Contents (Elt F))⟩] concatenates_S8x4096x1024_S8x4096x1024_S8x4096x1024_S8x4096x3072_d2 : (⟨S8x4096x3072, .f32⟩ : BufTy).Contents (Elt F))) bitsLt_bf16_f32
      ∧ r.2.mem ((c.tc : Thread nD τ).loc main_v85) = truncf .bf16 (mulf (res_main_v83 (launchContents m c)) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (res_main_v83 (launchContents m c))))))) bitsLt_bf16_f32
      ∧ r.2.mem ((c.tc : Thread nD τ).loc main_v86) = Host.dotGeneral dot_S8x4096x1024_S1024x16_S8x4096x16_2_0_01_1_n_n none (res_main_v22 (launchContents m c)) (extf .f32 ((launchContents m c) (Proc.devRef .tc main_arg4)) bitsLt_bf16_f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v82).trans ((congrFun (after_ops (launchContents m c)) (Proc.devRef .tc main_v82)).trans (val2_main_v82 (launchContents m c))),
      (h c main_v85).trans ((congrFun (after_ops (launchContents m c)) (Proc.devRef .tc main_v85)).trans (val2_main_v85 (launchContents m c))),
      (h c main_v86).trans ((congrFun (after_ops (launchContents m c)) (Proc.devRef .tc main_v86)).trans (val2_main_v86 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c))),
      (h c main_arg3).trans ((congrFun (after_ops (launchContents m c)) (Proc.devRef .tc main_arg3)).trans (val2_main_arg3 (launchContents m c))),
      (h c main_arg4).trans ((congrFun (after_ops (launchContents m c)) (Proc.devRef .tc main_arg4)).trans (val2_main_arg4 (launchContents m c))),
      (h c main_arg5).trans ((congrFun (after_ops (launchContents m c)) (Proc.devRef .tc main_arg5)).trans (val2_main_arg5 (launchContents m c)))⟩)
    (run_seq scopedRefs_eq scopedSems_eq defs main (fun _ => ops) main_eq (fun _ => ops_sub) m ρ fun _ => ops_fresh)

end Cert.Gdn.Ops

end
-- ==== Proof.GdnRun.lean ====
module

public import proofs.«01_k».proof.Proof.GdnRef
public import proofs.«01_k».proof.Proof.GdnList
public import Idealize.ShloMosaic.Lib.Claim

@[expose] public section

set_option maxRecDepth 100000

noncomputable section

namespace Cert.Gdn.Ref
open Cert.Reference3Ideal Cert.Reference3Ideal.Gen
open Idealize.ShloMosaic Idealize.SL.Sem

set_option maxHeartbeats 4000000 in
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v82) = QKV (SILU (CONV (PAST (PROJ (MODU (m ((c.tc : Thread nD τ).loc main_arg0)) (m ((c.tc : Thread nD τ).loc main_arg1)) (m ((c.tc : Thread nD τ).loc main_arg2)))
        (m ((c.tc : Thread nD τ).loc main_arg3)))) (m ((c.tc : Thread nD τ).loc main_arg5))))
      ∧ r.2.mem ((c.tc : Thread nD τ).loc main_v85) = GATE (PROJ (MODU (m ((c.tc : Thread nD τ).loc main_arg0)) (m ((c.tc : Thread nD τ).loc main_arg1)) (m ((c.tc : Thread nD τ).loc main_arg2)))
        (m ((c.tc : Thread nD τ).loc main_arg3)))
      ∧ r.2.mem ((c.tc : Thread nD τ).loc main_v86) = OAB (MODU (m ((c.tc : Thread nD τ).loc main_arg0)) (m ((c.tc : Thread nD τ).loc main_arg1)) (m ((c.tc : Thread nD τ).loc main_arg2)))
        (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono (fun _ h c => ?_) (Cert.Gdn.Ops.run (F := Ideal) m g)
  obtain ⟨h1, h2, h3, hk⟩ := h c
  exact ⟨h1.trans rfl, h2.trans rfl, h3.trans rfl, hk⟩

end Cert.Gdn.Ref
end
-- ==== Proof.lean ====
module

public import proofs.«01_k».proof.Defs
public import proofs.«01_k».proof.Proof.Gen.ReferenceIdeal
public import proofs.«01_k».proof.Proof.Gen.Reference2Ideal
public import proofs.«01_k».proof.Proof.Gen.Pre_experts_and_blocks_in_range
public import proofs.«01_k».proof.Proof.Gen.Pre_finite_scores_unit_denominators
public import proofs.«01_k».proof.Proof.FoxEqual
public import proofs.«01_k».proof.Proof.FoxRun
public import proofs.«01_k».proof.Proof.RawFrame
public import proofs.«01_k».proof.Proof.ExpRawTab
public import proofs.«01_k».proof.Proof.ExpValue
public import proofs.«01_k».proof.Proof.ExpRun
public import proofs.«01_k».proof.Proof.Gen.Kernel3.Frame
public import proofs.«01_k».proof.Proof.Gen.Reference3Ideal
public import proofs.«01_k».proof.Proof.GdnValue
public import proofs.«01_k».proof.Proof.GdnRun
public import Idealize.ShloMosaic.Lib.Claim

@[expose] public section

noncomputable section

namespace Cert.Proof

open Idealize.ShloMosaic Idealize.SL.Sem

/-- The reference runs, leaves its arguments and ends with every counter at zero. -/
theorem reference_frame : Cert.quiescent_ReferenceIdeal (hReferenceIdeal := Cert.ReferenceIdeal.Gen.facts) := by
  intro m g _
  refine (θ_run Cert.ReferenceIdeal.defs _ _).mono (fun r h => ⟨h, sem_eq_zero_of_no_sems (by decide) r.2⟩)
    (?_ : θ_run _ _ _ fun r => ∀ c : Dev Cert.ReferenceIdeal.nD, _)
  hlo_run

/-- The kernel and the reference end with the same result. -/
theorem algebraic : Cert.algebraic_KernelIdeal_ReferenceIdeal_pre_finite_scores_unit_denominators (hKernelIdeal := Cert.KernelIdeal.Gen.facts)
    (hReferenceIdeal := Cert.ReferenceIdeal.Gen.facts) (hPre_finite_scores_unit_denominators := Cert.Pre_finite_scores_unit_denominators.Gen.facts) := by
  intro m g m' g' hpre hagree
  refine ⟨fun c => Cert.Fox.Ref.REF (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3)), ?_, ?_⟩
  · refine (θ_run _ _ _).mono (fun r h c => ?_) (Cert.Fox.KI.run_main (F := Ideal) m g)
    have k := (h.1 c).1
    exact ⟨(k 4).trans (Cert.Fox.KI.final m hpre c),
      (k 0).trans (((Cert.Fox.KI.dats m 0 c).arrAt_in 0 rfl _).trans (Cert.Fox.KI.A_eq m c 0)),
      (k 1).trans (((Cert.Fox.KI.dats m 0 c).arrAt_in 1 rfl _).trans (Cert.Fox.KI.A_eq m c 1)),
      (k 2).trans (((Cert.Fox.KI.dats m 0 c).arrAt_in 2 rfl _).trans (Cert.Fox.KI.A_eq m c 2)),
      (k 3).trans (((Cert.Fox.KI.dats m 0 c).arrAt_in 3 rfl _).trans (Cert.Fox.KI.A_eq m c 3))⟩
  · refine (θ_run _ _ _).mono (fun r h c => ?_) (Cert.Fox.Ref.run m' g')
    obtain ⟨a0, a1, a2, a3⟩ := hagree c
    refine ⟨(h c).1.trans ?_, (h c).2⟩
    rw [a0, a1, a2, a3]

/-- The experts' kernel runs where the tables are in range, leaves its arguments and ends with every counter at zero. -/
theorem experts_frame_raw : Cert.quiescent_Kernel2 (hKernel2 := Cert.Kernel2.Gen.facts)
    (hPre_experts_and_blocks_in_range := Cert.Pre_experts_and_blocks_in_range.Gen.facts) := by
  intro m g hpre
  have h := Cert.Experts.Pre.parts _ _ _ _ _ _ (hpre Cert.Experts.KB.dev0)
  exact Cert.Experts.KB.frame_of (Cert.Experts.KB.adm m h) m g (Cert.Experts.KB.adm_tab m h)

theorem experts_frame : Cert.quiescent_Kernel2Ideal (hKernel2Ideal := Cert.Kernel2Ideal.Gen.facts)
    (hPre_experts_and_blocks_in_range := Cert.Pre_experts_and_blocks_in_range.Gen.facts) := by
  intro m g hpre
  have h := Cert.Experts.Pre.parts _ _ _ _ _ _ (hpre Cert.Experts.KI.dev0)
  exact Cert.Experts.KI.frame_of (Cert.Experts.KI.adm m h) m g (Cert.Experts.KI.adm_tab m h)

theorem experts_reference_frame : Cert.quiescent_Reference2Ideal (hReference2Ideal := Cert.Reference2Ideal.Gen.facts) := by
  intro m g _
  refine (θ_run Cert.Reference2Ideal.defs _ _).mono (fun r h => ⟨h, sem_eq_zero_of_no_sems (by decide) r.2⟩)
    (?_ : θ_run _ _ _ fun r => ∀ c : Dev Cert.Reference2Ideal.nD, _)
  hlo_run

/-- The experts' kernel and its reference end with the same result. -/
theorem experts_algebraic : Cert.algebraic_Kernel2Ideal_Reference2Ideal (hKernel2Ideal := Cert.Kernel2Ideal.Gen.facts)
    (hReference2Ideal := Cert.Reference2Ideal.Gen.facts) (hPre_experts_and_blocks_in_range := Cert.Pre_experts_and_blocks_in_range.Gen.facts) := by
  intro m g m' g' hpre hagree
  have h := Cert.Experts.Pre.parts _ _ _ _ _ _ (hpre Cert.Experts.KI.dev0)
  have hp := Cert.Experts.KI.adm_tab m h
  refine ⟨fun c => Cert.Experts.Ref.REF (m ((c.tc : Thread _ _).loc Cert.Kernel2Ideal.main_arg0)) (m ((c.tc : Thread _ _).loc Cert.Kernel2Ideal.main_arg1)) (m ((c.tc : Thread _ _).loc Cert.Kernel2Ideal.main_arg2)) (m ((c.tc : Thread _ _).loc Cert.Kernel2Ideal.main_arg3)) (m ((c.tc : Thread _ _).loc Cert.Kernel2Ideal.main_arg4)) (m ((c.tc : Thread _ _).loc Cert.Kernel2Ideal.main_arg5)), ?_, ?_⟩
  · refine (θ_run _ _ _).mono (fun r k c => ?_) (Cert.Experts.KI.run_main (F := Ideal) (Cert.Experts.KI.adm m h) m g hp)
    have kw := (k.1 c).1
    have kt := (k.1 c).2
    exact ⟨(kw (4 : Fin 5)).trans (Cert.Experts.KI.final (Cert.Experts.KI.adm m h) m c h (hp c 0).symm (hp c 1).symm),
      (kt 0).trans (hp c 0).symm, (kt 1).trans (hp c 1).symm,
      (kw (0 : Fin 5)).trans ((Cert.Experts.KI.dats (Cert.Experts.KI.adm m h) m 0 c).arrAt_in (0 : Fin 5) rfl _),
      (kw (1 : Fin 5)).trans ((Cert.Experts.KI.dats (Cert.Experts.KI.adm m h) m 0 c).arrAt_in (1 : Fin 5) rfl _),
      (kw (2 : Fin 5)).trans ((Cert.Experts.KI.dats (Cert.Experts.KI.adm m h) m 0 c).arrAt_in (2 : Fin 5) rfl _),
      (kw (3 : Fin 5)).trans ((Cert.Experts.KI.dats (Cert.Experts.KI.adm m h) m 0 c).arrAt_in (3 : Fin 5) rfl _)⟩
  · refine (θ_run _ _ _).mono (fun r k c => ?_) (Cert.Experts.Ref.run m' g')
    obtain ⟨a0, a1, a2, a3, a4, a5⟩ := hagree c
    refine ⟨(k c).1.trans ?_, (k c).2⟩
    rw [a0, a1, a2, a3, a4, a5]

theorem gdn_reference_frame : Cert.quiescent_Reference3Ideal (hReference3Ideal := Cert.Reference3Ideal.Gen.facts) := by
  intro m g _
  refine (θ_run Cert.Reference3Ideal.defs _ _).mono (fun r h => ⟨h, sem_eq_zero_of_no_sems (by decide) r.2⟩)
    (?_ : θ_run _ _ _ fun r => ∀ c : Dev Cert.Reference3Ideal.nD, _)
  exact (θ_run _ _ _).mono (fun r h c => (h c).2.2.2) (Cert.Gdn.Ref.run m g)

/-- The delta rule's input call and its reference end with the same three results. -/
theorem gdn_algebraic : Cert.algebraic_Kernel3Ideal_Reference3Ideal (hKernel3Ideal := Cert.Kernel3Ideal.Gen.facts) (hReference3Ideal := Cert.Reference3Ideal.Gen.facts) := by
  intro m g m' g' _ hagree
  refine ⟨fun c => Cert.Gdn.Ref.QKV (Cert.Gdn.Ref.SILU (Cert.Gdn.Ref.CONV (Cert.Gdn.Ref.PAST (Cert.Gdn.KI.RP m c)) (m ((c.tc : Thread _ _).loc Cert.Kernel3Ideal.main_arg5)))),
    fun c => Cert.Gdn.Ref.GATE (Cert.Gdn.KI.RP m c), fun c => Cert.Gdn.Ref.OAB (Cert.Gdn.KI.RH m c) (m ((c.tc : Thread _ _).loc Cert.Kernel3Ideal.main_arg4)), ?_, ?_⟩
  · refine (θ_run _ _ _).mono (fun r h c => ?_) (Cert.Kernel3Ideal.Value.run_blocks (F := Ideal) m g)
    obtain ⟨h0, h1, h2, hk⟩ := h c
    exact ⟨h0.trans (Cert.Gdn.KI.final6 m c), h1.trans (Cert.Gdn.KI.final7 m c), h2.trans (Cert.Gdn.KI.final8 m c), hk⟩
  · refine (θ_run _ _ _).mono (fun r h c => ?_) (Cert.Gdn.Ref.run m' g')
    obtain ⟨a0, a1, a2, a3, a4, a5⟩ := hagree c
    obtain ⟨h0, h1, h2, hk⟩ := h c
    refine ⟨h0.trans ?_, h1.trans ?_, h2.trans ?_, hk⟩
    · rw [a0, a1, a2, a3, a5]
    · rw [a0, a1, a2, a3]
    · rw [a0, a1, a2, a4]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite_scores_unit_denominators.Gen.facts, Cert.Pre_experts_and_blocks_in_range.Gen.facts,
    fun m g _ => Cert.Fox.KB.frame_run m g, fun m g _ => Cert.Fox.KI.frame_run m g, fun m g _ => Cert.Fox.KI.frame_run m g,
    fun m g _ => reference_frame m g trivial, fun m g _ => reference_frame m g trivial, experts_frame_raw, experts_frame, experts_reference_frame,
    fun m g _ => experts_reference_frame m g trivial,
    fun m g _ => Cert.Kernel3.Gen.frame m g, fun m g _ => Cert.Kernel3Ideal.Gen.frame m g, gdn_reference_frame,
    trivial, algebraic, trivial, experts_algebraic, trivial, gdn_algebraic⟩

end Cert.Proof

end
